-- ==== Defs.lean ====
def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_Smix (m : (ℓ : Loc Cert.Smix.nD Cert.Smix.τ Cert.Smix.sig) → Buf (Elt Bits) ℓ) : Prop :=
  True

def Pre_SmixIdeal (m : (ℓ : Loc Cert.SmixIdeal.nD Cert.SmixIdeal.τ Cert.SmixIdeal.sig) → Buf (Elt Ideal) ℓ) : Prop :=
  True

def Pre_SmixIdeal_sample_finite [hPre_sample_finite : Cert.Pre_sample_finite.Facts] (m : (ℓ : Loc Cert.SmixIdeal.nD Cert.SmixIdeal.τ Cert.SmixIdeal.sig) → Buf (Elt Ideal) ℓ) : Prop :=
  ∀ c : Dev Cert.SmixIdeal.nD,
    (Cert.Pre_sample_finite.fn (F := Ideal) (m ((c.tc : Thread Cert.SmixIdeal.nD Cert.SmixIdeal.τ).loc Cert.SmixIdeal.main_arg0)) (m ((c.tc : Thread Cert.SmixIdeal.nD Cert.SmixIdeal.τ).loc Cert.SmixIdeal.main_arg1)) (m ((c.tc : Thread Cert.SmixIdeal.nD Cert.SmixIdeal.τ).loc Cert.SmixIdeal.main_arg2)) (m ((c.tc : Thread Cert.SmixIdeal.nD Cert.SmixIdeal.τ).loc Cert.SmixIdeal.main_arg3)) (m ((c.tc : Thread Cert.SmixIdeal.nD Cert.SmixIdeal.τ).loc Cert.SmixIdeal.main_arg4)) (m ((c.tc : Thread Cert.SmixIdeal.nD Cert.SmixIdeal.τ).loc Cert.SmixIdeal.main_arg5)) (m ((c.tc : Thread Cert.SmixIdeal.nD Cert.SmixIdeal.τ).loc Cert.SmixIdeal.main_arg6)) (m ((c.tc : Thread Cert.SmixIdeal.nD Cert.SmixIdeal.τ).loc Cert.SmixIdeal.main_arg7)) (m ((c.tc : Thread Cert.SmixIdeal.nD Cert.SmixIdeal.τ).loc Cert.SmixIdeal.main_arg8)) (m ((c.tc : Thread Cert.SmixIdeal.nD Cert.SmixIdeal.τ).loc Cert.SmixIdeal.main_arg9)) (m ((c.tc : Thread Cert.SmixIdeal.nD Cert.SmixIdeal.τ).loc Cert.SmixIdeal.main_arg10)) (m ((c.tc : Thread Cert.SmixIdeal.nD Cert.SmixIdeal.τ).loc Cert.SmixIdeal.main_arg11)) (m ((c.tc : Thread Cert.SmixIdeal.nD Cert.SmixIdeal.τ).loc Cert.SmixIdeal.main_arg12)) (m ((c.tc : Thread Cert.SmixIdeal.nD Cert.SmixIdeal.τ).loc Cert.SmixIdeal.main_arg13))) = (fun _ => 1#1)

def Pre_SmixReferenceIdeal (m : (ℓ : Loc Cert.SmixReferenceIdeal.nD Cert.SmixReferenceIdeal.τ Cert.SmixReferenceIdeal.sig) → Buf (Elt Ideal) ℓ) : Prop :=
  True

def Pre_SmixReferenceIdeal_sample_finite [hPre_sample_finite : Cert.Pre_sample_finite.Facts] (m : (ℓ : Loc Cert.SmixReferenceIdeal.nD Cert.SmixReferenceIdeal.τ Cert.SmixReferenceIdeal.sig) → Buf (Elt Ideal) ℓ) : Prop :=
  ∀ c : Dev Cert.SmixReferenceIdeal.nD,
    (Cert.Pre_sample_finite.fn (F := Ideal) (m ((c.tc : Thread Cert.SmixReferenceIdeal.nD Cert.SmixReferenceIdeal.τ).loc Cert.SmixReferenceIdeal.main_arg0)) (m ((c.tc : Thread Cert.SmixReferenceIdeal.nD Cert.SmixReferenceIdeal.τ).loc Cert.SmixReferenceIdeal.main_arg1)) (m ((c.tc : Thread Cert.SmixReferenceIdeal.nD Cert.SmixReferenceIdeal.τ).loc Cert.SmixReferenceIdeal.main_arg2)) (m ((c.tc : Thread Cert.SmixReferenceIdeal.nD Cert.SmixReferenceIdeal.τ).loc Cert.SmixReferenceIdeal.main_arg3)) (m ((c.tc : Thread Cert.SmixReferenceIdeal.nD Cert.SmixReferenceIdeal.τ).loc Cert.SmixReferenceIdeal.main_arg4)) (m ((c.tc : Thread Cert.SmixReferenceIdeal.nD Cert.SmixReferenceIdeal.τ).loc Cert.SmixReferenceIdeal.main_arg5)) (m ((c.tc : Thread Cert.SmixReferenceIdeal.nD Cert.SmixReferenceIdeal.τ).loc Cert.SmixReferenceIdeal.main_arg6)) (m ((c.tc : Thread Cert.SmixReferenceIdeal.nD Cert.SmixReferenceIdeal.τ).loc Cert.SmixReferenceIdeal.main_arg7)) (m ((c.tc : Thread Cert.SmixReferenceIdeal.nD Cert.SmixReferenceIdeal.τ).loc Cert.SmixReferenceIdeal.main_arg8)) (m ((c.tc : Thread Cert.SmixReferenceIdeal.nD Cert.SmixReferenceIdeal.τ).loc Cert.SmixReferenceIdeal.main_arg9)) (m ((c.tc : Thread Cert.SmixReferenceIdeal.nD Cert.SmixReferenceIdeal.τ).loc Cert.SmixReferenceIdeal.main_arg10)) (m ((c.tc : Thread Cert.SmixReferenceIdeal.nD Cert.SmixReferenceIdeal.τ).loc Cert.SmixReferenceIdeal.main_arg11)) (m ((c.tc : Thread Cert.SmixReferenceIdeal.nD Cert.SmixReferenceIdeal.τ).loc Cert.SmixReferenceIdeal.main_arg12)) (m ((c.tc : Thread Cert.SmixReferenceIdeal.nD Cert.SmixReferenceIdeal.τ).loc Cert.SmixReferenceIdeal.main_arg13))) = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_gates_finite [hPre_gates_finite : Cert.Pre_gates_finite.Facts] (m : (ℓ : Loc Cert.MixIdeal.nD Cert.MixIdeal.τ Cert.MixIdeal.sig) → Buf (Elt Ideal) ℓ) : Prop :=
  ∀ c : Dev Cert.MixIdeal.nD,
    (Cert.Pre_gates_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15))) = (fun _ => 1#1)

def Pre_MixReferenceIdeal (m : (ℓ : Loc Cert.MixReferenceIdeal.nD Cert.MixReferenceIdeal.τ Cert.MixReferenceIdeal.sig) → Buf (Elt Ideal) ℓ) : Prop :=
  True

def Pre_MixReferenceIdeal_gates_finite [hPre_gates_finite : Cert.Pre_gates_finite.Facts] (m : (ℓ : Loc Cert.MixReferenceIdeal.nD Cert.MixReferenceIdeal.τ Cert.MixReferenceIdeal.sig) → Buf (Elt Ideal) ℓ) : Prop :=
  ∀ c : Dev Cert.MixReferenceIdeal.nD,
    (Cert.Pre_gates_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8)) (m ((c.tc : Thread Cert.MixReferenceIdeal.nD Cert.MixReferenceIdeal.τ).loc Cert.MixReferenceIdeal.main_arg9)) (m ((c.tc : Thread Cert.MixReferenceIdeal.nD Cert.MixReferenceIdeal.τ).loc Cert.MixReferenceIdeal.main_arg10)) (m ((c.tc : Thread Cert.MixReferenceIdeal.nD Cert.MixReferenceIdeal.τ).loc Cert.MixReferenceIdeal.main_arg11)) (m ((c.tc : Thread Cert.MixReferenceIdeal.nD Cert.MixReferenceIdeal.τ).loc Cert.MixReferenceIdeal.main_arg12)) (m ((c.tc : Thread Cert.MixReferenceIdeal.nD Cert.MixReferenceIdeal.τ).loc Cert.MixReferenceIdeal.main_arg13)) (m ((c.tc : Thread Cert.MixReferenceIdeal.nD Cert.MixReferenceIdeal.τ).loc Cert.MixReferenceIdeal.main_arg14)) (m ((c.tc : Thread Cert.MixReferenceIdeal.nD Cert.MixReferenceIdeal.τ).loc Cert.MixReferenceIdeal.main_arg15))) = (fun _ => 1#1)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4)
      ∧ r.2.mem ((c.tc : Thread Cert.MlpReferenceIdeal.nD Cert.MlpReferenceIdeal.τ).loc Cert.MlpReferenceIdeal.main_arg5) = m ((c.tc : Thread Cert.MlpReferenceIdeal.nD Cert.MlpReferenceIdeal.τ).loc Cert.MlpReferenceIdeal.main_arg5)
      ∧ r.2.mem ((c.tc : Thread Cert.MlpReferenceIdeal.nD Cert.MlpReferenceIdeal.τ).loc Cert.MlpReferenceIdeal.main_arg6) = m ((c.tc : Thread Cert.MlpReferenceIdeal.nD Cert.MlpReferenceIdeal.τ).loc Cert.MlpReferenceIdeal.main_arg6)
      ∧ r.2.mem ((c.tc : Thread Cert.MlpReferenceIdeal.nD Cert.MlpReferenceIdeal.τ).loc Cert.MlpReferenceIdeal.main_arg7) = m ((c.tc : Thread Cert.MlpReferenceIdeal.nD Cert.MlpReferenceIdeal.τ).loc Cert.MlpReferenceIdeal.main_arg7))
      ∧ r.2.sem = fun _ => 0)

def quiescent_Smix [hSmix : Cert.Smix.Facts] : Prop :=
  ∀ (m : (ℓ : Loc Cert.Smix.nD Cert.Smix.τ Cert.Smix.sig) → Buf (Elt Bits) ℓ) (g : Dev Cert.Smix.nD → PrngReg), Pre_Smix m →
    θ_run (Cert.Smix.defs (F := Bits)) (onTc (τ := Cert.Smix.τ) (Cert.Smix.main (F := Bits))) ⟨m, fun _ => 0, g⟩ (fun r => (∀ c : Dev Cert.Smix.nD,
      r.2.mem ((c.tc : Thread Cert.Smix.nD Cert.Smix.τ).loc Cert.Smix.main_arg0) = m ((c.tc : Thread Cert.Smix.nD Cert.Smix.τ).loc Cert.Smix.main_arg0)
      ∧ r.2.mem ((c.tc : Thread Cert.Smix.nD Cert.Smix.τ).loc Cert.Smix.main_arg1) = m ((c.tc : Thread Cert.Smix.nD Cert.Smix.τ).loc Cert.Smix.main_arg1)
      ∧ r.2.mem ((c.tc : Thread Cert.Smix.nD Cert.Smix.τ).loc Cert.Smix.main_arg2) = m ((c.tc : Thread Cert.Smix.nD Cert.Smix.τ).loc Cert.Smix.main_arg2)
      ∧ r.2.mem ((c.tc : Thread Cert.Smix.nD Cert.Smix.τ).loc Cert.Smix.main_arg3) = m ((c.tc : Thread Cert.Smix.nD Cert.Smix.τ).loc Cert.Smix.main_arg3)
      ∧ r.2.mem ((c.tc : Thread Cert.Smix.nD Cert.Smix.τ).loc Cert.Smix.main_arg4) = m ((c.tc : Thread Cert.Smix.nD Cert.Smix.τ).loc Cert.Smix.main_arg4)
      ∧ r.2.mem ((c.tc : Thread Cert.Smix.nD Cert.Smix.τ).loc Cert.Smix.main_arg5) = m ((c.tc : Thread Cert.Smix.nD Cert.Smix.τ).loc Cert.Smix.main_arg5)
      ∧ r.2.mem ((c.tc : Thread Cert.Smix.nD Cert.Smix.τ).loc Cert.Smix.main_arg6) = m ((c.tc : Thread Cert.Smix.nD Cert.Smix.τ).loc Cert.Smix.main_arg6)
      ∧ r.2.mem ((c.tc : Thread Cert.Smix.nD Cert.Smix.τ).loc Cert.Smix.main_arg7) = m ((c.tc : Thread Cert.Smix.nD Cert.Smix.τ).loc Cert.Smix.main_arg7)
      ∧ r.2.mem ((c.tc : Thread Cert.Smix.nD Cert.Smix.τ).loc Cert.Smix.main_arg8) = m ((c.tc : Thread Cert.Smix.nD Cert.Smix.τ).loc Cert.Smix.main_arg8)
      ∧ r.2.mem ((c.tc : Thread Cert.Smix.nD Cert.Smix.τ).loc Cert.Smix.main_arg9) = m ((c.tc : Thread Cert.Smix.nD Cert.Smix.τ).loc Cert.Smix.main_arg9)
      ∧ r.2.mem ((c.tc : Thread Cert.Smix.nD Cert.Smix.τ).loc Cert.Smix.main_arg10) = m ((c.tc : Thread Cert.Smix.nD Cert.Smix.τ).loc Cert.Smix.main_arg10)
      ∧ r.2.mem ((c.tc : Thread Cert.Smix.nD Cert.Smix.τ).loc Cert.Smix.main_arg11) = m ((c.tc : Thread Cert.Smix.nD Cert.Smix.τ).loc Cert.Smix.main_arg11)
      ∧ r.2.mem ((c.tc : Thread Cert.Smix.nD Cert.Smix.τ).loc Cert.Smix.main_arg12) = m ((c.tc : Thread Cert.Smix.nD Cert.Smix.τ).loc Cert.Smix.main_arg12)
      ∧ r.2.mem ((c.tc : Thread Cert.Smix.nD Cert.Smix.τ).loc Cert.Smix.main_arg13) = m ((c.tc : Thread Cert.Smix.nD Cert.Smix.τ).loc Cert.Smix.main_arg13))
      ∧ r.2.sem = fun _ => 0)

def quiescent_SmixIdeal [hSmixIdeal : Cert.SmixIdeal.Facts] : Prop :=
  ∀ (m : (ℓ : Loc Cert.SmixIdeal.nD Cert.SmixIdeal.τ Cert.SmixIdeal.sig) → Buf (Elt Ideal) ℓ) (g : Dev Cert.SmixIdeal.nD → PrngReg), Pre_SmixIdeal m →
    θ_run (Cert.SmixIdeal.defs (F := Ideal)) (onTc (τ := Cert.SmixIdeal.τ) (Cert.SmixIdeal.main (F := Ideal))) ⟨m, fun _ => 0, g⟩ (fun r => (∀ c : Dev Cert.SmixIdeal.nD,
      r.2.mem ((c.tc : Thread Cert.SmixIdeal.nD Cert.SmixIdeal.τ).loc Cert.SmixIdeal.main_arg0) = m ((c.tc : Thread Cert.SmixIdeal.nD Cert.SmixIdeal.τ).loc Cert.SmixIdeal.main_arg0)
      ∧ r.2.mem ((c.tc : Thread Cert.SmixIdeal.nD Cert.SmixIdeal.τ).loc Cert.SmixIdeal.main_arg1) = m ((c.tc : Thread Cert.SmixIdeal.nD Cert.SmixIdeal.τ).loc Cert.SmixIdeal.main_arg1)
      ∧ r.2.mem ((c.tc : Thread Cert.SmixIdeal.nD Cert.SmixIdeal.τ).loc Cert.SmixIdeal.main_arg2) = m ((c.tc : Thread Cert.SmixIdeal.nD Cert.SmixIdeal.τ).loc Cert.SmixIdeal.main_arg2)
      ∧ r.2.mem ((c.tc : Thread Cert.SmixIdeal.nD Cert.SmixIdeal.τ).loc Cert.SmixIdeal.main_arg3) = m ((c.tc : Thread Cert.SmixIdeal.nD Cert.SmixIdeal.τ).loc Cert.SmixIdeal.main_arg3)
      ∧ r.2.mem ((c.tc : Thread Cert.SmixIdeal.nD Cert.SmixIdeal.τ).loc Cert.SmixIdeal.main_arg4) = m ((c.tc : Thread Cert.SmixIdeal.nD Cert.SmixIdeal.τ).loc Cert.SmixIdeal.main_arg4)
      ∧ r.2.mem ((c.tc : Thread Cert.SmixIdeal.nD Cert.SmixIdeal.τ).loc Cert.SmixIdeal.main_arg5) = m ((c.tc : Thread Cert.SmixIdeal.nD Cert.SmixIdeal.τ).loc Cert.SmixIdeal.main_arg5)
      ∧ r.2.mem ((c.tc : Thread Cert.SmixIdeal.nD Cert.SmixIdeal.τ).loc Cert.SmixIdeal.main_arg6) = m ((c.tc : Thread Cert.SmixIdeal.nD Cert.SmixIdeal.τ).loc Cert.SmixIdeal.main_arg6)
      ∧ r.2.mem ((c.tc : Thread Cert.SmixIdeal.nD Cert.SmixIdeal.τ).loc Cert.SmixIdeal.main_arg7) = m ((c.tc : Thread Cert.SmixIdeal.nD Cert.SmixIdeal.τ).loc Cert.SmixIdeal.main_arg7)
      ∧ r.2.mem ((c.tc : Thread Cert.SmixIdeal.nD Cert.SmixIdeal.τ).loc Cert.SmixIdeal.main_arg8) = m ((c.tc : Thread Cert.SmixIdeal.nD Cert.SmixIdeal.τ).loc Cert.SmixIdeal.main_arg8)
      ∧ r.2.mem ((c.tc : Thread Cert.SmixIdeal.nD Cert.SmixIdeal.τ).loc Cert.SmixIdeal.main_arg9) = m ((c.tc : Thread Cert.SmixIdeal.nD Cert.SmixIdeal.τ).loc Cert.SmixIdeal.main_arg9)
      ∧ r.2.mem ((c.tc : Thread Cert.SmixIdeal.nD Cert.SmixIdeal.τ).loc Cert.SmixIdeal.main_arg10) = m ((c.tc : Thread Cert.SmixIdeal.nD Cert.SmixIdeal.τ).loc Cert.SmixIdeal.main_arg10)
      ∧ r.2.mem ((c.tc : Thread Cert.SmixIdeal.nD Cert.SmixIdeal.τ).loc Cert.SmixIdeal.main_arg11) = m ((c.tc : Thread Cert.SmixIdeal.nD Cert.SmixIdeal.τ).loc Cert.SmixIdeal.main_arg11)
      ∧ r.2.mem ((c.tc : Thread Cert.SmixIdeal.nD Cert.SmixIdeal.τ).loc Cert.SmixIdeal.main_arg12) = m ((c.tc : Thread Cert.SmixIdeal.nD Cert.SmixIdeal.τ).loc Cert.SmixIdeal.main_arg12)
      ∧ r.2.mem ((c.tc : Thread Cert.SmixIdeal.nD Cert.SmixIdeal.τ).loc Cert.SmixIdeal.main_arg13) = m ((c.tc : Thread Cert.SmixIdeal.nD Cert.SmixIdeal.τ).loc Cert.SmixIdeal.main_arg13))
      ∧ r.2.sem = fun _ => 0)

def quiescent_SmixIdeal_pre_sample_finite [hSmixIdeal : Cert.SmixIdeal.Facts] [hPre_sample_finite : Cert.Pre_sample_finite.Facts] : Prop :=
  ∀ (m : (ℓ : Loc Cert.SmixIdeal.nD Cert.SmixIdeal.τ Cert.SmixIdeal.sig) → Buf (Elt Ideal) ℓ) (g : Dev Cert.SmixIdeal.nD → PrngReg), Pre_SmixIdeal_sample_finite m →
    θ_run (Cert.SmixIdeal.defs (F := Ideal)) (onTc (τ := Cert.SmixIdeal.τ) (Cert.SmixIdeal.main (F := Ideal))) ⟨m, fun _ => 0, g⟩ (fun r => (∀ c : Dev Cert.SmixIdeal.nD,
      r.2.mem ((c.tc : Thread Cert.SmixIdeal.nD Cert.SmixIdeal.τ).loc Cert.SmixIdeal.main_arg0) = m ((c.tc : Thread Cert.SmixIdeal.nD Cert.SmixIdeal.τ).loc Cert.SmixIdeal.main_arg0)
      ∧ r.2.mem ((c.tc : Thread Cert.SmixIdeal.nD Cert.SmixIdeal.τ).loc Cert.SmixIdeal.main_arg1) = m ((c.tc : Thread Cert.SmixIdeal.nD Cert.SmixIdeal.τ).loc Cert.SmixIdeal.main_arg1)
      ∧ r.2.mem ((c.tc : Thread Cert.SmixIdeal.nD Cert.SmixIdeal.τ).loc Cert.SmixIdeal.main_arg2) = m ((c.tc : Thread Cert.SmixIdeal.nD Cert.SmixIdeal.τ).loc Cert.SmixIdeal.main_arg2)
      ∧ r.2.mem ((c.tc : Thread Cert.SmixIdeal.nD Cert.SmixIdeal.τ).loc Cert.SmixIdeal.main_arg3) = m ((c.tc : Thread Cert.SmixIdeal.nD Cert.SmixIdeal.τ).loc Cert.SmixIdeal.main_arg3)
      ∧ r.2.mem ((c.tc : Thread Cert.SmixIdeal.nD Cert.SmixIdeal.τ).loc Cert.SmixIdeal.main_arg4) = m ((c.tc : Thread Cert.SmixIdeal.nD Cert.SmixIdeal.τ).loc Cert.SmixIdeal.main_arg4)
      ∧ r.2.mem ((c.tc : Thread Cert.SmixIdeal.nD Cert.SmixIdeal.τ).loc Cert.SmixIdeal.main_arg5) = m ((c.tc : Thread Cert.SmixIdeal.nD Cert.SmixIdeal.τ).loc Cert.SmixIdeal.main_arg5)
      ∧ r.2.mem ((c.tc : Thread Cert.SmixIdeal.nD Cert.SmixIdeal.τ).loc Cert.SmixIdeal.main_arg6) = m ((c.tc : Thread Cert.SmixIdeal.nD Cert.SmixIdeal.τ).loc Cert.SmixIdeal.main_arg6)
      ∧ r.2.mem ((c.tc : Thread Cert.SmixIdeal.nD Cert.SmixIdeal.τ).loc Cert.SmixIdeal.main_arg7) = m ((c.tc : Thread Cert.SmixIdeal.nD Cert.SmixIdeal.τ).loc Cert.SmixIdeal.main_arg7)
      ∧ r.2.mem ((c.tc : Thread Cert.SmixIdeal.nD Cert.SmixIdeal.τ).loc Cert.SmixIdeal.main_arg8) = m ((c.tc : Thread Cert.SmixIdeal.nD Cert.SmixIdeal.τ).loc Cert.SmixIdeal.main_arg8)
      ∧ r.2.mem ((c.tc : Thread Cert.SmixIdeal.nD Cert.SmixIdeal.τ).loc Cert.SmixIdeal.main_arg9) = m ((c.tc : Thread Cert.SmixIdeal.nD Cert.SmixIdeal.τ).loc Cert.SmixIdeal.main_arg9)
      ∧ r.2.mem ((c.tc : Thread Cert.SmixIdeal.nD Cert.SmixIdeal.τ).loc Cert.SmixIdeal.main_arg10) = m ((c.tc : Thread Cert.SmixIdeal.nD Cert.SmixIdeal.τ).loc Cert.SmixIdeal.main_arg10)
      ∧ r.2.mem ((c.tc : Thread Cert.SmixIdeal.nD Cert.SmixIdeal.τ).loc Cert.SmixIdeal.main_arg11) = m ((c.tc : Thread Cert.SmixIdeal.nD Cert.SmixIdeal.τ).loc Cert.SmixIdeal.main_arg11)
      ∧ r.2.mem ((c.tc : Thread Cert.SmixIdeal.nD Cert.SmixIdeal.τ).loc Cert.SmixIdeal.main_arg12) = m ((c.tc : Thread Cert.SmixIdeal.nD Cert.SmixIdeal.τ).loc Cert.SmixIdeal.main_arg12)
      ∧ r.2.mem ((c.tc : Thread Cert.SmixIdeal.nD Cert.SmixIdeal.τ).loc Cert.SmixIdeal.main_arg13) = m ((c.tc : Thread Cert.SmixIdeal.nD Cert.SmixIdeal.τ).loc Cert.SmixIdeal.main_arg13))
      ∧ r.2.sem = fun _ => 0)

def quiescent_SmixReferenceIdeal [hSmixReferenceIdeal : Cert.SmixReferenceIdeal.Facts] : Prop :=
  ∀ (m : (ℓ : Loc Cert.SmixReferenceIdeal.nD Cert.SmixReferenceIdeal.τ Cert.SmixReferenceIdeal.sig) → Buf (Elt Ideal) ℓ) (g : Dev Cert.SmixReferenceIdeal.nD → PrngReg), Pre_SmixReferenceIdeal m →
    θ_run (Cert.SmixReferenceIdeal.defs (F := Ideal)) (onTc (τ := Cert.SmixReferenceIdeal.τ) (Cert.SmixReferenceIdeal.main (F := Ideal))) ⟨m, fun _ => 0, g⟩ (fun r => (∀ c : Dev Cert.SmixReferenceIdeal.nD,
      r.2.mem ((c.tc : Thread Cert.SmixReferenceIdeal.nD Cert.SmixReferenceIdeal.τ).loc Cert.SmixReferenceIdeal.main_arg0) = m ((c.tc : Thread Cert.SmixReferenceIdeal.nD Cert.SmixReferenceIdeal.τ).loc Cert.SmixReferenceIdeal.main_arg0)
      ∧ r.2.mem ((c.tc : Thread Cert.SmixReferenceIdeal.nD Cert.SmixReferenceIdeal.τ).loc Cert.SmixReferenceIdeal.main_arg1) = m ((c.tc : Thread Cert.SmixReferenceIdeal.nD Cert.SmixReferenceIdeal.τ).loc Cert.SmixReferenceIdeal.main_arg1)
      ∧ r.2.mem ((c.tc : Thread Cert.SmixReferenceIdeal.nD Cert.SmixReferenceIdeal.τ).loc Cert.SmixReferenceIdeal.main_arg2) = m ((c.tc : Thread Cert.SmixReferenceIdeal.nD Cert.SmixReferenceIdeal.τ).loc Cert.SmixReferenceIdeal.main_arg2)
      ∧ r.2.mem ((c.tc : Thread Cert.SmixReferenceIdeal.nD Cert.SmixReferenceIdeal.τ).loc Cert.SmixReferenceIdeal.main_arg3) = m ((c.tc : Thread Cert.SmixReferenceIdeal.nD Cert.SmixReferenceIdeal.τ).loc Cert.SmixReferenceIdeal.main_arg3)
      ∧ r.2.mem ((c.tc : Thread Cert.SmixReferenceIdeal.nD Cert.SmixReferenceIdeal.τ).loc Cert.SmixReferenceIdeal.main_arg4) = m ((c.tc : Thread Cert.SmixReferenceIdeal.nD Cert.SmixReferenceIdeal.τ).loc Cert.SmixReferenceIdeal.main_arg4)
      ∧ r.2.mem ((c.tc : Thread Cert.SmixReferenceIdeal.nD Cert.SmixReferenceIdeal.τ).loc Cert.SmixReferenceIdeal.main_arg5) = m ((c.tc : Thread Cert.SmixReferenceIdeal.nD Cert.SmixReferenceIdeal.τ).loc Cert.SmixReferenceIdeal.main_arg5)
      ∧ r.2.mem ((c.tc : Thread Cert.SmixReferenceIdeal.nD Cert.SmixReferenceIdeal.τ).loc Cert.SmixReferenceIdeal.main_arg6) = m ((c.tc : Thread Cert.SmixReferenceIdeal.nD Cert.SmixReferenceIdeal.τ).loc Cert.SmixReferenceIdeal.main_arg6)
      ∧ r.2.mem ((c.tc : Thread Cert.SmixReferenceIdeal.nD Cert.SmixReferenceIdeal.τ).loc Cert.SmixReferenceIdeal.main_arg7) = m ((c.tc : Thread Cert.SmixReferenceIdeal.nD Cert.SmixReferenceIdeal.τ).loc Cert.SmixReferenceIdeal.main_arg7)
      ∧ r.2.mem ((c.tc : Thread Cert.SmixReferenceIdeal.nD Cert.SmixReferenceIdeal.τ).loc Cert.SmixReferenceIdeal.main_arg8) = m ((c.tc : Thread Cert.SmixReferenceIdeal.nD Cert.SmixReferenceIdeal.τ).loc Cert.SmixReferenceIdeal.main_arg8)
      ∧ r.2.mem ((c.tc : Thread Cert.SmixReferenceIdeal.nD Cert.SmixReferenceIdeal.τ).loc Cert.SmixReferenceIdeal.main_arg9) = m ((c.tc : Thread Cert.SmixReferenceIdeal.nD Cert.SmixReferenceIdeal.τ).loc Cert.SmixReferenceIdeal.main_arg9)
      ∧ r.2.mem ((c.tc : Thread Cert.SmixReferenceIdeal.nD Cert.SmixReferenceIdeal.τ).loc Cert.SmixReferenceIdeal.main_arg10) = m ((c.tc : Thread Cert.SmixReferenceIdeal.nD Cert.SmixReferenceIdeal.τ).loc Cert.SmixReferenceIdeal.main_arg10)
      ∧ r.2.mem ((c.tc : Thread Cert.SmixReferenceIdeal.nD Cert.SmixReferenceIdeal.τ).loc Cert.SmixReferenceIdeal.main_arg11) = m ((c.tc : Thread Cert.SmixReferenceIdeal.nD Cert.SmixReferenceIdeal.τ).loc Cert.SmixReferenceIdeal.main_arg11)
      ∧ r.2.mem ((c.tc : Thread Cert.SmixReferenceIdeal.nD Cert.SmixReferenceIdeal.τ).loc Cert.SmixReferenceIdeal.main_arg12) = m ((c.tc : Thread Cert.SmixReferenceIdeal.nD Cert.SmixReferenceIdeal.τ).loc Cert.SmixReferenceIdeal.main_arg12)
      ∧ r.2.mem ((c.tc : Thread Cert.SmixReferenceIdeal.nD Cert.SmixReferenceIdeal.τ).loc Cert.SmixReferenceIdeal.main_arg13) = m ((c.tc : Thread Cert.SmixReferenceIdeal.nD Cert.SmixReferenceIdeal.τ).loc Cert.SmixReferenceIdeal.main_arg13))
      ∧ r.2.sem = fun _ => 0)

def quiescent_SmixReferenceIdeal_pre_sample_finite [hSmixReferenceIdeal : Cert.SmixReferenceIdeal.Facts] [hPre_sample_finite : Cert.Pre_sample_finite.Facts] : Prop :=
  ∀ (m : (ℓ : Loc Cert.SmixReferenceIdeal.nD Cert.SmixReferenceIdeal.τ Cert.SmixReferenceIdeal.sig) → Buf (Elt Ideal) ℓ) (g : Dev Cert.SmixReferenceIdeal.nD → PrngReg), Pre_SmixReferenceIdeal_sample_finite m →
    θ_run (Cert.SmixReferenceIdeal.defs (F := Ideal)) (onTc (τ := Cert.SmixReferenceIdeal.τ) (Cert.SmixReferenceIdeal.main (F := Ideal))) ⟨m, fun _ => 0, g⟩ (fun r => (∀ c : Dev Cert.SmixReferenceIdeal.nD,
      r.2.mem ((c.tc : Thread Cert.SmixReferenceIdeal.nD Cert.SmixReferenceIdeal.τ).loc Cert.SmixReferenceIdeal.main_arg0) = m ((c.tc : Thread Cert.SmixReferenceIdeal.nD Cert.SmixReferenceIdeal.τ).loc Cert.SmixReferenceIdeal.main_arg0)
      ∧ r.2.mem ((c.tc : Thread Cert.SmixReferenceIdeal.nD Cert.SmixReferenceIdeal.τ).loc Cert.SmixReferenceIdeal.main_arg1) = m ((c.tc : Thread Cert.SmixReferenceIdeal.nD Cert.SmixReferenceIdeal.τ).loc Cert.SmixReferenceIdeal.main_arg1)
      ∧ r.2.mem ((c.tc : Thread Cert.SmixReferenceIdeal.nD Cert.SmixReferenceIdeal.τ).loc Cert.SmixReferenceIdeal.main_arg2) = m ((c.tc : Thread Cert.SmixReferenceIdeal.nD Cert.SmixReferenceIdeal.τ).loc Cert.SmixReferenceIdeal.main_arg2)
      ∧ r.2.mem ((c.tc : Thread Cert.SmixReferenceIdeal.nD Cert.SmixReferenceIdeal.τ).loc Cert.SmixReferenceIdeal.main_arg3) = m ((c.tc : Thread Cert.SmixReferenceIdeal.nD Cert.SmixReferenceIdeal.τ).loc Cert.SmixReferenceIdeal.main_arg3)
      ∧ r.2.mem ((c.tc : Thread Cert.SmixReferenceIdeal.nD Cert.SmixReferenceIdeal.τ).loc Cert.SmixReferenceIdeal.main_arg4) = m ((c.tc : Thread Cert.SmixReferenceIdeal.nD Cert.SmixReferenceIdeal.τ).loc Cert.SmixReferenceIdeal.main_arg4)
      ∧ r.2.mem ((c.tc : Thread Cert.SmixReferenceIdeal.nD Cert.SmixReferenceIdeal.τ).loc Cert.SmixReferenceIdeal.main_arg5) = m ((c.tc : Thread Cert.SmixReferenceIdeal.nD Cert.SmixReferenceIdeal.τ).loc Cert.SmixReferenceIdeal.main_arg5)
      ∧ r.2.mem ((c.tc : Thread Cert.SmixReferenceIdeal.nD Cert.SmixReferenceIdeal.τ).loc Cert.SmixReferenceIdeal.main_arg6) = m ((c.tc : Thread Cert.SmixReferenceIdeal.nD Cert.SmixReferenceIdeal.τ).loc Cert.SmixReferenceIdeal.main_arg6)
      ∧ r.2.mem ((c.tc : Thread Cert.SmixReferenceIdeal.nD Cert.SmixReferenceIdeal.τ).loc Cert.SmixReferenceIdeal.main_arg7) = m ((c.tc : Thread Cert.SmixReferenceIdeal.nD Cert.SmixReferenceIdeal.τ).loc Cert.SmixReferenceIdeal.main_arg7)
      ∧ r.2.mem ((c.tc : Thread Cert.SmixReferenceIdeal.nD Cert.SmixReferenceIdeal.τ).loc Cert.SmixReferenceIdeal.main_arg8) = m ((c.tc : Thread Cert.SmixReferenceIdeal.nD Cert.SmixReferenceIdeal.τ).loc Cert.SmixReferenceIdeal.main_arg8)
      ∧ r.2.mem ((c.tc : Thread Cert.SmixReferenceIdeal.nD Cert.SmixReferenceIdeal.τ).loc Cert.SmixReferenceIdeal.main_arg9) = m ((c.tc : Thread Cert.SmixReferenceIdeal.nD Cert.SmixReferenceIdeal.τ).loc Cert.SmixReferenceIdeal.main_arg9)
      ∧ r.2.mem ((c.tc : Thread Cert.SmixReferenceIdeal.nD Cert.SmixReferenceIdeal.τ).loc Cert.SmixReferenceIdeal.main_arg10) = m ((c.tc : Thread Cert.SmixReferenceIdeal.nD Cert.SmixReferenceIdeal.τ).loc Cert.SmixReferenceIdeal.main_arg10)
      ∧ r.2.mem ((c.tc : Thread Cert.SmixReferenceIdeal.nD Cert.SmixReferenceIdeal.τ).loc Cert.SmixReferenceIdeal.main_arg11) = m ((c.tc : Thread Cert.SmixReferenceIdeal.nD Cert.SmixReferenceIdeal.τ).loc Cert.SmixReferenceIdeal.main_arg11)
      ∧ r.2.mem ((c.tc : Thread Cert.SmixReferenceIdeal.nD Cert.SmixReferenceIdeal.τ).loc Cert.SmixReferenceIdeal.main_arg12) = m ((c.tc : Thread Cert.SmixReferenceIdeal.nD Cert.SmixReferenceIdeal.τ).loc Cert.SmixReferenceIdeal.main_arg12)
      ∧ r.2.mem ((c.tc : Thread Cert.SmixReferenceIdeal.nD Cert.SmixReferenceIdeal.τ).loc Cert.SmixReferenceIdeal.main_arg13) = m ((c.tc : Thread Cert.SmixReferenceIdeal.nD Cert.SmixReferenceIdeal.τ).loc Cert.SmixReferenceIdeal.main_arg13))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12)
      ∧ r.2.mem ((c.tc : Thread Cert.Mix.nD Cert.Mix.τ).loc Cert.Mix.main_arg13) = m ((c.tc : Thread Cert.Mix.nD Cert.Mix.τ).loc Cert.Mix.main_arg13)
      ∧ r.2.mem ((c.tc : Thread Cert.Mix.nD Cert.Mix.τ).loc Cert.Mix.main_arg14) = m ((c.tc : Thread Cert.Mix.nD Cert.Mix.τ).loc Cert.Mix.main_arg14)
      ∧ r.2.mem ((c.tc : Thread Cert.Mix.nD Cert.Mix.τ).loc Cert.Mix.main_arg15) = m ((c.tc : Thread Cert.Mix.nD Cert.Mix.τ).loc Cert.Mix.main_arg15))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
      ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
      ∧ r.2.mem ((c.tc : Thread Cert.MixIdeal.nD Cert.MixIdeal.τ).loc Cert.MixIdeal.main_arg15) = m ((c.tc : Thread Cert.MixIdeal.nD Cert.MixIdeal.τ).loc Cert.MixIdeal.main_arg15))
      ∧ r.2.sem = fun _ => 0)

def quiescent_MixIdeal_pre_gates_finite [hMixIdeal : Cert.MixIdeal.Facts] [hPre_gates_finite : Cert.Pre_gates_finite.Facts] : Prop :=
  ∀ (m : (ℓ : Loc Cert.MixIdeal.nD Cert.MixIdeal.τ Cert.MixIdeal.sig) → Buf (Elt Ideal) ℓ) (g : Dev Cert.MixIdeal.nD → PrngReg), Pre_MixIdeal_gates_finite m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
      ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
      ∧ r.2.mem ((c.tc : Thread Cert.MixIdeal.nD Cert.MixIdeal.τ).loc Cert.MixIdeal.main_arg15) = m ((c.tc : Thread Cert.MixIdeal.nD Cert.MixIdeal.τ).loc Cert.MixIdeal.main_arg15))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9)
      ∧ r.2.mem ((c.tc : Thread Cert.MixReferenceIdeal.nD Cert.MixReferenceIdeal.τ).loc Cert.MixReferenceIdeal.main_arg10) = m ((c.tc : Thread Cert.MixReferenceIdeal.nD Cert.MixReferenceIdeal.τ).loc Cert.MixReferenceIdeal.main_arg10)
      ∧ r.2.mem ((c.tc : Thread Cert.MixReferenceIdeal.nD Cert.MixReferenceIdeal.τ).loc Cert.MixReferenceIdeal.main_arg11) = m ((c.tc : Thread Cert.MixReferenceIdeal.nD Cert.MixReferenceIdeal.τ).loc Cert.MixReferenceIdeal.main_arg11)
      ∧ r.2.mem ((c.tc : Thread Cert.MixReferenceIdeal.nD Cert.MixReferenceIdeal.τ).loc Cert.MixReferenceIdeal.main_arg12) = m ((c.tc : Thread Cert.MixReferenceIdeal.nD Cert.MixReferenceIdeal.τ).loc Cert.MixReferenceIdeal.main_arg12)
      ∧ r.2.mem ((c.tc : Thread Cert.MixReferenceIdeal.nD Cert.MixReferenceIdeal.τ).loc Cert.MixReferenceIdeal.main_arg13) = m ((c.tc : Thread Cert.MixReferenceIdeal.nD Cert.MixReferenceIdeal.τ).loc Cert.MixReferenceIdeal.main_arg13)
      ∧ r.2.mem ((c.tc : Thread Cert.MixReferenceIdeal.nD Cert.MixReferenceIdeal.τ).loc Cert.MixReferenceIdeal.main_arg14) = m ((c.tc : Thread Cert.MixReferenceIdeal.nD Cert.MixReferenceIdeal.τ).loc Cert.MixReferenceIdeal.main_arg14)
      ∧ r.2.mem ((c.tc : Thread Cert.MixReferenceIdeal.nD Cert.MixReferenceIdeal.τ).loc Cert.MixReferenceIdeal.main_arg15) = m ((c.tc : Thread Cert.MixReferenceIdeal.nD Cert.MixReferenceIdeal.τ).loc Cert.MixReferenceIdeal.main_arg15))
      ∧ r.2.sem = fun _ => 0)

def quiescent_MixReferenceIdeal_pre_gates_finite [hMixReferenceIdeal : Cert.MixReferenceIdeal.Facts] [hPre_gates_finite : Cert.Pre_gates_finite.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal_gates_finite m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9)
      ∧ r.2.mem ((c.tc : Thread Cert.MixReferenceIdeal.nD Cert.MixReferenceIdeal.τ).loc Cert.MixReferenceIdeal.main_arg10) = m ((c.tc : Thread Cert.MixReferenceIdeal.nD Cert.MixReferenceIdeal.τ).loc Cert.MixReferenceIdeal.main_arg10)
      ∧ r.2.mem ((c.tc : Thread Cert.MixReferenceIdeal.nD Cert.MixReferenceIdeal.τ).loc Cert.MixReferenceIdeal.main_arg11) = m ((c.tc : Thread Cert.MixReferenceIdeal.nD Cert.MixReferenceIdeal.τ).loc Cert.MixReferenceIdeal.main_arg11)
      ∧ r.2.mem ((c.tc : Thread Cert.MixReferenceIdeal.nD Cert.MixReferenceIdeal.τ).loc Cert.MixReferenceIdeal.main_arg12) = m ((c.tc : Thread Cert.MixReferenceIdeal.nD Cert.MixReferenceIdeal.τ).loc Cert.MixReferenceIdeal.main_arg12)
      ∧ r.2.mem ((c.tc : Thread Cert.MixReferenceIdeal.nD Cert.MixReferenceIdeal.τ).loc Cert.MixReferenceIdeal.main_arg13) = m ((c.tc : Thread Cert.MixReferenceIdeal.nD Cert.MixReferenceIdeal.τ).loc Cert.MixReferenceIdeal.main_arg13)
      ∧ r.2.mem ((c.tc : Thread Cert.MixReferenceIdeal.nD Cert.MixReferenceIdeal.τ).loc Cert.MixReferenceIdeal.main_arg14) = m ((c.tc : Thread Cert.MixReferenceIdeal.nD Cert.MixReferenceIdeal.τ).loc Cert.MixReferenceIdeal.main_arg14)
      ∧ r.2.mem ((c.tc : Thread Cert.MixReferenceIdeal.nD Cert.MixReferenceIdeal.τ).loc Cert.MixReferenceIdeal.main_arg15) = m ((c.tc : Thread Cert.MixReferenceIdeal.nD Cert.MixReferenceIdeal.τ).loc Cert.MixReferenceIdeal.main_arg15))
      ∧ r.2.sem = fun _ => 0)

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)
      ∧ m' ((c.tc : Thread Cert.MlpReferenceIdeal.nD Cert.MlpReferenceIdeal.τ).loc Cert.MlpReferenceIdeal.main_arg4) = m ((c.tc : Thread Cert.MlpIdeal.nD Cert.MlpIdeal.τ).loc Cert.MlpIdeal.main_arg4)
      ∧ m' ((c.tc : Thread Cert.MlpReferenceIdeal.nD Cert.MlpReferenceIdeal.τ).loc Cert.MlpReferenceIdeal.main_arg5) = m ((c.tc : Thread Cert.MlpIdeal.nD Cert.MlpIdeal.τ).loc Cert.MlpIdeal.main_arg5)
      ∧ m' ((c.tc : Thread Cert.MlpReferenceIdeal.nD Cert.MlpReferenceIdeal.τ).loc Cert.MlpReferenceIdeal.main_arg6) = m ((c.tc : Thread Cert.MlpIdeal.nD Cert.MlpIdeal.τ).loc Cert.MlpIdeal.main_arg6)
      ∧ m' ((c.tc : Thread Cert.MlpReferenceIdeal.nD Cert.MlpReferenceIdeal.τ).loc Cert.MlpReferenceIdeal.main_arg7) = m ((c.tc : Thread Cert.MlpIdeal.nD Cert.MlpIdeal.τ).loc Cert.MlpIdeal.main_arg7)) →
    ∃ (v0 : (c : Dev Cert.MlpIdeal.nD) → Buf (Elt Ideal) ((c.tc : Thread Cert.MlpIdeal.nD Cert.MlpIdeal.τ).loc Cert.MlpIdeal.main_v0_0)) (v1 : (c : Dev Cert.MlpIdeal.nD) → Buf (Elt Ideal) ((c.tc : Thread Cert.MlpIdeal.nD Cert.MlpIdeal.τ).loc Cert.MlpIdeal.main_v0_1)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v0_0) = v0 c
          ∧ r.2.mem ((c.tc : Thread Cert.MlpIdeal.nD Cert.MlpIdeal.τ).loc Cert.MlpIdeal.main_v0_1) = v1 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v51) = v0 c
          ∧ r.2.mem ((c.tc : Thread Cert.MlpReferenceIdeal.nD Cert.MlpReferenceIdeal.τ).loc Cert.MlpReferenceIdeal.main_v97) = v1 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4)
          ∧ r.2.mem ((c.tc : Thread Cert.MlpReferenceIdeal.nD Cert.MlpReferenceIdeal.τ).loc Cert.MlpReferenceIdeal.main_arg5) = m' ((c.tc : Thread Cert.MlpReferenceIdeal.nD Cert.MlpReferenceIdeal.τ).loc Cert.MlpReferenceIdeal.main_arg5)
          ∧ r.2.mem ((c.tc : Thread Cert.MlpReferenceIdeal.nD Cert.MlpReferenceIdeal.τ).loc Cert.MlpReferenceIdeal.main_arg6) = m' ((c.tc : Thread Cert.MlpReferenceIdeal.nD Cert.MlpReferenceIdeal.τ).loc Cert.MlpReferenceIdeal.main_arg6)
          ∧ r.2.mem ((c.tc : Thread Cert.MlpReferenceIdeal.nD Cert.MlpReferenceIdeal.τ).loc Cert.MlpReferenceIdeal.main_arg7) = m' ((c.tc : Thread Cert.MlpReferenceIdeal.nD Cert.MlpReferenceIdeal.τ).loc Cert.MlpReferenceIdeal.main_arg7))

def preserves_Smix_SmixIdeal : Prop :=
  True

def algebraic_SmixIdeal_SmixReferenceIdeal_pre_sample_finite [hSmixIdeal : Cert.SmixIdeal.Facts] [hSmixReferenceIdeal : Cert.SmixReferenceIdeal.Facts] [hPre_sample_finite : Cert.Pre_sample_finite.Facts] : Prop :=
  ∀ (m : (ℓ : Loc Cert.SmixIdeal.nD Cert.SmixIdeal.τ Cert.SmixIdeal.sig) → Buf (Elt Ideal) ℓ) (g : Dev Cert.SmixIdeal.nD → PrngReg)
    (m' : (ℓ : Loc Cert.SmixReferenceIdeal.nD Cert.SmixReferenceIdeal.τ Cert.SmixReferenceIdeal.sig) → Buf (Elt Ideal) ℓ) (g' : Dev Cert.SmixReferenceIdeal.nD → PrngReg), Pre_SmixIdeal_sample_finite m →
    (∀ c : Dev Cert.SmixIdeal.nD,
      m' ((c.tc : Thread Cert.SmixReferenceIdeal.nD Cert.SmixReferenceIdeal.τ).loc Cert.SmixReferenceIdeal.main_arg0) = m ((c.tc : Thread Cert.SmixIdeal.nD Cert.SmixIdeal.τ).loc Cert.SmixIdeal.main_arg0)
      ∧ m' ((c.tc : Thread Cert.SmixReferenceIdeal.nD Cert.SmixReferenceIdeal.τ).loc Cert.SmixReferenceIdeal.main_arg1) = m ((c.tc : Thread Cert.SmixIdeal.nD Cert.SmixIdeal.τ).loc Cert.SmixIdeal.main_arg1)
      ∧ m' ((c.tc : Thread Cert.SmixReferenceIdeal.nD Cert.SmixReferenceIdeal.τ).loc Cert.SmixReferenceIdeal.main_arg2) = m ((c.tc : Thread Cert.SmixIdeal.nD Cert.SmixIdeal.τ).loc Cert.SmixIdeal.main_arg2)
      ∧ m' ((c.tc : Thread Cert.SmixReferenceIdeal.nD Cert.SmixReferenceIdeal.τ).loc Cert.SmixReferenceIdeal.main_arg3) = m ((c.tc : Thread Cert.SmixIdeal.nD Cert.SmixIdeal.τ).loc Cert.SmixIdeal.main_arg3)
      ∧ m' ((c.tc : Thread Cert.SmixReferenceIdeal.nD Cert.SmixReferenceIdeal.τ).loc Cert.SmixReferenceIdeal.main_arg4) = m ((c.tc : Thread Cert.SmixIdeal.nD Cert.SmixIdeal.τ).loc Cert.SmixIdeal.main_arg4)
      ∧ m' ((c.tc : Thread Cert.SmixReferenceIdeal.nD Cert.SmixReferenceIdeal.τ).loc Cert.SmixReferenceIdeal.main_arg5) = m ((c.tc : Thread Cert.SmixIdeal.nD Cert.SmixIdeal.τ).loc Cert.SmixIdeal.main_arg5)
      ∧ m' ((c.tc : Thread Cert.SmixReferenceIdeal.nD Cert.SmixReferenceIdeal.τ).loc Cert.SmixReferenceIdeal.main_arg6) = m ((c.tc : Thread Cert.SmixIdeal.nD Cert.SmixIdeal.τ).loc Cert.SmixIdeal.main_arg6)
      ∧ m' ((c.tc : Thread Cert.SmixReferenceIdeal.nD Cert.SmixReferenceIdeal.τ).loc Cert.SmixReferenceIdeal.main_arg7) = m ((c.tc : Thread Cert.SmixIdeal.nD Cert.SmixIdeal.τ).loc Cert.SmixIdeal.main_arg7)
      ∧ m' ((c.tc : Thread Cert.SmixReferenceIdeal.nD Cert.SmixReferenceIdeal.τ).loc Cert.SmixReferenceIdeal.main_arg8) = m ((c.tc : Thread Cert.SmixIdeal.nD Cert.SmixIdeal.τ).loc Cert.SmixIdeal.main_arg8)
      ∧ m' ((c.tc : Thread Cert.SmixReferenceIdeal.nD Cert.SmixReferenceIdeal.τ).loc Cert.SmixReferenceIdeal.main_arg9) = m ((c.tc : Thread Cert.SmixIdeal.nD Cert.SmixIdeal.τ).loc Cert.SmixIdeal.main_arg9)
      ∧ m' ((c.tc : Thread Cert.SmixReferenceIdeal.nD Cert.SmixReferenceIdeal.τ).loc Cert.SmixReferenceIdeal.main_arg10) = m ((c.tc : Thread Cert.SmixIdeal.nD Cert.SmixIdeal.τ).loc Cert.SmixIdeal.main_arg10)
      ∧ m' ((c.tc : Thread Cert.SmixReferenceIdeal.nD Cert.SmixReferenceIdeal.τ).loc Cert.SmixReferenceIdeal.main_arg11) = m ((c.tc : Thread Cert.SmixIdeal.nD Cert.SmixIdeal.τ).loc Cert.SmixIdeal.main_arg11)
      ∧ m' ((c.tc : Thread Cert.SmixReferenceIdeal.nD Cert.SmixReferenceIdeal.τ).loc Cert.SmixReferenceIdeal.main_arg12) = m ((c.tc : Thread Cert.SmixIdeal.nD Cert.SmixIdeal.τ).loc Cert.SmixIdeal.main_arg12)
      ∧ m' ((c.tc : Thread Cert.SmixReferenceIdeal.nD Cert.SmixReferenceIdeal.τ).loc Cert.SmixReferenceIdeal.main_arg13) = m ((c.tc : Thread Cert.SmixIdeal.nD Cert.SmixIdeal.τ).loc Cert.SmixIdeal.main_arg13)) →
    ∃ (v0 : (c : Dev Cert.SmixIdeal.nD) → Buf (Elt Ideal) ((c.tc : Thread Cert.SmixIdeal.nD Cert.SmixIdeal.τ).loc Cert.SmixIdeal.main_v1_0)) (v1 : (c : Dev Cert.SmixIdeal.nD) → Buf (Elt Ideal) ((c.tc : Thread Cert.SmixIdeal.nD Cert.SmixIdeal.τ).loc Cert.SmixIdeal.main_v1_1)) (v2 : (c : Dev Cert.SmixIdeal.nD) → Buf (Elt Ideal) ((c.tc : Thread Cert.SmixIdeal.nD Cert.SmixIdeal.τ).loc Cert.SmixIdeal.main_v1_2)) (v3 : (c : Dev Cert.SmixIdeal.nD) → Buf (Elt Ideal) ((c.tc : Thread Cert.SmixIdeal.nD Cert.SmixIdeal.τ).loc Cert.SmixIdeal.main_v1_3)),
      θ_run (Cert.SmixIdeal.defs (F := Ideal)) (onTc (τ := Cert.SmixIdeal.τ) (Cert.SmixIdeal.main (F := Ideal))) ⟨m, fun _ => 0, g⟩ (fun r => ∀ c : Dev Cert.SmixIdeal.nD,
          r.2.mem ((c.tc : Thread Cert.SmixIdeal.nD Cert.SmixIdeal.τ).loc Cert.SmixIdeal.main_v1_0) = v0 c
          ∧ r.2.mem ((c.tc : Thread Cert.SmixIdeal.nD Cert.SmixIdeal.τ).loc Cert.SmixIdeal.main_v1_1) = v1 c
          ∧ r.2.mem ((c.tc : Thread Cert.SmixIdeal.nD Cert.SmixIdeal.τ).loc Cert.SmixIdeal.main_v1_2) = v2 c
          ∧ r.2.mem ((c.tc : Thread Cert.SmixIdeal.nD Cert.SmixIdeal.τ).loc Cert.SmixIdeal.main_v1_3) = v3 c
          ∧ r.2.mem ((c.tc : Thread Cert.SmixIdeal.nD Cert.SmixIdeal.τ).loc Cert.SmixIdeal.main_arg0) = m ((c.tc : Thread Cert.SmixIdeal.nD Cert.SmixIdeal.τ).loc Cert.SmixIdeal.main_arg0)
          ∧ r.2.mem ((c.tc : Thread Cert.SmixIdeal.nD Cert.SmixIdeal.τ).loc Cert.SmixIdeal.main_arg1) = m ((c.tc : Thread Cert.SmixIdeal.nD Cert.SmixIdeal.τ).loc Cert.SmixIdeal.main_arg1)
          ∧ r.2.mem ((c.tc : Thread Cert.SmixIdeal.nD Cert.SmixIdeal.τ).loc Cert.SmixIdeal.main_arg2) = m ((c.tc : Thread Cert.SmixIdeal.nD Cert.SmixIdeal.τ).loc Cert.SmixIdeal.main_arg2)
          ∧ r.2.mem ((c.tc : Thread Cert.SmixIdeal.nD Cert.SmixIdeal.τ).loc Cert.SmixIdeal.main_arg3) = m ((c.tc : Thread Cert.SmixIdeal.nD Cert.SmixIdeal.τ).loc Cert.SmixIdeal.main_arg3)
          ∧ r.2.mem ((c.tc : Thread Cert.SmixIdeal.nD Cert.SmixIdeal.τ).loc Cert.SmixIdeal.main_arg4) = m ((c.tc : Thread Cert.SmixIdeal.nD Cert.SmixIdeal.τ).loc Cert.SmixIdeal.main_arg4)
          ∧ r.2.mem ((c.tc : Thread Cert.SmixIdeal.nD Cert.SmixIdeal.τ).loc Cert.SmixIdeal.main_arg5) = m ((c.tc : Thread Cert.SmixIdeal.nD Cert.SmixIdeal.τ).loc Cert.SmixIdeal.main_arg5)
          ∧ r.2.mem ((c.tc : Thread Cert.SmixIdeal.nD Cert.SmixIdeal.τ).loc Cert.SmixIdeal.main_arg6) = m ((c.tc : Thread Cert.SmixIdeal.nD Cert.SmixIdeal.τ).loc Cert.SmixIdeal.main_arg6)
          ∧ r.2.mem ((c.tc : Thread Cert.SmixIdeal.nD Cert.SmixIdeal.τ).loc Cert.SmixIdeal.main_arg7) = m ((c.tc : Thread Cert.SmixIdeal.nD Cert.SmixIdeal.τ).loc Cert.SmixIdeal.main_arg7)
          ∧ r.2.mem ((c.tc : Thread Cert.SmixIdeal.nD Cert.SmixIdeal.τ).loc Cert.SmixIdeal.main_arg8) = m ((c.tc : Thread Cert.SmixIdeal.nD Cert.SmixIdeal.τ).loc Cert.SmixIdeal.main_arg8)
          ∧ r.2.mem ((c.tc : Thread Cert.SmixIdeal.nD Cert.SmixIdeal.τ).loc Cert.SmixIdeal.main_arg9) = m ((c.tc : Thread Cert.SmixIdeal.nD Cert.SmixIdeal.τ).loc Cert.SmixIdeal.main_arg9)
          ∧ r.2.mem ((c.tc : Thread Cert.SmixIdeal.nD Cert.SmixIdeal.τ).loc Cert.SmixIdeal.main_arg10) = m ((c.tc : Thread Cert.SmixIdeal.nD Cert.SmixIdeal.τ).loc Cert.SmixIdeal.main_arg10)
          ∧ r.2.mem ((c.tc : Thread Cert.SmixIdeal.nD Cert.SmixIdeal.τ).loc Cert.SmixIdeal.main_arg11) = m ((c.tc : Thread Cert.SmixIdeal.nD Cert.SmixIdeal.τ).loc Cert.SmixIdeal.main_arg11)
          ∧ r.2.mem ((c.tc : Thread Cert.SmixIdeal.nD Cert.SmixIdeal.τ).loc Cert.SmixIdeal.main_arg12) = m ((c.tc : Thread Cert.SmixIdeal.nD Cert.SmixIdeal.τ).loc Cert.SmixIdeal.main_arg12)
          ∧ r.2.mem ((c.tc : Thread Cert.SmixIdeal.nD Cert.SmixIdeal.τ).loc Cert.SmixIdeal.main_arg13) = m ((c.tc : Thread Cert.SmixIdeal.nD Cert.SmixIdeal.τ).loc Cert.SmixIdeal.main_arg13))
      ∧ θ_run (Cert.SmixReferenceIdeal.defs (F := Ideal)) (onTc (τ := Cert.SmixReferenceIdeal.τ) (Cert.SmixReferenceIdeal.main (F := Ideal))) ⟨m', fun _ => 0, g'⟩ (fun r => ∀ c : Dev Cert.SmixReferenceIdeal.nD,
          r.2.mem ((c.tc : Thread Cert.SmixReferenceIdeal.nD Cert.SmixReferenceIdeal.τ).loc Cert.SmixReferenceIdeal.main_v185) = v0 c
          ∧ r.2.mem ((c.tc : Thread Cert.SmixReferenceIdeal.nD Cert.SmixReferenceIdeal.τ).loc Cert.SmixReferenceIdeal.main_v83) = v1 c
          ∧ r.2.mem ((c.tc : Thread Cert.SmixReferenceIdeal.nD Cert.SmixReferenceIdeal.τ).loc Cert.SmixReferenceIdeal.main_v70) = v2 c
          ∧ r.2.mem ((c.tc : Thread Cert.SmixReferenceIdeal.nD Cert.SmixReferenceIdeal.τ).loc Cert.SmixReferenceIdeal.main_v187) = v3 c
          ∧ r.2.mem ((c.tc : Thread Cert.SmixReferenceIdeal.nD Cert.SmixReferenceIdeal.τ).loc Cert.SmixReferenceIdeal.main_arg0) = m' ((c.tc : Thread Cert.SmixReferenceIdeal.nD Cert.SmixReferenceIdeal.τ).loc Cert.SmixReferenceIdeal.main_arg0)
          ∧ r.2.mem ((c.tc : Thread Cert.SmixReferenceIdeal.nD Cert.SmixReferenceIdeal.τ).loc Cert.SmixReferenceIdeal.main_arg1) = m' ((c.tc : Thread Cert.SmixReferenceIdeal.nD Cert.SmixReferenceIdeal.τ).loc Cert.SmixReferenceIdeal.main_arg1)
          ∧ r.2.mem ((c.tc : Thread Cert.SmixReferenceIdeal.nD Cert.SmixReferenceIdeal.τ).loc Cert.SmixReferenceIdeal.main_arg2) = m' ((c.tc : Thread Cert.SmixReferenceIdeal.nD Cert.SmixReferenceIdeal.τ).loc Cert.SmixReferenceIdeal.main_arg2)
          ∧ r.2.mem ((c.tc : Thread Cert.SmixReferenceIdeal.nD Cert.SmixReferenceIdeal.τ).loc Cert.SmixReferenceIdeal.main_arg3) = m' ((c.tc : Thread Cert.SmixReferenceIdeal.nD Cert.SmixReferenceIdeal.τ).loc Cert.SmixReferenceIdeal.main_arg3)
          ∧ r.2.mem ((c.tc : Thread Cert.SmixReferenceIdeal.nD Cert.SmixReferenceIdeal.τ).loc Cert.SmixReferenceIdeal.main_arg4) = m' ((c.tc : Thread Cert.SmixReferenceIdeal.nD Cert.SmixReferenceIdeal.τ).loc Cert.SmixReferenceIdeal.main_arg4)
          ∧ r.2.mem ((c.tc : Thread Cert.SmixReferenceIdeal.nD Cert.SmixReferenceIdeal.τ).loc Cert.SmixReferenceIdeal.main_arg5) = m' ((c.tc : Thread Cert.SmixReferenceIdeal.nD Cert.SmixReferenceIdeal.τ).loc Cert.SmixReferenceIdeal.main_arg5)
          ∧ r.2.mem ((c.tc : Thread Cert.SmixReferenceIdeal.nD Cert.SmixReferenceIdeal.τ).loc Cert.SmixReferenceIdeal.main_arg6) = m' ((c.tc : Thread Cert.SmixReferenceIdeal.nD Cert.SmixReferenceIdeal.τ).loc Cert.SmixReferenceIdeal.main_arg6)
          ∧ r.2.mem ((c.tc : Thread Cert.SmixReferenceIdeal.nD Cert.SmixReferenceIdeal.τ).loc Cert.SmixReferenceIdeal.main_arg7) = m' ((c.tc : Thread Cert.SmixReferenceIdeal.nD Cert.SmixReferenceIdeal.τ).loc Cert.SmixReferenceIdeal.main_arg7)
          ∧ r.2.mem ((c.tc : Thread Cert.SmixReferenceIdeal.nD Cert.SmixReferenceIdeal.τ).loc Cert.SmixReferenceIdeal.main_arg8) = m' ((c.tc : Thread Cert.SmixReferenceIdeal.nD Cert.SmixReferenceIdeal.τ).loc Cert.SmixReferenceIdeal.main_arg8)
          ∧ r.2.mem ((c.tc : Thread Cert.SmixReferenceIdeal.nD Cert.SmixReferenceIdeal.τ).loc Cert.SmixReferenceIdeal.main_arg9) = m' ((c.tc : Thread Cert.SmixReferenceIdeal.nD Cert.SmixReferenceIdeal.τ).loc Cert.SmixReferenceIdeal.main_arg9)
          ∧ r.2.mem ((c.tc : Thread Cert.SmixReferenceIdeal.nD Cert.SmixReferenceIdeal.τ).loc Cert.SmixReferenceIdeal.main_arg10) = m' ((c.tc : Thread Cert.SmixReferenceIdeal.nD Cert.SmixReferenceIdeal.τ).loc Cert.SmixReferenceIdeal.main_arg10)
          ∧ r.2.mem ((c.tc : Thread Cert.SmixReferenceIdeal.nD Cert.SmixReferenceIdeal.τ).loc Cert.SmixReferenceIdeal.main_arg11) = m' ((c.tc : Thread Cert.SmixReferenceIdeal.nD Cert.SmixReferenceIdeal.τ).loc Cert.SmixReferenceIdeal.main_arg11)
          ∧ r.2.mem ((c.tc : Thread Cert.SmixReferenceIdeal.nD Cert.SmixReferenceIdeal.τ).loc Cert.SmixReferenceIdeal.main_arg12) = m' ((c.tc : Thread Cert.SmixReferenceIdeal.nD Cert.SmixReferenceIdeal.τ).loc Cert.SmixReferenceIdeal.main_arg12)
          ∧ r.2.mem ((c.tc : Thread Cert.SmixReferenceIdeal.nD Cert.SmixReferenceIdeal.τ).loc Cert.SmixReferenceIdeal.main_arg13) = m' ((c.tc : Thread Cert.SmixReferenceIdeal.nD Cert.SmixReferenceIdeal.τ).loc Cert.SmixReferenceIdeal.main_arg13))

def preserves_Mix_MixIdeal : Prop :=
  True

def algebraic_MixIdeal_MixReferenceIdeal_on_mix_claimed_pre_gates_finite [hMixIdeal : Cert.MixIdeal.Facts] [hMixReferenceIdeal : Cert.MixReferenceIdeal.Facts] [hPre_gates_finite : Cert.Pre_gates_finite.Facts] [hOn_mix_claimed : Cert.On_mix_claimed.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal_gates_finite m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)
      ∧ m' ((c.tc : Thread Cert.MixReferenceIdeal.nD Cert.MixReferenceIdeal.τ).loc Cert.MixReferenceIdeal.main_arg7) = m ((c.tc : Thread Cert.MixIdeal.nD Cert.MixIdeal.τ).loc Cert.MixIdeal.main_arg7)
      ∧ m' ((c.tc : Thread Cert.MixReferenceIdeal.nD Cert.MixReferenceIdeal.τ).loc Cert.MixReferenceIdeal.main_arg8) = m ((c.tc : Thread Cert.MixIdeal.nD Cert.MixIdeal.τ).loc Cert.MixIdeal.main_arg8)
      ∧ m' ((c.tc : Thread Cert.MixReferenceIdeal.nD Cert.MixReferenceIdeal.τ).loc Cert.MixReferenceIdeal.main_arg9) = m ((c.tc : Thread Cert.MixIdeal.nD Cert.MixIdeal.τ).loc Cert.MixIdeal.main_arg9)
      ∧ m' ((c.tc : Thread Cert.MixReferenceIdeal.nD Cert.MixReferenceIdeal.τ).loc Cert.MixReferenceIdeal.main_arg10) = m ((c.tc : Thread Cert.MixIdeal.nD Cert.MixIdeal.τ).loc Cert.MixIdeal.main_arg10)
      ∧ m' ((c.tc : Thread Cert.MixReferenceIdeal.nD Cert.MixReferenceIdeal.τ).loc Cert.MixReferenceIdeal.main_arg11) = m ((c.tc : Thread Cert.MixIdeal.nD Cert.MixIdeal.τ).loc Cert.MixIdeal.main_arg11)
      ∧ m' ((c.tc : Thread Cert.MixReferenceIdeal.nD Cert.MixReferenceIdeal.τ).loc Cert.MixReferenceIdeal.main_arg12) = m ((c.tc : Thread Cert.MixIdeal.nD Cert.MixIdeal.τ).loc Cert.MixIdeal.main_arg12)
      ∧ m' ((c.tc : Thread Cert.MixReferenceIdeal.nD Cert.MixReferenceIdeal.τ).loc Cert.MixReferenceIdeal.main_arg13) = m ((c.tc : Thread Cert.MixIdeal.nD Cert.MixIdeal.τ).loc Cert.MixIdeal.main_arg13)
      ∧ m' ((c.tc : Thread Cert.MixReferenceIdeal.nD Cert.MixReferenceIdeal.τ).loc Cert.MixReferenceIdeal.main_arg14) = m ((c.tc : Thread Cert.MixIdeal.nD Cert.MixIdeal.τ).loc Cert.MixIdeal.main_arg14)
      ∧ m' ((c.tc : Thread Cert.MixReferenceIdeal.nD Cert.MixReferenceIdeal.τ).loc Cert.MixReferenceIdeal.main_arg15) = m ((c.tc : Thread Cert.MixIdeal.nD Cert.MixIdeal.τ).loc Cert.MixIdeal.main_arg15)) →
    ∃ (v0 : (c : Dev Cert.MixIdeal.nD) → Buf (Elt Ideal) ((c.tc : Thread Cert.MixIdeal.nD Cert.MixIdeal.τ).loc Cert.MixIdeal.main_v0_0)) (v1 : (c : Dev Cert.MixIdeal.nD) → Buf (Elt Ideal) ((c.tc : Thread Cert.MixIdeal.nD Cert.MixIdeal.τ).loc Cert.MixIdeal.main_v0_1)) (v2 : (c : Dev Cert.MixIdeal.nD) → Buf (Elt Ideal) ((c.tc : Thread Cert.MixIdeal.nD Cert.MixIdeal.τ).loc Cert.MixIdeal.main_v0_2)) (v3 : (c : Dev Cert.MixIdeal.nD) → Buf (Elt Ideal) ((c.tc : Thread Cert.MixIdeal.nD Cert.MixIdeal.τ).loc Cert.MixIdeal.main_v0_3)) (v4 : (c : Dev Cert.MixIdeal.nD) → Buf (Elt Ideal) ((c.tc : Thread Cert.MixIdeal.nD Cert.MixIdeal.τ).loc Cert.MixIdeal.main_v0_4)) (v5 : (c : Dev Cert.MixIdeal.nD) → Buf (Elt Ideal) ((c.tc : Thread Cert.MixIdeal.nD Cert.MixIdeal.τ).loc Cert.MixIdeal.main_v0_5)) (v6 : (c : Dev Cert.MixIdeal.nD) → Buf (Elt Ideal) ((c.tc : Thread Cert.MixIdeal.nD Cert.MixIdeal.τ).loc Cert.MixIdeal.main_v0_6)) (v7 : (c : Dev Cert.MixIdeal.nD) → Buf (Elt Ideal) ((c.tc : Thread Cert.MixIdeal.nD Cert.MixIdeal.τ).loc Cert.MixIdeal.main_v0_7)) (v8 : (c : Dev Cert.MixIdeal.nD) → Buf (Elt Ideal) ((c.tc : Thread Cert.MixIdeal.nD Cert.MixIdeal.τ).loc Cert.MixIdeal.main_v0_8)),
      θ_run (Cert.MixIdeal.defs (F := Ideal)) (onTc (τ := Cert.MixIdeal.τ) (Cert.MixIdeal.main (F := Ideal))) ⟨m, fun _ => 0, g⟩ (fun r => ∀ c : Dev Cert.MixIdeal.nD,
          (∀ i : (⟨2, ![16384, 1024]⟩ : Shape).Idx, (Cert.On_mix_claimed.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15))).1 i = 1#1 → r.2.mem ((c.tc : Thread Cert.MixIdeal.nD Cert.MixIdeal.τ).loc Cert.MixIdeal.main_v0_0) i = v0 c i)
          ∧ (∀ i : (⟨4, ![8, 4, 128, 128]⟩ : Shape).Idx, (Cert.On_mix_claimed.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15))).2.1 i = 1#1 → r.2.mem ((c.tc : Thread Cert.MixIdeal.nD Cert.MixIdeal.τ).loc Cert.MixIdeal.main_v0_1) i = v1 c i)
          ∧ (∀ i : (⟨3, ![8, 4, 128]⟩ : Shape).Idx, (Cert.On_mix_claimed.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15))).2.2.1 i = 1#1 → r.2.mem ((c.tc : Thread Cert.MixIdeal.nD Cert.MixIdeal.τ).loc Cert.MixIdeal.main_v0_2) i = v2 c i)
          ∧ (∀ i : (⟨4, ![8, 4, 1, 1]⟩ : Shape).Idx, (Cert.On_mix_claimed.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15))).2.2.2.1 i = 1#1 → r.2.mem ((c.tc : Thread Cert.MixIdeal.nD Cert.MixIdeal.τ).loc Cert.MixIdeal.main_v0_3) i = v3 c i)
          ∧ (∀ i : (⟨3, ![8, 15, 512]⟩ : Shape).Idx, (Cert.On_mix_claimed.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15))).2.2.2.2.1 i = 1#1 → r.2.mem ((c.tc : Thread Cert.MixIdeal.nD Cert.MixIdeal.τ).loc Cert.MixIdeal.main_v0_4) i = v4 c i)
          ∧ (∀ i : (⟨2, ![1024, 4096]⟩ : Shape).Idx, (Cert.On_mix_claimed.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15))).2.2.2.2.2.1 i = 1#1 → r.2.mem ((c.tc : Thread Cert.MixIdeal.nD Cert.MixIdeal.τ).loc Cert.MixIdeal.main_v0_5) i = v5 c i)
          ∧ (∀ i : (⟨2, ![4096, 1024]⟩ : Shape).Idx, (Cert.On_mix_claimed.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15))).2.2.2.2.2.2.1 i = 1#1 → r.2.mem ((c.tc : Thread Cert.MixIdeal.nD Cert.MixIdeal.τ).loc Cert.MixIdeal.main_v0_6) i = v6 c i)
          ∧ (∀ i : (⟨2, ![65536, 128]⟩ : Shape).Idx, (Cert.On_mix_claimed.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15))).2.2.2.2.2.2.2.1 i = 1#1 → r.2.mem ((c.tc : Thread Cert.MixIdeal.nD Cert.MixIdeal.τ).loc Cert.MixIdeal.main_v0_7) i = v7 c i)
          ∧ (∀ i : (⟨2, ![128, 512]⟩ : Shape).Idx, (Cert.On_mix_claimed.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15))).2.2.2.2.2.2.2.2 i = 1#1 → r.2.mem ((c.tc : Thread Cert.MixIdeal.nD Cert.MixIdeal.τ).loc Cert.MixIdeal.main_v0_8) i = v8 c i)
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
          ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
          ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
          ∧ r.2.mem ((c.tc : Thread Cert.MixIdeal.nD Cert.MixIdeal.τ).loc Cert.MixIdeal.main_arg15) = m ((c.tc : Thread Cert.MixIdeal.nD Cert.MixIdeal.τ).loc Cert.MixIdeal.main_arg15))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          (∀ i : (⟨2, ![16384, 1024]⟩ : Shape).Idx, (Cert.On_mix_claimed.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15))).1 i = 1#1 → r.2.mem ((c.tc : Thread Cert.MixReferenceIdeal.nD Cert.MixReferenceIdeal.τ).loc Cert.MixReferenceIdeal.main_v86) i = v0 c i)
          ∧ (∀ i : (⟨4, ![8, 4, 128, 128]⟩ : Shape).Idx, (Cert.On_mix_claimed.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15))).2.1 i = 1#1 → r.2.mem ((c.tc : Thread Cert.MixReferenceIdeal.nD Cert.MixReferenceIdeal.τ).loc Cert.MixReferenceIdeal.main_v87) i = v1 c i)
          ∧ (∀ i : (⟨3, ![8, 4, 128]⟩ : Shape).Idx, (Cert.On_mix_claimed.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15))).2.2.1 i = 1#1 → r.2.mem ((c.tc : Thread Cert.MixReferenceIdeal.nD Cert.MixReferenceIdeal.τ).loc Cert.MixReferenceIdeal.main_v88) i = v2 c i)
          ∧ (∀ i : (⟨4, ![8, 4, 1, 1]⟩ : Shape).Idx, (Cert.On_mix_claimed.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15))).2.2.2.1 i = 1#1 → r.2.mem ((c.tc : Thread Cert.MixReferenceIdeal.nD Cert.MixReferenceIdeal.τ).loc Cert.MixReferenceIdeal.main_v89) i = v3 c i)
          ∧ (∀ i : (⟨3, ![8, 15, 512]⟩ : Shape).Idx, (Cert.On_mix_claimed.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15))).2.2.2.2.1 i = 1#1 → r.2.mem ((c.tc : Thread Cert.MixReferenceIdeal.nD Cert.MixReferenceIdeal.τ).loc Cert.MixReferenceIdeal.main_v90) i = v4 c i)
          ∧ (∀ i : (⟨2, ![1024, 4096]⟩ : Shape).Idx, (Cert.On_mix_claimed.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15))).2.2.2.2.2.1 i = 1#1 → r.2.mem ((c.tc : Thread Cert.MixReferenceIdeal.nD Cert.MixReferenceIdeal.τ).loc Cert.MixReferenceIdeal.main_v92) i = v5 c i)
          ∧ (∀ i : (⟨2, ![4096, 1024]⟩ : Shape).Idx, (Cert.On_mix_claimed.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15))).2.2.2.2.2.2.1 i = 1#1 → r.2.mem ((c.tc : Thread Cert.MixReferenceIdeal.nD Cert.MixReferenceIdeal.τ).loc Cert.MixReferenceIdeal.main_v94) i = v6 c i)
          ∧ (∀ i : (⟨2, ![65536, 128]⟩ : Shape).Idx, (Cert.On_mix_claimed.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15))).2.2.2.2.2.2.2.1 i = 1#1 → r.2.mem ((c.tc : Thread Cert.MixReferenceIdeal.nD Cert.MixReferenceIdeal.τ).loc Cert.MixReferenceIdeal.main_v95) i = v7 c i)
          ∧ (∀ i : (⟨2, ![128, 512]⟩ : Shape).Idx, (Cert.On_mix_claimed.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15))).2.2.2.2.2.2.2.2 i = 1#1 → r.2.mem ((c.tc : Thread Cert.MixReferenceIdeal.nD Cert.MixReferenceIdeal.τ).loc Cert.MixReferenceIdeal.main_v97) i = v8 c i)
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8)
          ∧ r.2.mem ((c.tc : Thread Cert.MixReferenceIdeal.nD Cert.MixReferenceIdeal.τ).loc Cert.MixReferenceIdeal.main_arg9) = m' ((c.tc : Thread Cert.MixReferenceIdeal.nD Cert.MixReferenceIdeal.τ).loc Cert.MixReferenceIdeal.main_arg9)
          ∧ r.2.mem ((c.tc : Thread Cert.MixReferenceIdeal.nD Cert.MixReferenceIdeal.τ).loc Cert.MixReferenceIdeal.main_arg10) = m' ((c.tc : Thread Cert.MixReferenceIdeal.nD Cert.MixReferenceIdeal.τ).loc Cert.MixReferenceIdeal.main_arg10)
          ∧ r.2.mem ((c.tc : Thread Cert.MixReferenceIdeal.nD Cert.MixReferenceIdeal.τ).loc Cert.MixReferenceIdeal.main_arg11) = m' ((c.tc : Thread Cert.MixReferenceIdeal.nD Cert.MixReferenceIdeal.τ).loc Cert.MixReferenceIdeal.main_arg11)
          ∧ r.2.mem ((c.tc : Thread Cert.MixReferenceIdeal.nD Cert.MixReferenceIdeal.τ).loc Cert.MixReferenceIdeal.main_arg12) = m' ((c.tc : Thread Cert.MixReferenceIdeal.nD Cert.MixReferenceIdeal.τ).loc Cert.MixReferenceIdeal.main_arg12)
          ∧ r.2.mem ((c.tc : Thread Cert.MixReferenceIdeal.nD Cert.MixReferenceIdeal.τ).loc Cert.MixReferenceIdeal.main_arg13) = m' ((c.tc : Thread Cert.MixReferenceIdeal.nD Cert.MixReferenceIdeal.τ).loc Cert.MixReferenceIdeal.main_arg13)
          ∧ r.2.mem ((c.tc : Thread Cert.MixReferenceIdeal.nD Cert.MixReferenceIdeal.τ).loc Cert.MixReferenceIdeal.main_arg14) = m' ((c.tc : Thread Cert.MixReferenceIdeal.nD Cert.MixReferenceIdeal.τ).loc Cert.MixReferenceIdeal.main_arg14)
          ∧ r.2.mem ((c.tc : Thread Cert.MixReferenceIdeal.nD Cert.MixReferenceIdeal.τ).loc Cert.MixReferenceIdeal.main_arg15) = m' ((c.tc : Thread Cert.MixReferenceIdeal.nD Cert.MixReferenceIdeal.τ).loc Cert.MixReferenceIdeal.main_arg15))

def Claim : Prop :=
  ∃ (hMlp : Cert.Mlp.Facts) (hMlpIdeal : Cert.MlpIdeal.Facts) (hMlpReferenceIdeal : Cert.MlpReferenceIdeal.Facts) (hSmix : Cert.Smix.Facts) (hSmixIdeal : Cert.SmixIdeal.Facts) (hSmixReferenceIdeal : Cert.SmixReferenceIdeal.Facts) (hMix : Cert.Mix.Facts) (hMixIdeal : Cert.MixIdeal.Facts) (hMixReferenceIdeal : Cert.MixReferenceIdeal.Facts) (hPre_sample_finite : Cert.Pre_sample_finite.Facts) (hPre_gates_finite : Cert.Pre_gates_finite.Facts) (hOn_mix_claimed : Cert.On_mix_claimed.Facts),
    quiescent_Mlp (hMlp := hMlp)
    ∧ quiescent_MlpIdeal (hMlpIdeal := hMlpIdeal)
    ∧ quiescent_MlpReferenceIdeal (hMlpReferenceIdeal := hMlpReferenceIdeal)
    ∧ quiescent_Smix (hSmix := hSmix)
    ∧ quiescent_SmixIdeal (hSmixIdeal := hSmixIdeal)
    ∧ quiescent_SmixIdeal_pre_sample_finite (hSmixIdeal := hSmixIdeal) (hPre_sample_finite := hPre_sample_finite)
    ∧ quiescent_SmixReferenceIdeal (hSmixReferenceIdeal := hSmixReferenceIdeal)
    ∧ quiescent_SmixReferenceIdeal_pre_sample_finite (hSmixReferenceIdeal := hSmixReferenceIdeal) (hPre_sample_finite := hPre_sample_finite)
    ∧ quiescent_Mix (hMix := hMix)
    ∧ quiescent_MixIdeal (hMixIdeal := hMixIdeal)
    ∧ quiescent_MixIdeal_pre_gates_finite (hMixIdeal := hMixIdeal) (hPre_gates_finite := hPre_gates_finite)
    ∧ quiescent_MixReferenceIdeal (hMixReferenceIdeal := hMixReferenceIdeal)
    ∧ quiescent_MixReferenceIdeal_pre_gates_finite (hMixReferenceIdeal := hMixReferenceIdeal) (hPre_gates_finite := hPre_gates_finite)
    ∧ preserves_Mlp_MlpIdeal
    ∧ algebraic_MlpIdeal_MlpReferenceIdeal (hMlpIdeal := hMlpIdeal) (hMlpReferenceIdeal := hMlpReferenceIdeal)
    ∧ preserves_Smix_SmixIdeal
    ∧ algebraic_SmixIdeal_SmixReferenceIdeal_pre_sample_finite (hSmixIdeal := hSmixIdeal) (hSmixReferenceIdeal := hSmixReferenceIdeal) (hPre_sample_finite := hPre_sample_finite)
    ∧ preserves_Mix_MixIdeal
    ∧ algebraic_MixIdeal_MixReferenceIdeal_on_mix_claimed_pre_gates_finite (hMixIdeal := hMixIdeal) (hMixReferenceIdeal := hMixReferenceIdeal) (hPre_gates_finite := hPre_gates_finite) (hOn_mix_claimed := hOn_mix_claimed)
-- ==== On_mix_claimed.lean ====
abbrev S8x2048x1024 : Shape := ⟨3, ![8, 2048, 1024]⟩
abbrev S8x6144 : Shape := ⟨2, ![8, 6144]⟩
abbrev S1x1024 : Shape := ⟨2, ![1, 1024]⟩
abbrev S2568x1024 : Shape := ⟨2, ![2568, 1024]⟩
abbrev S1x4 : Shape := ⟨2, ![1, 4]⟩
abbrev S1x128 : Shape := ⟨2, ![1, 128]⟩
abbrev S4x128x128 : Shape := ⟨3, ![4, 128, 128]⟩
abbrev S1x512 : Shape := ⟨2, ![1, 512]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S128x2568 : Shape := ⟨2, ![128, 2568]⟩
abbrev S128x4 : Shape := ⟨2, ![128, 4]⟩
abbrev S65536x128 : Shape := ⟨2, ![65536, 128]⟩
abbrev S_ : Shape := ⟨0, ![]⟩
abbrev S16384x1024 : Shape := ⟨2, ![16384, 1024]⟩
abbrev S8x4x128x128 : Shape := ⟨4, ![8, 4, 128, 128]⟩
abbrev S8x4x128 : Shape := ⟨3, ![8, 4, 128]⟩
abbrev S8x4x1x1 : Shape := ⟨4, ![8, 4, 1, 1]⟩
abbrev S8x15x512 : Shape := ⟨3, ![8, 15, 512]⟩
abbrev S1024x4096 : Shape := ⟨2, ![1024, 4096]⟩
abbrev S4096x1024 : Shape := ⟨2, ![4096, 1024]⟩
abbrev S128x512 : Shape := ⟨2, ![128, 512]⟩

class Facts : Prop where
  bcast_S_S16384x1024 : S_.BroadcastsInDim S16384x1024 (![] : Fin 0 → Fin S16384x1024.rank)
  bcast_S_S8x4x128x128 : S_.BroadcastsInDim S8x4x128x128 (![] : Fin 0 → Fin S8x4x128x128.rank)
  bcast_S_S8x4x128 : S_.BroadcastsInDim S8x4x128 (![] : Fin 0 → Fin S8x4x128.rank)
  bcast_S_S8x4x1x1 : S_.BroadcastsInDim S8x4x1x1 (![] : Fin 0 → Fin S8x4x1x1.rank)
  bcast_S_S8x15x512 : S_.BroadcastsInDim S8x15x512 (![] : Fin 0 → Fin S8x15x512.rank)
  bcast_S_S1024x4096 : S_.BroadcastsInDim S1024x4096 (![] : Fin 0 → Fin S1024x4096.rank)
  bcast_S_S4096x1024 : S_.BroadcastsInDim S4096x1024 (![] : Fin 0 → Fin S4096x1024.rank)
  bcast_S_S65536x128 : S_.BroadcastsInDim S65536x128 (![] : Fin 0 → Fin S65536x128.rank)
  bcast_S_S128x512 : S_.BroadcastsInDim S128x512 (![] : Fin 0 → Fin S128x512.rank)

variable [Facts]

def fn {F : FTy → Type} [FloatOps F] (main_arg0 : FVec F S8x2048x1024 .f32) (main_arg1 : FVec F S8x6144 .f32) (main_arg2 : FVec F S1x1024 .f32) (main_arg3 : FVec F S1x1024 .f32) (main_arg4 : FVec F S2568x1024 .f32) (main_arg5 : FVec F S1x4 .f32) (main_arg6 : FVec F S1x4 .f32) (main_arg7 : FVec F S1x128 .f32) (main_arg8 : FVec F S4x128x128 .f32) (main_arg9 : FVec F S1x512 .f32) (main_arg10 : FVec F S1x1024x1024 .f32) (main_arg11 : FVec F S1x1024x4096 .f32) (main_arg12 : FVec F S1x4096x1024 .f32) (main_arg13 : FVec F S128x2568 .f32) (main_arg14 : FVec F S128x4 .f32) (main_arg15 : FVec F S65536x128 .f32) : IVec S16384x1024 1 × IVec S8x4x128x128 1 × IVec S8x4x128 1 × IVec S8x4x1x1 1 × IVec S8x15x512 1 × IVec S1024x4096 1 × IVec S4096x1024 1 × IVec S65536x128 1 × IVec S128x512 1 :=
  let main_c : IVec S_ 1 := constantI S_ 1 0#1
  let main_v0 : IVec S16384x1024 1 := broadcastInDim S16384x1024 ![] bcast_S_S16384x1024 main_c
  let main_c_0 : IVec S_ 1 := constantI S_ 1 0#1
  let main_v1 : IVec S8x4x128x128 1 := broadcastInDim S8x4x128x128 ![] bcast_S_S8x4x128x128 main_c_0
  let main_c_1 : IVec S_ 1 := constantI S_ 1 0#1
  let main_v2 : IVec S8x4x128 1 := broadcastInDim S8x4x128 ![] bcast_S_S8x4x128 main_c_1
  let main_c_2 : IVec S_ 1 := constantI S_ 1 0#1
  let main_v3 : IVec S8x4x1x1 1 := broadcastInDim S8x4x1x1 ![] bcast_S_S8x4x1x1 main_c_2
  let main_c_3 : IVec S_ 1 := constantI S_ 1 1#1
  let main_v4 : IVec S8x15x512 1 := broadcastInDim S8x15x512 ![] bcast_S_S8x15x512 main_c_3
  let main_c_4 : IVec S_ 1 := constantI S_ 1 1#1
  let main_v5 : IVec S1024x4096 1 := broadcastInDim S1024x4096 ![] bcast_S_S1024x4096 main_c_4
  let main_c_5 : IVec S_ 1 := constantI S_ 1 1#1
  let main_v6 : IVec S4096x1024 1 := broadcastInDim S4096x1024 ![] bcast_S_S4096x1024 main_c_5
  let main_c_6 : IVec S_ 1 := constantI S_ 1 1#1
  let main_v7 : IVec S65536x128 1 := broadcastInDim S65536x128 ![] bcast_S_S65536x128 main_c_6
  let main_c_7 : IVec S_ 1 := constantI S_ 1 1#1
  let main_v8 : IVec S128x512 1 := broadcastInDim S128x512 ![] bcast_S_S128x512 main_c_7
  (main_v0, main_v1, main_v2, main_v3, main_v4, main_v5, main_v6, main_v7, main_v8)
-- ==== Pre_gates_finite.lean ====
abbrev S8x2048x1024 : Shape := ⟨3, ![8, 2048, 1024]⟩
abbrev S8x6144 : Shape := ⟨2, ![8, 6144]⟩
abbrev S1x1024 : Shape := ⟨2, ![1, 1024]⟩
abbrev S2568x1024 : Shape := ⟨2, ![2568, 1024]⟩
abbrev S1x4 : Shape := ⟨2, ![1, 4]⟩
abbrev S1x128 : Shape := ⟨2, ![1, 128]⟩
abbrev S4x128x128 : Shape := ⟨3, ![4, 128, 128]⟩
abbrev S1x512 : Shape := ⟨2, ![1, 512]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S128x2568 : Shape := ⟨2, ![128, 2568]⟩
abbrev S128x4 : Shape := ⟨2, ![128, 4]⟩
abbrev S65536x128 : Shape := ⟨2, ![65536, 128]⟩
abbrev S_ : Shape := ⟨0, ![]⟩

class Facts : Prop where
  slices_S128x2568_S128x4_0_2052 : S128x2568.Slices ![0, 2052] S128x4
  bcast_S_S128x4 : S_.BroadcastsInDim S128x4 (![] : Fin 0 → Fin S128x4.rank)
  reducesTo_S128x4_S_d0_1 : S128x4.ReducesTo [0, 1] S_
  h_S_ : 0 < S_.numel
  bcast_S_S1x4 : S_.BroadcastsInDim S1x4 (![] : Fin 0 → Fin S1x4.rank)
  reducesTo_S1x4_S_d0_1 : S1x4.ReducesTo [0, 1] S_

variable [Facts]

def fn {F : FTy → Type} [FloatOps F] (main_arg0 : FVec F S8x2048x1024 .f32) (main_arg1 : FVec F S8x6144 .f32) (main_arg2 : FVec F S1x1024 .f32) (main_arg3 : FVec F S1x1024 .f32) (main_arg4 : FVec F S2568x1024 .f32) (main_arg5 : FVec F S1x4 .f32) (main_arg6 : FVec F S1x4 .f32) (main_arg7 : FVec F S1x128 .f32) (main_arg8 : FVec F S4x128x128 .f32) (main_arg9 : FVec F S1x512 .f32) (main_arg10 : FVec F S1x1024x1024 .f32) (main_arg11 : FVec F S1x1024x4096 .f32) (main_arg12 : FVec F S1x4096x1024 .f32) (main_arg13 : FVec F S128x2568 .f32) (main_arg14 : FVec F S128x4 .f32) (main_arg15 : FVec F S65536x128 .f32) : IVec S_ 1 :=
  let main_v0 : FVec F S128x4 .f32 := (extractStridedSlice S128x4 ![0, 2052] · slices_S128x2568_S128x4_0_2052) main_arg13
  let main_v1 : FVec F S128x4 .f32 := Host.absf main_v0
  let main_cst : FVec F S_ .f32 := constant S_ .f32 0x7F800000#32
  let main_v2 : FVec F S128x4 .f32 := broadcastInDim S128x4 ![] bcast_S_S128x4 main_cst
  let main_v3 : IVec S128x4 1 := cmpf .olt main_v1 main_v2
  let main_c : IVec S_ 1 := constantI S_ 1 1#1
  let main_v4 : IVec S_ 1 := (fun x v => Host.reduce IntOp.andi x v reducesTo_S128x4_S_d0_1 h_S_) main_v3 main_c
  let main_v5 : FVec F S1x4 .f32 := Host.absf main_arg6
  let main_cst_0 : FVec F S_ .f32 := constant S_ .f32 0x7F800000#32
  let main_v6 : FVec F S1x4 .f32 := broadcastInDim S1x4 ![] bcast_S_S1x4 main_cst_0
  let main_v7 : IVec S1x4 1 := cmpf .olt main_v5 main_v6
  let main_c_1 : IVec S_ 1 := constantI S_ 1 1#1
  let main_v8 : IVec S_ 1 := (fun x v => Host.reduce IntOp.andi x v reducesTo_S1x4_S_d0_1 h_S_) main_v7 main_c_1
  let main_v9 : IVec S_ 1 := andi main_v4 main_v8
  main_v9
-- ==== Pre_sample_finite.lean ====
abbrev S128x1x1024 : Shape := ⟨3, ![128, 1, 1024]⟩
abbrev S128x2568 : Shape := ⟨2, ![128, 2568]⟩
abbrev S128x512 : Shape := ⟨2, ![128, 512]⟩
abbrev S128x6144 : Shape := ⟨2, ![128, 6144]⟩
abbrev S128x4x128 : Shape := ⟨3, ![128, 4, 128]⟩
abbrev S128x4 : Shape := ⟨2, ![128, 4]⟩
abbrev S128x15x512 : Shape := ⟨3, ![128, 15, 512]⟩
abbrev S1x4 : Shape := ⟨2, ![1, 4]⟩
abbrev S1x128 : Shape := ⟨2, ![1, 128]⟩
abbrev S4x128x128 : Shape := ⟨3, ![4, 128, 128]⟩
abbrev S1x512 : Shape := ⟨2, ![1, 512]⟩
abbrev S1024x1024 : Shape := ⟨2, ![1024, 1024]⟩
abbrev S1x1024 : Shape := ⟨2, ![1, 1024]⟩
abbrev S128x516 : Shape := ⟨2, ![128, 516]⟩
abbrev S_ : Shape := ⟨0, ![]⟩

class Facts : Prop where
  slices_S128x2568_S128x516_0_2052 : S128x2568.Slices ![0, 2052] S128x516
  bcast_S_S128x516 : S_.BroadcastsInDim S128x516 (![] : Fin 0 → Fin S128x516.rank)
  reducesTo_S128x516_S_d0_1 : S128x516.ReducesTo [0, 1] S_
  h_S_ : 0 < S_.numel
  bcast_S_S128x15x512 : S_.BroadcastsInDim S128x15x512 (![] : Fin 0 → Fin S128x15x512.rank)
  reducesTo_S128x15x512_S_d0_1_2 : S128x15x512.ReducesTo [0, 1, 2] S_
  bcast_S_S1x4 : S_.BroadcastsInDim S1x4 (![] : Fin 0 → Fin S1x4.rank)
  reducesTo_S1x4_S_d0_1 : S1x4.ReducesTo [0, 1] S_

variable [Facts]

def fn {F : FTy → Type} [FloatOps F] (main_arg0 : FVec F S128x1x1024 .f32) (main_arg1 : FVec F S128x2568 .f32) (main_arg2 : FVec F S128x512 .f32) (main_arg3 : FVec F S128x6144 .f32) (main_arg4 : FVec F S128x4x128 .f32) (main_arg5 : FVec F S128x4 .f32) (main_arg6 : FVec F S128x15x512 .f32) (main_arg7 : FVec F S1x4 .f32) (main_arg8 : FVec F S1x4 .f32) (main_arg9 : FVec F S1x128 .f32) (main_arg10 : FVec F S4x128x128 .f32) (main_arg11 : FVec F S1x512 .f32) (main_arg12 : FVec F S1024x1024 .f32) (main_arg13 : FVec F S1x1024 .f32) : IVec S_ 1 :=
  let main_v0 : FVec F S128x516 .f32 := (extractStridedSlice S128x516 ![0, 2052] · slices_S128x2568_S128x516_0_2052) main_arg1
  let main_v1 : FVec F S128x516 .f32 := Host.absf main_v0
  let main_cst : FVec F S_ .f32 := constant S_ .f32 0x7F800000#32
  let main_v2 : FVec F S128x516 .f32 := broadcastInDim S128x516 ![] bcast_S_S128x516 main_cst
  let main_v3 : IVec S128x516 1 := cmpf .olt main_v1 main_v2
  let main_c : IVec S_ 1 := constantI S_ 1 1#1
  let main_v4 : IVec S_ 1 := (fun x v => Host.reduce IntOp.andi x v reducesTo_S128x516_S_d0_1 h_S_) main_v3 main_c
  let main_v5 : FVec F S128x15x512 .f32 := Host.absf main_arg6
  let main_cst_0 : FVec F S_ .f32 := constant S_ .f32 0x7F800000#32
  let main_v6 : FVec F S128x15x512 .f32 := broadcastInDim S128x15x512 ![] bcast_S_S128x15x512 main_cst_0
  let main_v7 : IVec S128x15x512 1 := cmpf .olt main_v5 main_v6
  let main_c_1 : IVec S_ 1 := constantI S_ 1 1#1
  let main_v8 : IVec S_ 1 := (fun x v => Host.reduce IntOp.andi x v reducesTo_S128x15x512_S_d0_1_2 h_S_) main_v7 main_c_1
  let main_v9 : IVec S_ 1 := andi main_v4 main_v8
  let main_v10 : FVec F S1x4 .f32 := Host.absf main_arg8
  let main_cst_2 : FVec F S_ .f32 := constant S_ .f32 0x7F800000#32
  let main_v11 : FVec F S1x4 .f32 := broadcastInDim S1x4 ![] bcast_S_S1x4 main_cst_2
  let main_v12 : IVec S1x4 1 := cmpf .olt main_v10 main_v11
  let main_c_3 : IVec S_ 1 := constantI S_ 1 1#1
  let main_v13 : IVec S_ 1 := (fun x v => Host.reduce IntOp.andi x v reducesTo_S1x4_S_d0_1 h_S_) main_v12 main_c_3
  let main_v14 : IVec S_ 1 := andi main_v9 main_v13
  main_v14
-- ==== Mlp.lean ====
abbrev S16384x1024 : Shape := ⟨2, ![16384, 1024]⟩
abbrev S128x1024 : Shape := ⟨2, ![128, 1024]⟩
abbrev S8x6144 : Shape := ⟨2, ![8, 6144]⟩
abbrev S128x6144 : Shape := ⟨2, ![128, 6144]⟩
abbrev S1x1024 : Shape := ⟨2, ![1, 1024]⟩
abbrev S1024x4096 : Shape := ⟨2, ![1024, 4096]⟩
abbrev S4096x1024 : Shape := ⟨2, ![4096, 1024]⟩
abbrev S128x1x1024 : Shape := ⟨3, ![128, 1, 1024]⟩
abbrev S1024x1024 : Shape := ⟨2, ![1024, 1024]⟩
abbrev S1x6144 : Shape := ⟨2, ![1, 6144]⟩
abbrev S512x1024 : Shape := ⟨2, ![512, 1024]⟩
abbrev S512 : Shape := ⟨1, ![512]⟩
abbrev S512x1 : Shape := ⟨2, ![512, 1]⟩
abbrev S128 : Shape := ⟨1, ![128]⟩
abbrev S128x1 : Shape := ⟨2, ![128, 1]⟩

abbrev nBuf : Space → Nat
  | .hbm => 10
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S128x1024, .f32⟩
  | .hbm, ⟨2, _⟩ => ⟨S8x6144, .f32⟩
  | .hbm, ⟨3, _⟩ => ⟨S128x6144, .f32⟩
  | .hbm, ⟨4, _⟩ => ⟨S1x1024, .f32⟩
  | .hbm, ⟨5, _⟩ => ⟨S1x1024, .f32⟩
  | .hbm, ⟨6, _⟩ => ⟨S1024x4096, .bf16⟩
  | .hbm, ⟨7, _⟩ => ⟨S4096x1024, .bf16⟩
  | .hbm, ⟨8, _⟩ => ⟨S16384x1024, .f32⟩
  | .hbm, ⟨9, _⟩ => ⟨S128x1x1024, .f32⟩
  | .local _ .vmem, ⟨0, _⟩ => ⟨S1024x1024, .f32⟩
  | .local _ .vmem, ⟨1, _⟩ => ⟨S1024x1024, .f32⟩
  | .local _ .vmem, ⟨2, _⟩ => ⟨S128x1024, .f32⟩
  | .local _ .vmem, ⟨3, _⟩ => ⟨S8x6144, .f32⟩
  | .local _ .vmem, ⟨4, _⟩ => ⟨S128x6144, .f32⟩
  | .local _ .vmem, ⟨5, _⟩ => ⟨S1x1024, .f32⟩
  | .local _ .vmem, ⟨6, _⟩ => ⟨S1x1024, .f32⟩
  | .local _ .vmem, ⟨7, _⟩ => ⟨S1024x4096, .bf16⟩
  | .local _ .vmem, ⟨8, _⟩ => ⟨S4096x1024, .bf16⟩
  | .local _ .vmem, ⟨9, _⟩ => ⟨S1024x1024, .f32⟩
  | .local _ .vmem, ⟨10, _⟩ => ⟨S1024x1024, .f32⟩
  | .local _ .vmem, ⟨11, _⟩ => ⟨S128x1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_off1 (i : grid0.Coords) : Fin 2 → Nat :=
  let arg0 : BitVec 32 := BitVec.ofNat 32 (i 0).val
  let c0_i32_2 : BitVec 32 := 0#32
  let v7 : BitVec 1 := Scalar.cmpi .sgt arg0 c0_i32_2
  let v8 : BitVec 32 := Scalar.extui v7
  let c0_i32_3 : BitVec 32 := 0#32
  let v9 : BitVec 1 := Scalar.cmpi .slt arg0 c0_i32_3
  let v10 : BitVec 32 := Scalar.extui v9
  let v11 : BitVec 32 := Scalar.subi v8 v10
  let c2_i32 : BitVec 32 := 2#32
  let c0_i32_4 : BitVec 32 := 0#32
  let v12 : BitVec 1 := Scalar.cmpi .sgt c2_i32 c0_i32_4
  let v13 : BitVec 32 := Scalar.extui v12
  let c0_i32_5 : BitVec 32 := 0#32
  let v14 : BitVec 1 := Scalar.cmpi .slt c2_i32 c0_i32_5
  let v15 : BitVec 32 := Scalar.extui v14
  let v16 : BitVec 32 := Scalar.subi v13 v15
  let v17 : BitVec 1 := Scalar.cmpi .ne v11 v16
  let v18 : BitVec 32 := Scalar.remsi arg0 c2_i32
  let c0_i32_6 : BitVec 32 := 0#32
  let v19 : BitVec 1 := Scalar.cmpi .ne v18 c0_i32_6
  let v20 : BitVec 1 := Scalar.andi v17 v19
  let v6 : BitVec 32 := Scalar.divsi arg0 c2_i32
  let c1_i32 : BitVec 32 := 1#32
  let v21 : BitVec 32 := Scalar.subi v6 c1_i32
  let v22 : BitVec 32 := Scalar.select v20 v21 v6
  let v23 : Index := Scalar.indexCast v22
  let c0 : Index := 0#32
  ![v23.toNat, 0]
def k0_cond2 (i : grid0.Coords) : BitVec 1 :=
  let arg0 : BitVec 32 := BitVec.ofNat 32 (i 0).val
  let c16_i32_0 : BitVec 32 := 16#32
  let v3 : BitVec 1 := Scalar.cmpi .eq arg0 c16_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S128x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== MlpReferenceIdeal.lean ====
abbrev S16384x1024 : Shape := ⟨2, ![16384, 1024]⟩
abbrev S128x1024 : Shape := ⟨2, ![128, 1024]⟩
abbrev S8x6144 : Shape := ⟨2, ![8, 6144]⟩
abbrev S128x6144 : Shape := ⟨2, ![128, 6144]⟩
abbrev S1x1024 : Shape := ⟨2, ![1, 1024]⟩
abbrev S1024x4096 : Shape := ⟨2, ![1024, 4096]⟩
abbrev S4096x1024 : Shape := ⟨2, ![4096, 1024]⟩
abbrev S8x2048x1024 : Shape := ⟨3, ![8, 2048, 1024]⟩
abbrev S8x1x6144 : Shape := ⟨3, ![8, 1, 6144]⟩
abbrev S8x1x1024 : Shape := ⟨3, ![8, 1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4096 : Shape := ⟨3, ![8, 2048, 4096]⟩
abbrev S128x1x1024 : Shape := ⟨3, ![128, 1, 1024]⟩
abbrev S128x1x6144 : Shape := ⟨3, ![128, 1, 6144]⟩
abbrev S128x1 : Shape := ⟨2, ![128, 1]⟩
abbrev S128x1x1 : Shape := ⟨3, ![128, 1, 1]⟩
abbrev S128x1x4096 : Shape := ⟨3, ![128, 1, 4096]⟩

abbrev nBuf : Space → Nat
  | .hbm => 124
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S128x1024, .f32⟩
  | .hbm, ⟨2, _⟩ => ⟨S8x6144, .f32⟩
  | .hbm, ⟨3, _⟩ => ⟨S128x6144, .f32⟩
  | .hbm, ⟨4, _⟩ => ⟨S1x1024, .f32⟩
  | .hbm, ⟨5, _⟩ => ⟨S1x1024, .f32⟩
  | .hbm, ⟨6, _⟩ => ⟨S1024x4096, .bf16⟩
  | .hbm, ⟨7, _⟩ => ⟨S4096x1024, .bf16⟩
  | .hbm, ⟨8, _⟩ => ⟨S1024x4096, .f32⟩
  | .hbm, ⟨9, _⟩ => ⟨S4096x1024, .f32⟩
  | .hbm, ⟨10, _⟩ => ⟨S8x2048x1024, .f32⟩
  | .hbm, ⟨11, _⟩ => ⟨S8x1x6144, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x1x1024, .f32⟩
  | .hbm, ⟨18, _⟩ => ⟨S1024, .f32⟩
  | .hbm, ⟨19, _⟩ => ⟨S8x2048x1024, .f32⟩
  | .hbm, ⟨20, _⟩ => ⟨S_, .f32⟩
  | .hbm, ⟨21, _⟩ => ⟨S8x2048, .f32⟩
  | .hbm, ⟨22, _⟩ => ⟨S8x2048x1, .f32⟩
  | .hbm, ⟨23, _⟩ => ⟨S_, .f32⟩
  | .hbm, ⟨24, _⟩ => ⟨S8x2048x1, .f32⟩
  | .hbm, ⟨25, _⟩ => ⟨S8x2048x1, .f32⟩
  | .hbm, ⟨26, _⟩ => ⟨S_, .f32⟩
  | .hbm, ⟨27, _⟩ => ⟨S8x2048x1, .f32⟩
  | .hbm, ⟨28, _⟩ => ⟨S8x2048x1, .f32⟩
  | .hbm, ⟨29, _⟩ => ⟨S8x2048x1, .f32⟩
  | .hbm, ⟨30, _⟩ => ⟨S8x2048x1024, .f32⟩
  | .hbm, ⟨31, _⟩ => ⟨S8x2048x1024, .f32⟩
  | .hbm, ⟨32, _⟩ => ⟨S1x1x1024, .f32⟩
  | .hbm, ⟨33, _⟩ => ⟨S8x2048x1024, .f32⟩
  | .hbm, ⟨34, _⟩ => ⟨S8x2048x1024, .f32⟩
  | .hbm, ⟨35, _⟩ => ⟨S_, .f32⟩
  | .hbm, ⟨36, _⟩ => ⟨S8x1x1024, .f32⟩
  | .hbm, ⟨37, _⟩ => ⟨S8x1x1024, .f32⟩
  | .hbm, ⟨38, _⟩ => ⟨S8x2048x1024, .f32⟩
  | .hbm, ⟨39, _⟩ => ⟨S8x2048x1024, .f32⟩
  | .hbm, ⟨40, _⟩ => ⟨S8x2048x1024, .f32⟩
  | .hbm, ⟨41, _⟩ => ⟨S8x2048x1024, .f32⟩
  | .hbm, ⟨42, _⟩ => ⟨S8x2048x4096, .f32⟩
  | .hbm, ⟨43, _⟩ => ⟨S_, .f32⟩
  | .hbm, ⟨44, _⟩ => ⟨S8x2048x4096, .f32⟩
  | .hbm, ⟨45, _⟩ => ⟨S8x2048x4096, .f32⟩
  | .hbm, ⟨46, _⟩ => ⟨S8x2048x4096, .f32⟩
  | .hbm, ⟨47, _⟩ => ⟨S8x2048x1024, .f32⟩
  | .hbm, ⟨48, _⟩ => ⟨S1024, .f32⟩
  | .hbm, ⟨49, _⟩ => ⟨S8x2048x1024, .f32⟩
  | .hbm, ⟨50, _⟩ => ⟨S_, .f32⟩
  | .hbm, ⟨51, _⟩ => ⟨S8x2048, .f32⟩
  | .hbm, ⟨52, _⟩ => ⟨S8x2048x1, .f32⟩
  | .hbm, ⟨53, _⟩ => ⟨S_, .f32⟩
  | .hbm, ⟨54, _⟩ => ⟨S8x2048x1, .f32⟩
  | .hbm, ⟨55, _⟩ => ⟨S8x2048x1, .f32⟩
  | .hbm, ⟨56, _⟩ => ⟨S_, .f32⟩
  | .hbm, ⟨57, _⟩ => ⟨S8x2048x1, .f32⟩
  | .hbm, ⟨58, _⟩ => ⟨S8x2048x1, .f32⟩
  | .hbm, ⟨59, _⟩ => ⟨S8x2048x1, .f32⟩
  | .hbm, ⟨60, _⟩ => ⟨S8x2048x1024, .f32⟩
  | .hbm, ⟨61, _⟩ => ⟨S8x2048x1024, .f32⟩
  | .hbm, ⟨62, _⟩ => ⟨S1x1x1024, .f32⟩
  | .hbm, ⟨63, _⟩ => ⟨S8x2048x1024, .f32⟩
  | .hbm, ⟨64, _⟩ => ⟨S8x2048x1024, .f32⟩
  | .hbm, ⟨65, _⟩ => ⟨S8x2048x1024, .f32⟩
  | .hbm, ⟨66, _⟩ => ⟨S8x2048x1024, .f32⟩
  | .hbm, ⟨67, _⟩ => ⟨S8x2048x1024, .f32⟩
  | .hbm, ⟨68, _⟩ => ⟨S16384x1024, .f32⟩
  | .hbm, ⟨69, _⟩ => ⟨S128x1x1024, .f32⟩
  | .hbm, ⟨70, _⟩ => ⟨S128x1x6144, .f32⟩
  | .hbm, ⟨71, _⟩ => ⟨S128x1x1024, .f32⟩
  | .hbm, ⟨72, _⟩ => ⟨S128x1x1024, .f32⟩
  | .hbm, ⟨73, _⟩ => ⟨S128x1x1024, .f32⟩
  | .hbm, ⟨74, _⟩ => ⟨S128x1x1024, .f32⟩
  | .hbm, ⟨75, _⟩ => ⟨S128x1x1024, .f32⟩
  | .hbm, ⟨76, _⟩ => ⟨S128x1x1024, .f32⟩
  | .hbm, ⟨77, _⟩ => ⟨S1024, .f32⟩
  | .hbm, ⟨78, _⟩ => ⟨S128x1x1024, .f32⟩
  | .hbm, ⟨79, _⟩ => ⟨S_, .f32⟩
  | .hbm, ⟨80, _⟩ => ⟨S128x1, .f32⟩
  | .hbm, ⟨81, _⟩ => ⟨S128x1x1, .f32⟩
  | .hbm, ⟨82, _⟩ => ⟨S_, .f32⟩
  | .hbm, ⟨83, _⟩ => ⟨S128x1x1, .f32⟩
  | .hbm, ⟨84, _⟩ => ⟨S128x1x1, .f32⟩
  | .hbm, ⟨85, _⟩ => ⟨S_, .f32⟩
  | .hbm, ⟨86, _⟩ => ⟨S128x1x1, .f32⟩
  | .hbm, ⟨87, _⟩ => ⟨S128x1x1, .f32⟩
  | .hbm, ⟨88, _⟩ => ⟨S128x1x1, .f32⟩
  | .hbm, ⟨89, _⟩ => ⟨S128x1x1024, .f32⟩
  | .hbm, ⟨90, _⟩ => ⟨S128x1x1024, .f32⟩
  | .hbm, ⟨91, _⟩ => ⟨S1x1x1024, .f32⟩
  | .hbm, ⟨92, _⟩ => ⟨S128x1x1024, .f32⟩
  | .hbm, ⟨93, _⟩ => ⟨S128x1x1024, .f32⟩
  | .hbm, ⟨94, _⟩ => ⟨S_, .f32⟩
  | .hbm, ⟨95, _⟩ => ⟨S128x1x1024, .f32⟩
  | .hbm, ⟨96, _⟩ => ⟨S128x1x1024, .f32⟩
  | .hbm, ⟨97, _⟩ => ⟨S128x1x1024, .f32⟩
  | .hbm, ⟨98, _⟩ => ⟨S128x1x1024, .f32⟩
  | .hbm, ⟨99, _⟩ => ⟨S128x1x4096, .f32⟩
  | .hbm, ⟨100, _⟩ => ⟨S_, .f32⟩
  | .hbm, ⟨101, _⟩ => ⟨S128x1x4096, .f32⟩
  | .hbm, ⟨102, _⟩ => ⟨S128x1x4096, .f32⟩
  | .hbm, ⟨103, _⟩ => ⟨S128x1x4096, .f32⟩
  | .hbm, ⟨104, _⟩ => ⟨S128x1x1024, .f32⟩
  | .hbm, ⟨105, _⟩ => ⟨S1024, .f32⟩
  | .hbm, ⟨106, _⟩ => ⟨S128x1x1024, .f32⟩
  | .hbm, ⟨107, _⟩ => ⟨S_, .f32⟩
  | .hbm, ⟨108, _⟩ => ⟨S128x1, .f32⟩
  | .hbm, ⟨109, _⟩ => ⟨S128x1x1, .f32⟩
  | .hbm, ⟨110, _⟩ => ⟨S_, .f32⟩
  | .hbm, ⟨111, _⟩ => ⟨S128x1x1, .f32⟩
  | .hbm, ⟨112, _⟩ => ⟨S128x1x1, .f32⟩
  | .hbm, ⟨113, _⟩ => ⟨S_, .f32⟩
  | .hbm, ⟨114, _⟩ => ⟨S128x1x1, .f32⟩
  | .hbm, ⟨115, _⟩ => ⟨S128x1x1, .f32⟩
  | .hbm, ⟨116, _⟩ => ⟨S128x1x1, .f32⟩
  | .hbm, ⟨117, _⟩ => ⟨S128x1x1024, .f32⟩
  | .hbm, ⟨118, _⟩ => ⟨S128x1x1024, .f32⟩
  | .hbm, ⟨119, _⟩ => ⟨S1x1x1024, .f32⟩
  | .hbm, ⟨120, _⟩ => ⟨S128x1x1024, .f32⟩
  | .hbm, ⟨121, _⟩ => ⟨S128x1x1024, .f32⟩
  | .hbm, ⟨122, _⟩ => ⟨S128x1x1024, .f32⟩
  | .hbm, ⟨123, _⟩ => ⟨S128x1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_call0_cst : Ref sig .tc := ⟨.hbm, 43, rfl⟩
abbrev main_call0_v0 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_3 : Ref sig .tc := ⟨.hbm, 50, rfl⟩
abbrev main_v36 : Ref sig .tc := ⟨.hbm, 51, rfl⟩
abbrev main_v37 : Ref sig .tc := ⟨.hbm, 52, rfl⟩
abbrev main_cst_4 : Ref sig .tc := ⟨.hbm, 53, rfl⟩
abbrev main_v38 : Ref sig .tc := ⟨.hbm, 54, rfl⟩
abbrev main_v39 : Ref sig .tc := ⟨.hbm, 55, rfl⟩
abbrev main_cst_5 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_6 : Ref sig .tc := ⟨.hbm, 79, rfl⟩
abbrev main_v62 : Ref sig .tc := ⟨.hbm, 80, rfl⟩
abbrev main_v63 : Ref sig .tc := ⟨.hbm, 81, rfl⟩
abbrev main_cst_7 : Ref sig .tc := ⟨.hbm, 82, rfl⟩
abbrev main_v64 : Ref sig .tc := ⟨.hbm, 83, rfl⟩
abbrev main_v65 : Ref sig .tc := ⟨.hbm, 84, rfl⟩
abbrev main_cst_8 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_9 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_call1_cst : Ref sig .tc := ⟨.hbm, 100, rfl⟩
abbrev main_call1_v0 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_cst_10 : Ref sig .tc := ⟨.hbm, 107, rfl⟩
abbrev main_v84 : Ref sig .tc := ⟨.hbm, 108, rfl⟩
abbrev main_v85 : Ref sig .tc := ⟨.hbm, 109, rfl⟩
abbrev main_cst_11 : Ref sig .tc := ⟨.hbm, 110, rfl⟩
abbrev main_v86 : Ref sig .tc := ⟨.hbm, 111, rfl⟩
abbrev main_v87 : Ref sig .tc := ⟨.hbm, 112, rfl⟩
abbrev main_cst_12 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩

abbrev nD : Nat := 1
abbrev τ : Topo := Topo.v7x

variable {F : FTy → Type} [FloatOps F]
-- ==== Smix.lean ====
abbrev S128x1x1024 : Shape := ⟨3, ![128, 1, 1024]⟩
abbrev S128x2568 : Shape := ⟨2, ![128, 2568]⟩
abbrev S128x512 : Shape := ⟨2, ![128, 512]⟩
abbrev S128x6144 : Shape := ⟨2, ![128, 6144]⟩
abbrev S128x4x128 : Shape := ⟨3, ![128, 4, 128]⟩
abbrev S128x4 : Shape := ⟨2, ![128, 4]⟩
abbrev S128x15x512 : Shape := ⟨3, ![128, 15, 512]⟩
abbrev S1x4 : Shape := ⟨2, ![1, 4]⟩
abbrev S1x128 : Shape := ⟨2, ![1, 128]⟩
abbrev S4x128x128 : Shape := ⟨3, ![4, 128, 128]⟩
abbrev S1x512 : Shape := ⟨2, ![1, 512]⟩
abbrev S1024x1024 : Shape := ⟨2, ![1024, 1024]⟩
abbrev S1x1024 : Shape := ⟨2, ![1, 1024]⟩
abbrev S15x128x512 : Shape := ⟨3, ![15, 128, 512]⟩
abbrev S128x1024 : Shape := ⟨2, ![128, 1024]⟩
abbrev S128x8 : Shape := ⟨2, ![128, 8]⟩
abbrev S1x8 : Shape := ⟨2, ![1, 8]⟩
abbrev S128x128 : Shape := ⟨2, ![128, 128]⟩
abbrev S128x1x128 : Shape := ⟨3, ![128, 1, 128]⟩
abbrev S128x1 : Shape := ⟨2, ![128, 1]⟩
abbrev S128 : Shape := ⟨1, ![128]⟩
abbrev S1x128x128 : Shape := ⟨3, ![1, 128, 128]⟩
abbrev S14x128x512 : Shape := ⟨3, ![14, 128, 512]⟩
abbrev S1x128x512 : Shape := ⟨3, ![1, 128, 512]⟩
abbrev S512x1024 : Shape := ⟨2, ![512, 1024]⟩

abbrev nBuf : Space → Nat
  | .hbm => 19
  | .vmem => 18
  | .smem => 0
  | _ => 0

abbrev bufTy : (tb : Table) → Fin (tcTables nBuf tb) → BufTy
  | .hbm, ⟨0, _⟩ => ⟨S128x1x1024, .f32⟩
  | .hbm, ⟨1, _⟩ => ⟨S128x2568, .f32⟩
  | .hbm, ⟨2, _⟩ => ⟨S128x512, .f32⟩
  | .hbm, ⟨3, _⟩ => ⟨S128x6144, .f32⟩
  | .hbm, ⟨4, _⟩ => ⟨S128x4x128, .f32⟩
  | .hbm, ⟨5, _⟩ => ⟨S128x4, .f32⟩
  | .hbm, ⟨6, _⟩ => ⟨S128x15x512, .f32⟩
  | .hbm, ⟨7, _⟩ => ⟨S1x4, .f32⟩
  | .hbm, ⟨8, _⟩ => ⟨S1x4, .f32⟩
  | .hbm, ⟨9, _⟩ => ⟨S1x128, .f32⟩
  | .hbm, ⟨10, _⟩ => ⟨S4x128x128, .f32⟩
  | .hbm, ⟨11, _⟩ => ⟨S1x512, .f32⟩
  | .hbm, ⟨12, _⟩ => ⟨S1024x1024, .f32⟩
  | .hbm, ⟨13, _⟩ => ⟨S1x1024, .f32⟩
  | .hbm, ⟨14, _⟩ => ⟨S15x128x512, .f32⟩
  | .hbm, ⟨15, _⟩ => ⟨S128x1024, .f32⟩
  | .hbm, ⟨16, _⟩ => ⟨S128x4x128, .f32⟩
  | .hbm, ⟨17, _⟩ => ⟨S128x4, .f32⟩
  | .hbm, ⟨18, _⟩ => ⟨S15x128x512, .f32⟩
  | .local _ .vmem, ⟨0, _⟩ => ⟨S128x1x1024, .f32⟩
  | .local _ .vmem, ⟨1, _⟩ => ⟨S128x2568, .f32⟩
  | .local _ .vmem, ⟨2, _⟩ => ⟨S128x512, .f32⟩
  | .local _ .vmem, ⟨3, _⟩ => ⟨S128x6144, .f32⟩
  | .local _ .vmem, ⟨4, _⟩ => ⟨S128x4x128, .f32⟩
  | .local _ .vmem, ⟨5, _⟩ => ⟨S128x4, .f32⟩
  | .local _ .vmem, ⟨6, _⟩ => ⟨S15x128x512, .f32⟩
  | .local _ .vmem, ⟨7, _⟩ => ⟨S1x4, .f32⟩
  | .local _ .vmem, ⟨8, _⟩ => ⟨S1x4, .f32⟩
  | .local _ .vmem, ⟨9, _⟩ => ⟨S1x128, .f32⟩
  | .local _ .vmem, ⟨10, _⟩ => ⟨S4x128x128, .f32⟩
  | .local _ .vmem, ⟨11, _⟩ => ⟨S1x512, .f32⟩
  | .local _ .vmem, ⟨12, _⟩ => ⟨S1024x1024, .f32⟩
  | .local _ .vmem, ⟨13, _⟩ => ⟨S1x1024, .f32⟩
  | .local _ .vmem, ⟨14, _⟩ => ⟨S128x1024, .f32⟩
  | .local _ .vmem, ⟨15, _⟩ => ⟨S128x4x128, .f32⟩
  | .local _ .vmem, ⟨16, _⟩ => ⟨S128x4, .f32⟩
  | .local _ .vmem, ⟨17, _⟩ => ⟨S15x128x512, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1_0 : Ref sig .tc := ⟨.hbm, 15, rfl⟩
abbrev main_v1_1 : Ref sig .tc := ⟨.hbm, 16, rfl⟩
abbrev main_v1_2 : Ref sig .tc := ⟨.hbm, 17, rfl⟩
abbrev main_v1_3 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := .none

abbrev stage0_0 : Fin 1 → Memref sig .tc .vmem S128x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2568 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S15x128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1024x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S128x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S128x4x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S128x4 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S15x128x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
-- ==== SmixReferenceIdeal.lean ====
abbrev S128x1x1024 : Shape := ⟨3, ![128, 1, 1024]⟩
abbrev S128x2568 : Shape := ⟨2, ![128, 2568]⟩
abbrev S128x512 : Shape := ⟨2, ![128, 512]⟩
abbrev S128x6144 : Shape := ⟨2, ![128, 6144]⟩
abbrev S128x4x128 : Shape := ⟨3, ![128, 4, 128]⟩
abbrev S128x4 : Shape := ⟨2, ![128, 4]⟩
abbrev S128x15x512 : Shape := ⟨3, ![128, 15, 512]⟩
abbrev S1x4 : Shape := ⟨2, ![1, 4]⟩
abbrev S1x128 : Shape := ⟨2, ![1, 128]⟩
abbrev S4x128x128 : Shape := ⟨3, ![4, 128, 128]⟩
abbrev S1x512 : Shape := ⟨2, ![1, 512]⟩
abbrev S1024x1024 : Shape := ⟨2, ![1024, 1024]⟩
abbrev S1x1024 : Shape := ⟨2, ![1, 1024]⟩
abbrev S128x1x6144 : Shape := ⟨3, ![128, 1, 6144]⟩
abbrev S128x1x2568 : Shape := ⟨3, ![128, 1, 2568]⟩
abbrev S128x1x512 : Shape := ⟨3, ![128, 1, 512]⟩
abbrev S128x1x4 : Shape := ⟨3, ![128, 1, 4]⟩
abbrev S4 : Shape := ⟨1, ![4]⟩
abbrev S1x1x4 : Shape := ⟨3, ![1, 1, 4]⟩
abbrev S128x1x4x128 : Shape := ⟨4, ![128, 1, 4, 128]⟩
abbrev S128x4x1x128 : Shape := ⟨4, ![128, 4, 1, 128]⟩
abbrev S_ : Shape := ⟨0, ![]⟩
abbrev S128x4x1 : Shape := ⟨3, ![128, 4, 1]⟩
abbrev S128x4x1x1 : Shape := ⟨4, ![128, 4, 1, 1]⟩
abbrev S128 : Shape := ⟨1, ![128]⟩
abbrev S128x1x4x1 : Shape := ⟨4, ![128, 1, 4, 1]⟩
abbrev S1x1x1x128 : Shape := ⟨4, ![1, 1, 1, 128]⟩
abbrev S128x16x512 : Shape := ⟨3, ![128, 16, 512]⟩
abbrev S128x17x512 : Shape := ⟨3, ![128, 17, 512]⟩
abbrev S1 : Shape := ⟨1, ![1]⟩
abbrev S128x1x128 : Shape := ⟨3, ![128, 1, 128]⟩
abbrev S1x1x1 : Shape := ⟨3, ![1, 1, 1]⟩
abbrev S4x128x128x1 : Shape := ⟨4, ![4, 128, 128, 1]⟩
abbrev S512 : Shape := ⟨1, ![512]⟩
abbrev S1x1x512 : Shape := ⟨3, ![1, 1, 512]⟩
abbrev S1024 : Shape := ⟨1, ![1024]⟩
abbrev S128x1 : Shape := ⟨2, ![128, 1]⟩
abbrev S128x1x1 : Shape := ⟨3, ![128, 1, 1]⟩
abbrev S1x1x1024 : Shape := ⟨3, ![1, 1, 1024]⟩
abbrev S128x1024 : Shape := ⟨2, ![128, 1024]⟩
abbrev S15x128x512 : Shape := ⟨3, ![15, 128, 512]⟩

abbrev nBuf : Space → Nat
  | .hbm => 243
  | .vmem => 0
  | .smem => 0
  | _ => 0

abbrev hbmTy0_0 (i : Nat) : BufTy := match i % 128 with
  | 0 => ⟨S128x1x1024, .f32⟩
  | 1 => ⟨S128x2568, .f32⟩
  | 2 => ⟨S128x512, .f32⟩
  | 3 => ⟨S128x6144, .f32⟩
  | 4 => ⟨S128x4x128, .f32⟩
  | 5 => ⟨S128x4, .f32⟩
  | 6 => ⟨S128x15x512, .f32⟩
  | 7 => ⟨S1x4, .f32⟩
  | 8 => ⟨S1x4, .f32⟩
  | 9 => ⟨S1x128, .f32⟩
  | 10 => ⟨S4x128x128, .f32⟩
  | 11 => ⟨S1x512, .f32⟩
  | 12 => ⟨S1024x1024, .f32⟩
  | 13 => ⟨S1x1024, .f32⟩
  | 14 => ⟨S128x1x6144, .f32⟩
  | 15 => ⟨S128x1x1024, .f32⟩
  | 16 => ⟨S128x1x1024, .f32⟩
  | 17 => ⟨S128x1x1024, .f32⟩
  | 18 => ⟨S128x1x1024, .f32⟩
  | 19 => ⟨S128x1x1024, .f32⟩
  | 20 => ⟨S128x1x1024, .f32⟩
  | 21 => ⟨S128x1x2568, .f32⟩
  | 22 => ⟨S128x1x512, .f32⟩
  | 23 => ⟨S128x1x512, .f32⟩
  | 24 => ⟨S128x1x512, .f32⟩
  | 25 => ⟨S128x1x512, .f32⟩
  | 26 => ⟨S128x1x4, .f32⟩
  | 27 => ⟨S4, .f32⟩
  | 28 => ⟨S1x1x4, .f32⟩
  | 29 => ⟨S128x1x4, .f32⟩
  | 30 => ⟨S128x1x4, .f32⟩
  | 31 => ⟨S128x1x4, .f32⟩
  | 32 => ⟨S4, .f32⟩
  | 33 => ⟨S1x1x4, .f32⟩
  | 34 => ⟨S128x1x4, .f32⟩
  | 35 => ⟨S128x1x4, .f32⟩
  | 36 => ⟨S128x1x512, .f32⟩
  | 37 => ⟨S128x1x4x128, .f32⟩
  | 38 => ⟨S128x4x1x128, .f32⟩
  | 39 => ⟨S128x1x4x128, .f32⟩
  | 40 => ⟨S128x4x1x128, .f32⟩
  | 41 => ⟨S_, .f32⟩
  | 42 => ⟨S128x4x1x128, .f32⟩
  | 43 => ⟨S128x4x1x128, .f32⟩
  | 44 => ⟨S128x1x4x128, .f32⟩
  | 45 => ⟨S128x4x1x128, .f32⟩
  | 46 => ⟨S128x1x4, .f32⟩
  | 47 => ⟨S_, .f32⟩
  | 48 => ⟨S128x1x4, .f32⟩
  | 49 => ⟨S128x1x4, .f32⟩
  | 50 => ⟨S128x1x4, .f32⟩
  | 51 => ⟨S128x1x4, .f32⟩
  | 52 => ⟨S128x1x4, .i1⟩
  | 53 => ⟨S128x1x4, .f32⟩
  | 54 => ⟨S128x1x4, .f32⟩
  | 55 => ⟨S128x1x4, .f32⟩
  | 56 => ⟨S128x1x4, .f32⟩
  | 57 => ⟨S128x1x4, .f32⟩
  | 58 => ⟨S128x1x4, .f32⟩
  | 59 => ⟨S128x1x4, .f32⟩
  | 60 => ⟨S128x1x4, .f32⟩
  | 61 => ⟨S128x1x4, .f32⟩
  | 62 => ⟨S128x4x1, .f32⟩
  | 63 => ⟨S128x4x1, .f32⟩
  | 64 => ⟨S_, .f32⟩
  | 65 => ⟨S_, .f32⟩
  | 66 => ⟨S128x4x1, .f32⟩
  | 67 => ⟨S128x4x1x1, .f32⟩
  | 68 => ⟨S128x4x1x1, .f32⟩
  | 69 => ⟨S128x4x1x1, .f32⟩
  | 70 => ⟨S128x4x1x1, .f32⟩
  | 71 => ⟨S128x4x1x1, .f32⟩
  | 72 => ⟨S128x4x1, .f32⟩
  | 73 => ⟨S128x4x1, .f32⟩
  | 74 => ⟨S_, .f32⟩
  | 75 => ⟨S128x4x1, .f32⟩
  | 76 => ⟨S128x4x1, .f32⟩
  | 77 => ⟨S128x4x1x1, .f32⟩
  | 78 => ⟨S128x4x1x1, .f32⟩
  | 79 => ⟨S128x4x1x1, .f32⟩
  | 80 => ⟨S128x4x1, .f32⟩
  | 81 => ⟨S128x4x1, .f32⟩
  | 82 => ⟨S128x4x1x1, .f32⟩
  | 83 => ⟨S128x4x1x1, .f32⟩
  | 84 => ⟨S128x4x1x1, .f32⟩
  | 85 => ⟨S128x1x512, .f32⟩
  | 86 => ⟨S128x1x4x128, .f32⟩
  | 87 => ⟨S128x4x1x128, .f32⟩
  | 88 => ⟨S128x4x1x128, .f32⟩
  | 89 => ⟨S128x4x1x128, .f32⟩
  | 90 => ⟨S128x4x1x128, .f32⟩
  | 91 => ⟨S128x4x1x128, .f32⟩
  | 92 => ⟨S128x4x1, .f32⟩
  | 93 => ⟨S128x4x1, .f32⟩
  | 94 => ⟨S_, .f32⟩
  | 95 => ⟨S128x4x1, .f32⟩
  | 96 => ⟨S128x4x1, .f32⟩
  | 97 => ⟨S128x4x1, .f32⟩
  | 98 => ⟨S128x4x1, .f32⟩
  | 99 => ⟨S128x4x1, .f32⟩
  | 100 => ⟨S128x4x1, .f32⟩
  | 101 => ⟨S128x4x1x1, .f32⟩
  | 102 => ⟨S128x4x1x128, .f32⟩
  | 103 => ⟨S128x4x1x128, .f32⟩
  | 104 => ⟨S128x4, .f32⟩
  | 105 => ⟨S128x4, .f32⟩
  | 106 => ⟨S128x4, .f32⟩
  | 107 => ⟨S128x4, .f32⟩
  | 108 => ⟨S128x4x1, .f32⟩
  | 109 => ⟨S128x4x1, .f32⟩
  | 110 => ⟨S128x4x1, .f32⟩
  | 111 => ⟨S128x4x1, .f32⟩
  | 112 => ⟨S128x4x1, .f32⟩
  | 113 => ⟨S128x4x1, .f32⟩
  | 114 => ⟨S128x4x128, .f32⟩
  | 115 => ⟨S128x4x128, .f32⟩
  | 116 => ⟨S128x4x128, .f32⟩
  | 117 => ⟨S128x4x128, .f32⟩
  | 118 => ⟨S128x1x4x128, .f32⟩
  | 119 => ⟨S128, .f32⟩
  | 120 => ⟨S128x1x4x128, .f32⟩
  | 121 => ⟨S_, .f32⟩
  | 122 => ⟨S128x1x4, .f32⟩
  | 123 => ⟨S128x1x4x1, .f32⟩
  | 124 => ⟨S_, .f32⟩
  | 125 => ⟨S128x1x4x1, .f32⟩
  | 126 => ⟨S128x1x4x1, .f32⟩
  | 127 => ⟨S_, .f32⟩
  | _ => ⟨S128x1x1024, .f32⟩

abbrev hbmTy0_1 (i : Nat) : BufTy := match i % 128 with
  | 0 => ⟨S128x1x4x1, .f32⟩
  | 1 => ⟨S128x1x4x1, .f32⟩
  | 2 => ⟨S128x1x4x1, .f32⟩
  | 3 => ⟨S128x1x4x128, .f32⟩
  | 4 => ⟨S128x1x4x128, .f32⟩
  | 5 => ⟨S1x1x1x128, .f32⟩
  | 6 => ⟨S128x1x4x128, .f32⟩
  | 7 => ⟨S128x1x4x128, .f32⟩
  | 8 => ⟨S128x1x4x128, .f32⟩
  | 9 => ⟨S128x4x1x128, .f32⟩
  | 10 => ⟨S128x1x4x128, .f32⟩
  | 11 => ⟨S128x1x4x128, .f32⟩
  | 12 => ⟨S128x1x4x128, .f32⟩
  | 13 => ⟨S_, .f32⟩
  | 14 => ⟨S128x1x4x128, .f32⟩
  | 15 => ⟨S128x1x4x128, .f32⟩
  | 16 => ⟨S_, .f32⟩
  | 17 => ⟨S128x1x4x128, .f32⟩
  | 18 => ⟨S128x1x4x128, .f32⟩
  | 19 => ⟨S128x1x4x128, .f32⟩
  | 20 => ⟨S128x1x512, .f32⟩
  | 21 => ⟨S128x16x512, .f32⟩
  | 22 => ⟨S_, .f32⟩
  | 23 => ⟨S_, .f32⟩
  | 24 => ⟨S128x16x512, .f32⟩
  | 25 => ⟨S_, .i32⟩
  | 26 => ⟨S_, .f32⟩
  | 27 => ⟨S128x17x512, .f32⟩
  | 28 => ⟨S1, .i32⟩
  | 29 => ⟨S_, .i32⟩
  | 30 => ⟨S1, .i32⟩
  | 31 => ⟨S1, .i32⟩
  | 32 => ⟨S1, .f32⟩
  | 33 => ⟨S128x1x128, .f32⟩
  | 34 => ⟨S128x1x128, .f32⟩
  | 35 => ⟨S_, .f32⟩
  | 36 => ⟨S1, .f32⟩
  | 37 => ⟨S1, .f32⟩
  | 38 => ⟨S_, .f32⟩
  | 39 => ⟨S1, .f32⟩
  | 40 => ⟨S1, .f32⟩
  | 41 => ⟨S1x1x1, .f32⟩
  | 42 => ⟨S128x1x128, .f32⟩
  | 43 => ⟨S128x1x128, .f32⟩
  | 44 => ⟨S128x1x128, .f32⟩
  | 45 => ⟨S128x1x128, .f32⟩
  | 46 => ⟨S128x1x128, .f32⟩
  | 47 => ⟨S_, .f32⟩
  | 48 => ⟨S1, .f32⟩
  | 49 => ⟨S1, .f32⟩
  | 50 => ⟨S_, .f32⟩
  | 51 => ⟨S1, .f32⟩
  | 52 => ⟨S1, .f32⟩
  | 53 => ⟨S1x1x1, .f32⟩
  | 54 => ⟨S128x1x128, .f32⟩
  | 55 => ⟨S128x1x128, .f32⟩
  | 56 => ⟨S128x1x128, .f32⟩
  | 57 => ⟨S128x1x128, .f32⟩
  | 58 => ⟨S128x1x128, .f32⟩
  | 59 => ⟨S_, .f32⟩
  | 60 => ⟨S1, .f32⟩
  | 61 => ⟨S1, .f32⟩
  | 62 => ⟨S_, .f32⟩
  | 63 => ⟨S1, .f32⟩
  | 64 => ⟨S1, .f32⟩
  | 65 => ⟨S1x1x1, .f32⟩
  | 66 => ⟨S128x1x128, .f32⟩
  | 67 => ⟨S128x1x128, .f32⟩
  | 68 => ⟨S128x1x128, .f32⟩
  | 69 => ⟨S128x1x128, .f32⟩
  | 70 => ⟨S128x1x128, .f32⟩
  | 71 => ⟨S_, .f32⟩
  | 72 => ⟨S1, .f32⟩
  | 73 => ⟨S1, .f32⟩
  | 74 => ⟨S_, .f32⟩
  | 75 => ⟨S1, .f32⟩
  | 76 => ⟨S1, .f32⟩
  | 77 => ⟨S1x1x1, .f32⟩
  | 78 => ⟨S128x1x128, .f32⟩
  | 79 => ⟨S128x1x128, .f32⟩
  | 80 => ⟨S128x1x128, .f32⟩
  | 81 => ⟨S128x1x512, .f32⟩
  | 82 => ⟨S128x1x512, .f32⟩
  | 83 => ⟨S128x1x4x128, .f32⟩
  | 84 => ⟨S4x128x128x1, .f32⟩
  | 85 => ⟨S128x1x4x128, .f32⟩
  | 86 => ⟨S128x1x512, .f32⟩
  | 87 => ⟨S512, .f32⟩
  | 88 => ⟨S1x1x512, .f32⟩
  | 89 => ⟨S128x1x512, .f32⟩
  | 90 => ⟨S128x1x512, .f32⟩
  | 91 => ⟨S128x1x1024, .f32⟩
  | 92 => ⟨S128x1x1024, .f32⟩
  | 93 => ⟨S1024, .f32⟩
  | 94 => ⟨S128x1x1024, .f32⟩
  | 95 => ⟨S_, .f32⟩
  | 96 => ⟨S128x1, .f32⟩
  | 97 => ⟨S128x1x1, .f32⟩
  | 98 => ⟨S_, .f32⟩
  | 99 => ⟨S128x1x1, .f32⟩
  | 100 => ⟨S128x1x1, .f32⟩
  | 101 => ⟨S_, .f32⟩
  | 102 => ⟨S128x1x1, .f32⟩
  | 103 => ⟨S128x1x1, .f32⟩
  | 104 => ⟨S128x1x1, .f32⟩
  | 105 => ⟨S128x1x1024, .f32⟩
  | 106 => ⟨S128x1x1024, .f32⟩
  | 107 => ⟨S1x1x1024, .f32⟩
  | 108 => ⟨S128x1x1024, .f32⟩
  | 109 => ⟨S128x1x1024, .f32⟩
  | 110 => ⟨S128x1x1024, .f32⟩
  | 111 => ⟨S128x1x1024, .f32⟩
  | 112 => ⟨S128x1024, .f32⟩
  | 113 => ⟨S128x15x512, .f32⟩
  | 114 => ⟨S15x128x512, .f32⟩
  | _ => ⟨S128x1x1024, .f32⟩

abbrev hbmTy (i : Nat) : BufTy := match i / 128 with
  | 0 => hbmTy0_0 i
  | 1 => hbmTy0_1 i
  | _ => ⟨S128x1x1024, .f32⟩

abbrev bufTy : (tb : Table) → Fin (tcTables nBuf tb) → BufTy
  | .hbm, ⟨i, _⟩ => hbmTy i
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call0_v0 : Ref sig .tc := ⟨.hbm, 46, rfl⟩
abbrev main_call0_call0_cst : Ref sig .tc := ⟨.hbm, 47, rfl⟩
abbrev main_call0_call0_v0 : Ref sig .tc := ⟨.hbm, 48, rfl⟩
abbrev main_call0_call0_v1 : Ref sig .tc := ⟨.hbm, 49, rfl⟩
abbrev main_call0_call0_v2 : Ref sig .tc := ⟨.hbm, 50, rfl⟩
abbrev main_call0_call0_v3 : Ref sig .tc := ⟨.hbm, 51, rfl⟩
abbrev main_call0_call0_v4 : Ref sig .tc := ⟨.hbm, 52, rfl⟩
abbrev main_call0_call0_v5 : Ref sig .tc := ⟨.hbm, 53, rfl⟩
abbrev main_call0_call0_v6 : Ref sig .tc := ⟨.hbm, 54, rfl⟩
abbrev main_call0_call0_v7 : Ref sig .tc := ⟨.hbm, 55, rfl⟩
abbrev main_call0_call0_v8 : Ref sig .tc := ⟨.hbm, 56, rfl⟩
abbrev main_call0_call0_v9 : Ref sig .tc := ⟨.hbm, 57, rfl⟩
abbrev main_call0_call0_v10 : Ref sig .tc := ⟨.hbm, 58, rfl⟩
abbrev main_call0_call0_v11 : Ref sig .tc := ⟨.hbm, 59, rfl⟩
abbrev main_call0_v1 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_call1_call0_cst : Ref sig .tc := ⟨.hbm, 64, rfl⟩
abbrev main_call1_call0_v0 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_0 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_1 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_2 : Ref sig .tc := ⟨.hbm, 121, rfl⟩
abbrev main_v87 : Ref sig .tc := ⟨.hbm, 122, rfl⟩
abbrev main_v88 : Ref sig .tc := ⟨.hbm, 123, rfl⟩
abbrev main_cst_3 : Ref sig .tc := ⟨.hbm, 124, rfl⟩
abbrev main_v89 : Ref sig .tc := ⟨.hbm, 125, rfl⟩
abbrev main_v90 : Ref sig .tc := ⟨.hbm, 126, rfl⟩
abbrev main_cst_4 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_cst_5 : Ref sig .tc := ⟨.hbm, 141, rfl⟩
abbrev main_v104 : Ref sig .tc := ⟨.hbm, 142, rfl⟩
abbrev main_v105 : Ref sig .tc := ⟨.hbm, 143, rfl⟩
abbrev main_cst_6 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_call2_call0_cst : Ref sig .tc := ⟨.hbm, 150, rfl⟩
abbrev main_call2_call0_v0 : Ref sig .tc := ⟨.hbm, 151, rfl⟩
abbrev main_v111 : Ref sig .tc := ⟨.hbm, 152, rfl⟩
abbrev main_c : Ref sig .tc := ⟨.hbm, 153, rfl⟩
abbrev main_call3_v0 : Ref sig .tc := ⟨.hbm, 154, rfl⟩
abbrev main_v112 : Ref sig .tc := ⟨.hbm, 155, rfl⟩
abbrev main_v113 : Ref sig .tc := ⟨.hbm, 156, rfl⟩
abbrev main_c_7 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_cst_8 : Ref sig .tc := ⟨.hbm, 163, rfl⟩
abbrev main_v119 : Ref sig .tc := ⟨.hbm, 164, rfl⟩
abbrev main_v120 : Ref sig .tc := ⟨.hbm, 165, rfl⟩
abbrev main_cst_9 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_cst_10 : Ref sig .tc := ⟨.hbm, 175, rfl⟩
abbrev main_v129 : Ref sig .tc := ⟨.hbm, 176, rfl⟩
abbrev main_v130 : Ref sig .tc := ⟨.hbm, 177, rfl⟩
abbrev main_cst_11 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_cst_12 : Ref sig .tc := ⟨.hbm, 187, rfl⟩
abbrev main_v139 : Ref sig .tc := ⟨.hbm, 188, rfl⟩
abbrev main_v140 : Ref sig .tc := ⟨.hbm, 189, rfl⟩
abbrev main_cst_13 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_cst_14 : Ref sig .tc := ⟨.hbm, 199, rfl⟩
abbrev main_v149 : Ref sig .tc := ⟨.hbm, 200, rfl⟩
abbrev main_v150 : Ref sig .tc := ⟨.hbm, 201, rfl⟩
abbrev main_cst_15 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_cst_16 : Ref sig .tc := ⟨.hbm, 223, rfl⟩
abbrev main_v171 : Ref sig .tc := ⟨.hbm, 224, rfl⟩
abbrev main_v172 : Ref sig .tc := ⟨.hbm, 225, rfl⟩
abbrev main_cst_17 : Ref sig .tc := ⟨.hbm, 226, rfl⟩
abbrev main_v173 : Ref sig .tc := ⟨.hbm, 227, rfl⟩
abbrev main_v174 : Ref sig .tc := ⟨.hbm, 228, rfl⟩
abbrev main_cst_18 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩

abbrev nD : Nat := 1
abbrev τ : Topo := Topo.v7x

variable {F : FTy → Type} [FloatOps F]
-- ==== Mix.lean ====
abbrev S8x2048x1024 : Shape := ⟨3, ![8, 2048, 1024]⟩
abbrev S8x6144 : Shape := ⟨2, ![8, 6144]⟩
abbrev S1x1024 : Shape := ⟨2, ![1, 1024]⟩
abbrev S2568x1024 : Shape := ⟨2, ![2568, 1024]⟩
abbrev S1x4 : Shape := ⟨2, ![1, 4]⟩
abbrev S1x128 : Shape := ⟨2, ![1, 128]⟩
abbrev S4x128x128 : Shape := ⟨3, ![4, 128, 128]⟩
abbrev S1x512 : Shape := ⟨2, ![1, 512]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S128x2568 : Shape := ⟨2, ![128, 2568]⟩
abbrev S128x4 : Shape := ⟨2, ![128, 4]⟩
abbrev S65536x128 : Shape := ⟨2, ![65536, 128]⟩
abbrev S16384x1024 : Shape := ⟨2, ![16384, 1024]⟩
abbrev S8x4x128x128 : Shape := ⟨4, ![8, 4, 128, 128]⟩
abbrev S8x4x128 : Shape := ⟨3, ![8, 4, 128]⟩
abbrev S8x4x1x1 : Shape := ⟨4, ![8, 4, 1, 1]⟩
abbrev S8x15x512 : Shape := ⟨3, ![8, 15, 512]⟩
abbrev S1024x4096 : Shape := ⟨2, ![1024, 4096]⟩
abbrev S4096x1024 : Shape := ⟨2, ![4096, 1024]⟩
abbrev S128x512 : Shape := ⟨2, ![128, 512]⟩
abbrev S1x64x4096 : Shape := ⟨3, ![1, 64, 4096]⟩
abbrev S1x256x1024 : Shape := ⟨3, ![1, 256, 1024]⟩
abbrev S8x2568 : Shape := ⟨2, ![8, 2568]⟩
abbrev S8x4 : Shape := ⟨2, ![8, 4]⟩
abbrev S4096x128 : Shape := ⟨2, ![4096, 128]⟩
abbrev S1024x1024 : Shape := ⟨2, ![1024, 1024]⟩
abbrev S1x4x128x128 : Shape := ⟨4, ![1, 4, 128, 128]⟩
abbrev S1x4x128 : Shape := ⟨3, ![1, 4, 128]⟩
abbrev S1x4x1x1 : Shape := ⟨4, ![1, 4, 1, 1]⟩
abbrev S1x15x512 : Shape := ⟨3, ![1, 15, 512]⟩
abbrev S64x4096 : Shape := ⟨2, ![64, 4096]⟩
abbrev S256x1024 : Shape := ⟨2, ![256, 1024]⟩
abbrev S8x512 : Shape := ⟨2, ![8, 512]⟩
abbrev S1024x2048 : Shape := ⟨2, ![1024, 2048]⟩
abbrev S512x1024 : Shape := ⟨2, ![512, 1024]⟩
abbrev S16x1024 : Shape := ⟨2, ![16, 1024]⟩
abbrev S4 : Shape := ⟨1, ![4]⟩
abbrev S4x128x256 : Shape := ⟨3, ![4, 128, 256]⟩
abbrev S4x1x1 : Shape := ⟨3, ![4, 1, 1]⟩
abbrev S16x512 : Shape := ⟨2, ![16, 512]⟩
abbrev S1 : Shape := ⟨1, ![1]⟩
abbrev S_ : Shape := ⟨0, ![]⟩
abbrev S1024x256 : Shape := ⟨2, ![1024, 256]⟩
abbrev S8x1024 : Shape := ⟨2, ![8, 1024]⟩
abbrev S1x128x128 : Shape := ⟨3, ![1, 128, 128]⟩
abbrev S128x128 : Shape := ⟨2, ![128, 128]⟩
abbrev S128x1024 : Shape := ⟨2, ![128, 1024]⟩
abbrev S16x1 : Shape := ⟨2, ![16, 1]⟩
abbrev S1x1 : Shape := ⟨2, ![1, 1]⟩
abbrev S1x6144 : Shape := ⟨2, ![1, 6144]⟩
abbrev S256x256 : Shape := ⟨2, ![256, 256]⟩
abbrev S256x128 : Shape := ⟨2, ![256, 128]⟩
abbrev S1x128x256 : Shape := ⟨3, ![1, 128, 256]⟩
abbrev S128x256 : Shape := ⟨2, ![128, 256]⟩
abbrev S1x1x1 : Shape := ⟨3, ![1, 1, 1]⟩
abbrev S8x8 : Shape := ⟨2, ![8, 8]⟩
abbrev S1x8 : Shape := ⟨2, ![1, 8]⟩
abbrev S256 : Shape := ⟨1, ![256]⟩
abbrev S256x1 : Shape := ⟨2, ![256, 1]⟩
abbrev S16x256 : Shape := ⟨2, ![16, 256]⟩
abbrev S48x256 : Shape := ⟨2, ![48, 256]⟩
abbrev S4x256 : Shape := ⟨2, ![4, 256]⟩
abbrev S256x16 : Shape := ⟨2, ![256, 16]⟩
abbrev S256x2048 : Shape := ⟨2, ![256, 2048]⟩
abbrev S512x256 : Shape := ⟨2, ![512, 256]⟩
abbrev S8x128 : Shape := ⟨2, ![8, 128]⟩
abbrev S128x8 : Shape := ⟨2, ![128, 8]⟩
abbrev S8x1 : Shape := ⟨2, ![8, 1]⟩
abbrev S128x1 : Shape := ⟨2, ![128, 1]⟩
abbrev S128 : Shape := ⟨1, ![128]⟩
abbrev S1x256 : Shape := ⟨2, ![1, 256]⟩
abbrev S256x512 : Shape := ⟨2, ![256, 512]⟩
abbrev S272x512 : Shape := ⟨2, ![272, 512]⟩
abbrev S272x384 : Shape := ⟨2, ![272, 384]⟩
abbrev S272x256 : Shape := ⟨2, ![272, 256]⟩
abbrev S272x128 : Shape := ⟨2, ![272, 128]⟩
abbrev S1x1x128x128 : Shape := ⟨4, ![1, 1, 128, 128]⟩
abbrev S1x1x128 : Shape := ⟨3, ![1, 1, 128]⟩
abbrev S1x1x1x1 : Shape := ⟨4, ![1, 1, 1, 1]⟩
abbrev S15x512 : Shape := ⟨2, ![15, 512]⟩

abbrev nBuf : Space → Nat
  | .hbm => 25
  | .vmem => 45
  | .smem => 2
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S1x1024, .f32⟩
  | .hbm, ⟨3, _⟩ => ⟨S1x1024, .f32⟩
  | .hbm, ⟨4, _⟩ => ⟨S2568x1024, .f32⟩
  | .hbm, ⟨5, _⟩ => ⟨S1x4, .f32⟩
  | .hbm, ⟨6, _⟩ => ⟨S1x4, .f32⟩
  | .hbm, ⟨7, _⟩ => ⟨S1x128, .f32⟩
  | .hbm, ⟨8, _⟩ => ⟨S4x128x128, .f32⟩
  | .hbm, ⟨9, _⟩ => ⟨S1x512, .f32⟩
  | .hbm, ⟨10, _⟩ => ⟨S1x1024x1024, .f32⟩
  | .hbm, ⟨11, _⟩ => ⟨S1x1024x4096, .f32⟩
  | .hbm, ⟨12, _⟩ => ⟨S1x4096x1024, .f32⟩
  | .hbm, ⟨13, _⟩ => ⟨S128x2568, .f32⟩
  | .hbm, ⟨14, _⟩ => ⟨S128x4, .f32⟩
  | .hbm, ⟨15, _⟩ => ⟨S65536x128, .f32⟩
  | .hbm, ⟨16, _⟩ => ⟨S16384x1024, .f32⟩
  | .hbm, ⟨17, _⟩ => ⟨S8x4x128x128, .f32⟩
  | .hbm, ⟨18, _⟩ => ⟨S8x4x128, .f32⟩
  | .hbm, ⟨19, _⟩ => ⟨S8x4x1x1, .f32⟩
  | .hbm, ⟨20, _⟩ => ⟨S8x15x512, .f32⟩
  | .hbm, ⟨21, _⟩ => ⟨S1024x4096, .bf16⟩
  | .hbm, ⟨22, _⟩ => ⟨S4096x1024, .bf16⟩
  | .hbm, ⟨23, _⟩ => ⟨S65536x128, .f32⟩
  | .hbm, ⟨24, _⟩ => ⟨S128x512, .f32⟩
  | .local _ .vmem, ⟨0, _⟩ => ⟨S1x1024x1024, .f32⟩
  | .local _ .vmem, ⟨1, _⟩ => ⟨S1x1024x1024, .f32⟩
  | .local _ .vmem, ⟨2, _⟩ => ⟨S8x6144, .f32⟩
  | .local _ .vmem, ⟨3, _⟩ => ⟨S1x1024, .f32⟩
  | .local _ .vmem, ⟨4, _⟩ => ⟨S1x1024, .f32⟩
  | .local _ .vmem, ⟨5, _⟩ => ⟨S1x128, .f32⟩
  | .local _ .vmem, ⟨6, _⟩ => ⟨S4x128x128, .f32⟩
  | .local _ .vmem, ⟨7, _⟩ => ⟨S1x512, .f32⟩
  | .local _ .vmem, ⟨8, _⟩ => ⟨S1x64x4096, .f32⟩
  | .local _ .vmem, ⟨9, _⟩ => ⟨S1x64x4096, .f32⟩
  | .local _ .vmem, ⟨10, _⟩ => ⟨S1x256x1024, .f32⟩
  | .local _ .vmem, ⟨11, _⟩ => ⟨S1x256x1024, .f32⟩
  | .local _ .vmem, ⟨12, _⟩ => ⟨S8x2568, .f32⟩
  | .local _ .vmem, ⟨13, _⟩ => ⟨S8x2568, .f32⟩
  | .local _ .vmem, ⟨14, _⟩ => ⟨S8x4, .f32⟩
  | .local _ .vmem, ⟨15, _⟩ => ⟨S8x4, .f32⟩
  | .local _ .vmem, ⟨16, _⟩ => ⟨S1x4, .f32⟩
  | .local _ .vmem, ⟨17, _⟩ => ⟨S1x4, .f32⟩
  | .local _ .vmem, ⟨18, _⟩ => ⟨S4096x128, .f32⟩
  | .local _ .vmem, ⟨19, _⟩ => ⟨S4096x128, .f32⟩
  | .local _ .vmem, ⟨20, _⟩ => ⟨S1024x1024, .f32⟩
  | .local _ .vmem, ⟨21, _⟩ => ⟨S1024x1024, .f32⟩
  | .local _ .vmem, ⟨22, _⟩ => ⟨S1x4x128x128, .f32⟩
  | .local _ .vmem, ⟨23, _⟩ => ⟨S1x4x128x128, .f32⟩
  | .local _ .vmem, ⟨24, _⟩ => ⟨S1x4x128, .f32⟩
  | .local _ .vmem, ⟨25, _⟩ => ⟨S1x4x128, .f32⟩
  | .local _ .vmem, ⟨26, _⟩ => ⟨S1x4x1x1, .f32⟩
  | .local _ .vmem, ⟨27, _⟩ => ⟨S1x4x1x1, .f32⟩
  | .local _ .vmem, ⟨28, _⟩ => ⟨S1x15x512, .f32⟩
  | .local _ .vmem, ⟨29, _⟩ => ⟨S1x15x512, .f32⟩
  | .local _ .vmem, ⟨30, _⟩ => ⟨S64x4096, .bf16⟩
  | .local _ .vmem, ⟨31, _⟩ => ⟨S64x4096, .bf16⟩
  | .local _ .vmem, ⟨32, _⟩ => ⟨S256x1024, .bf16⟩
  | .local _ .vmem, ⟨33, _⟩ => ⟨S256x1024, .bf16⟩
  | .local _ .vmem, ⟨34, _⟩ => ⟨S4096x128, .f32⟩
  | .local _ .vmem, ⟨35, _⟩ => ⟨S4096x128, .f32⟩
  | .local _ .vmem, ⟨36, _⟩ => ⟨S8x512, .f32⟩
  | .local _ .vmem, ⟨37, _⟩ => ⟨S8x512, .f32⟩
  | .local _ .vmem, ⟨38, _⟩ => ⟨S1024x2048, .bf16⟩
  | .local _ .vmem, ⟨39, _⟩ => ⟨S512x1024, .bf16⟩
  | .local _ .vmem, ⟨40, _⟩ => ⟨S16x1024, .bf16⟩
  | .local _ .vmem, ⟨41, _⟩ => ⟨S1024x1024, .bf16⟩
  | .local _ .vmem, ⟨42, _⟩ => ⟨S4x128x256, .f32⟩
  | .local _ .vmem, ⟨43, _⟩ => ⟨S4x1x1, .f32⟩
  | .local _ .vmem, ⟨44, _⟩ => ⟨S16x512, .f32⟩
  | .local _ .smem, ⟨0, _⟩ => ⟨S1x4, .f32⟩
  | .local _ .smem, ⟨1, _⟩ => ⟨S1x4, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg9_1 : Ref sig .tc := ⟨.vmem, 9, rfl⟩
abbrev cc0_stg10_0 : Ref sig .tc := ⟨.vmem, 10, rfl⟩
abbrev cc0_stg10_1 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_stg22_0 : Ref sig .tc := ⟨.vmem, 32, rfl⟩
abbrev cc0_stg22_1 : Ref sig .tc := ⟨.vmem, 33, rfl⟩
abbrev cc0_stg23_0 : Ref sig .tc := ⟨.vmem, 34, rfl⟩
abbrev cc0_stg23_1 : Ref sig .tc := ⟨.vmem, 35, rfl⟩
abbrev cc0_stg24_0 : Ref sig .tc := ⟨.vmem, 36, rfl⟩
abbrev cc0_stg24_1 : Ref sig .tc := ⟨.vmem, 37, rfl⟩
abbrev cc0_scratch0 : Ref sig .tc := ⟨.vmem, 38, rfl⟩
abbrev cc0_scratch1 : Ref sig .tc := ⟨.vmem, 39, rfl⟩
abbrev cc0_scratch2 : Ref sig .tc := ⟨.vmem, 40, rfl⟩
abbrev cc0_scratch3 : Ref sig .tc := ⟨.vmem, 41, rfl⟩
abbrev cc0_scratch5 : Ref sig .tc := ⟨.vmem, 42, rfl⟩
abbrev cc0_scratch6 : Ref sig .tc := ⟨.vmem, 43, rfl⟩
abbrev cc0_scratch7 : Ref sig .tc := ⟨.vmem, 44, rfl⟩
abbrev cc0_stg4_0 : Ref sig .tc := ⟨.smem, 0, rfl⟩
abbrev cc0_stg5_0 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem14_0 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31
abbrev cc0_sem21_0 : DmaSem sig := 32
abbrev cc0_sem21_1 : DmaSem sig := 33
abbrev cc0_sem22_0 : DmaSem sig := 34
abbrev cc0_sem22_1 : DmaSem sig := 35
abbrev cc0_sem23_0 : DmaSem sig := 36
abbrev cc0_sem23_1 : DmaSem sig := 37
abbrev cc0_sem24_0 : DmaSem sig := 38
abbrev cc0_sem24_1 : DmaSem sig := 39

abbrev nD : Nat := 1
abbrev τ : Topo := Topo.v7x

variable {F : FTy → Type} [FloatOps F]

abbrev grid0 : Pipeline.Grid := ⟨2, ![8, 2], ![false, false]⟩

def k0_off1 (i : grid0.Coords) : Fin 2 → Nat :=
  let arg0 : BitVec 32 := BitVec.ofNat 32 (i 0).val
  let v58 : Index := Scalar.indexCast arg0
  let c0_27 : Index := 0#32
  ![v58.toNat, 0]
def k0_cond3 (i : grid0.Coords) : BitVec 1 :=
  let arg1 : BitVec 32 := BitVec.ofNat 32 (i 1).val
  let c1_i32_607 : BitVec 32 := 1#32
  let v2564 : BitVec 1 := Scalar.cmpi .eq arg1 c1_i32_607
  let v2565 : BitVec 32 := Scalar.extui v2564
  let c0_i32_608 : BitVec 32 := 0#32
  let v2566 : BitVec 1 := Scalar.cmpi .ne v2565 c0_i32_608
  v2566

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_12 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_13 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_18 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_19 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_23 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_24 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_25 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_26 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .smem S1x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .smem S1x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x64x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S8x2568 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S8x4 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 1 → Memref sig .tc .vmem S1x4 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x4 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S4096x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1024x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x4x128x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S1x4x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 2 → Memref sig .tc .vmem S1x4x1x1 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]

abbrev stage0_20 : Fin 2 → Memref sig .tc .vmem S1x15x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]

abbrev stage0_21 : Fin 2 → Memref sig .tc .vmem S64x4096 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S256x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S4096x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S8x512 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]
-- ==== MixReferenceIdeal.lean ====
abbrev S8x2048x1024 : Shape := ⟨3, ![8, 2048, 1024]⟩
abbrev S8x6144 : Shape := ⟨2, ![8, 6144]⟩
abbrev S1x1024 : Shape := ⟨2, ![1, 1024]⟩
abbrev S2568x1024 : Shape := ⟨2, ![2568, 1024]⟩
abbrev S1x4 : Shape := ⟨2, ![1, 4]⟩
abbrev S1x128 : Shape := ⟨2, ![1, 128]⟩
abbrev S4x128x128 : Shape := ⟨3, ![4, 128, 128]⟩
abbrev S1x512 : Shape := ⟨2, ![1, 512]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S128x2568 : Shape := ⟨2, ![128, 2568]⟩
abbrev S128x4 : Shape := ⟨2, ![128, 4]⟩
abbrev S65536x128 : Shape := ⟨2, ![65536, 128]⟩
abbrev S8x1x6144 : Shape := ⟨3, ![8, 1, 6144]⟩
abbrev S8x1x1024 : Shape := ⟨3, ![8, 1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x2568 : Shape := ⟨2, ![1024, 2568]⟩
abbrev S8x2048x2568 : Shape := ⟨3, ![8, 2048, 2568]⟩
abbrev S8x2048x512 : Shape := ⟨3, ![8, 2048, 512]⟩
abbrev S8x15x512 : Shape := ⟨3, ![8, 15, 512]⟩
abbrev S8x2063x512 : Shape := ⟨3, ![8, 2063, 512]⟩
abbrev S128x1x2568 : Shape := ⟨3, ![128, 1, 2568]⟩
abbrev S128x1x512 : Shape := ⟨3, ![128, 1, 512]⟩
abbrev S128x1x4 : Shape := ⟨3, ![128, 1, 4]⟩
abbrev S4 : Shape := ⟨1, ![4]⟩
abbrev S1x1x4 : Shape := ⟨3, ![1, 1, 4]⟩
abbrev S128x1x4x128 : Shape := ⟨4, ![128, 1, 4, 128]⟩
abbrev S128x4x1x128 : Shape := ⟨4, ![128, 4, 1, 128]⟩
abbrev S128x4x1 : Shape := ⟨3, ![128, 4, 1]⟩
abbrev S128x4x128x128 : Shape := ⟨4, ![128, 4, 128, 128]⟩
abbrev S128x4x1x1 : Shape := ⟨4, ![128, 4, 1, 1]⟩
abbrev S16384x1024 : Shape := ⟨2, ![16384, 1024]⟩
abbrev S8x4x128x128 : Shape := ⟨4, ![8, 4, 128, 128]⟩
abbrev S8x4x128 : Shape := ⟨3, ![8, 4, 128]⟩
abbrev S8x4x1x1 : Shape := ⟨4, ![8, 4, 1, 1]⟩
abbrev S1024x4096 : Shape := ⟨2, ![1024, 4096]⟩
abbrev S4096x1024 : Shape := ⟨2, ![4096, 1024]⟩
abbrev S128x512 : Shape := ⟨2, ![128, 512]⟩

abbrev nBuf : Space → Nat
  | .hbm => 142
  | .vmem => 0
  | .smem => 0
  | _ => 0

abbrev hbmTy0_0 (i : Nat) : BufTy := match i % 128 with
  | 0 => ⟨S8x2048x1024, .f32⟩
  | 1 => ⟨S8x6144, .f32⟩
  | 2 => ⟨S1x1024, .f32⟩
  | 3 => ⟨S1x1024, .f32⟩
  | 4 => ⟨S2568x1024, .f32⟩
  | 5 => ⟨S1x4, .f32⟩
  | 6 => ⟨S1x4, .f32⟩
  | 7 => ⟨S1x128, .f32⟩
  | 8 => ⟨S4x128x128, .f32⟩
  | 9 => ⟨S1x512, .f32⟩
  | 10 => ⟨S1x1024x1024, .f32⟩
  | 11 => ⟨S1x1024x4096, .f32⟩
  | 12 => ⟨S1x4096x1024, .f32⟩
  | 13 => ⟨S128x2568, .f32⟩
  | 14 => ⟨S128x4, .f32⟩
  | 15 => ⟨S65536x128, .f32⟩
  | 16 => ⟨S8x1x6144, .f32⟩
  | 17 => ⟨S8x1x1024, .f32⟩
  | 18 => ⟨S8x1x1024, .f32⟩
  | 19 => ⟨S8x1x1024, .f32⟩
  | 20 => ⟨S8x1x1024, .f32⟩
  | 21 => ⟨S8x1x1024, .f32⟩
  | 22 => ⟨S8x1x1024, .f32⟩
  | 23 => ⟨S1024, .f32⟩
  | 24 => ⟨S8x2048x1024, .f32⟩
  | 25 => ⟨S_, .f32⟩
  | 26 => ⟨S8x2048, .f32⟩
  | 27 => ⟨S8x2048x1, .f32⟩
  | 28 => ⟨S_, .f32⟩
  | 29 => ⟨S8x2048x1, .f32⟩
  | 30 => ⟨S8x2048x1, .f32⟩
  | 31 => ⟨S_, .f32⟩
  | 32 => ⟨S8x2048x1, .f32⟩
  | 33 => ⟨S8x2048x1, .f32⟩
  | 34 => ⟨S8x2048x1, .f32⟩
  | 35 => ⟨S8x2048x1024, .f32⟩
  | 36 => ⟨S8x2048x1024, .f32⟩
  | 37 => ⟨S1x1x1024, .f32⟩
  | 38 => ⟨S8x2048x1024, .f32⟩
  | 39 => ⟨S8x2048x1024, .f32⟩
  | 40 => ⟨S_, .f32⟩
  | 41 => ⟨S8x1x1024, .f32⟩
  | 42 => ⟨S8x1x1024, .f32⟩
  | 43 => ⟨S8x2048x1024, .f32⟩
  | 44 => ⟨S8x2048x1024, .f32⟩
  | 45 => ⟨S8x2048x1024, .f32⟩
  | 46 => ⟨S8x2048x1024, .f32⟩
  | 47 => ⟨S1024x2568, .f32⟩
  | 48 => ⟨S8x2048x2568, .f32⟩
  | 49 => ⟨S8x2048x512, .f32⟩
  | 50 => ⟨S_, .f32⟩
  | 51 => ⟨S8x15x512, .f32⟩
  | 52 => ⟨S8x2063x512, .f32⟩
  | 53 => ⟨S128x1x2568, .f32⟩
  | 54 => ⟨S128x1x512, .f32⟩
  | 55 => ⟨S128x1x512, .f32⟩
  | 56 => ⟨S128x1x512, .f32⟩
  | 57 => ⟨S128x1x4, .f32⟩
  | 58 => ⟨S4, .f32⟩
  | 59 => ⟨S1x1x4, .f32⟩
  | 60 => ⟨S128x1x4, .f32⟩
  | 61 => ⟨S128x1x4, .f32⟩
  | 62 => ⟨S128x1x4, .f32⟩
  | 63 => ⟨S4, .f32⟩
  | 64 => ⟨S1x1x4, .f32⟩
  | 65 => ⟨S128x1x4, .f32⟩
  | 66 => ⟨S128x1x4, .f32⟩
  | 67 => ⟨S128x1x4x128, .f32⟩
  | 68 => ⟨S128x4x1x128, .f32⟩
  | 69 => ⟨S128x1x4x128, .f32⟩
  | 70 => ⟨S128x4x1x128, .f32⟩
  | 71 => ⟨S_, .f32⟩
  | 72 => ⟨S128x4x1x128, .f32⟩
  | 73 => ⟨S128x4x1x128, .f32⟩
  | 74 => ⟨S128x1x4x128, .f32⟩
  | 75 => ⟨S128x4x1x128, .f32⟩
  | 76 => ⟨S128x1x4, .f32⟩
  | 77 => ⟨S_, .f32⟩
  | 78 => ⟨S128x1x4, .f32⟩
  | 79 => ⟨S128x1x4, .f32⟩
  | 80 => ⟨S128x1x4, .f32⟩
  | 81 => ⟨S128x1x4, .f32⟩
  | 82 => ⟨S128x1x4, .i1⟩
  | 83 => ⟨S128x1x4, .f32⟩
  | 84 => ⟨S128x1x4, .f32⟩
  | 85 => ⟨S128x1x4, .f32⟩
  | 86 => ⟨S128x1x4, .f32⟩
  | 87 => ⟨S128x1x4, .f32⟩
  | 88 => ⟨S128x1x4, .f32⟩
  | 89 => ⟨S128x1x4, .f32⟩
  | 90 => ⟨S128x1x4, .f32⟩
  | 91 => ⟨S128x1x4, .f32⟩
  | 92 => ⟨S128x4x1, .f32⟩
  | 93 => ⟨S128x4x1, .f32⟩
  | 94 => ⟨S128x4x128x128, .f32⟩
  | 95 => ⟨S_, .f32⟩
  | 96 => ⟨S_, .f32⟩
  | 97 => ⟨S128x4x1, .f32⟩
  | 98 => ⟨S128x4x1x1, .f32⟩
  | 99 => ⟨S128x4x1x1, .f32⟩
  | 100 => ⟨S128x4x1x1, .f32⟩
  | 101 => ⟨S128x4x1x1, .f32⟩
  | 102 => ⟨S128x4x1x1, .f32⟩
  | 103 => ⟨S128x4x1, .f32⟩
  | 104 => ⟨S128x4x1, .f32⟩
  | 105 => ⟨S_, .f32⟩
  | 106 => ⟨S128x4x1, .f32⟩
  | 107 => ⟨S128x4x1, .f32⟩
  | 108 => ⟨S128x4, .f32⟩
  | 109 => ⟨S128x4, .f32⟩
  | 110 => ⟨S128x4, .f32⟩
  | 111 => ⟨S128x4, .f32⟩
  | 112 => ⟨S128x4x1, .f32⟩
  | 113 => ⟨S128x4x1, .f32⟩
  | 114 => ⟨S128x4x1, .f32⟩
  | 115 => ⟨S128x4x1, .f32⟩
  | 116 => ⟨S128x4x1, .f32⟩
  | 117 => ⟨S128x4x1x1, .f32⟩
  | 118 => ⟨S128x4x128x128, .f32⟩
  | 119 => ⟨S128x4x128x128, .f32⟩
  | 120 => ⟨S128x4x1x1, .f32⟩
  | 121 => ⟨S128x4x1x128, .f32⟩
  | 122 => ⟨S128x4x1x128, .f32⟩
  | 123 => ⟨S128x4x128x128, .f32⟩
  | 124 => ⟨S128x4x128x128, .f32⟩
  | 125 => ⟨S128x4x1x128, .f32⟩
  | 126 => ⟨S_, .f32⟩
  | 127 => ⟨S16384x1024, .f32⟩
  | _ => ⟨S8x2048x1024, .f32⟩

abbrev hbmTy0_1 (i : Nat) : BufTy := match i % 128 with
  | 0 => ⟨S_, .f32⟩
  | 1 => ⟨S8x4x128x128, .f32⟩
  | 2 => ⟨S_, .f32⟩
  | 3 => ⟨S8x4x128, .f32⟩
  | 4 => ⟨S_, .f32⟩
  | 5 => ⟨S8x4x1x1, .f32⟩
  | 6 => ⟨S8x15x512, .f32⟩
  | 7 => ⟨S1024x4096, .f32⟩
  | 8 => ⟨S1024x4096, .bf16⟩
  | 9 => ⟨S4096x1024, .f32⟩
  | 10 => ⟨S4096x1024, .bf16⟩
  | 11 => ⟨S65536x128, .f32⟩
  | 12 => ⟨S128x1x4x128, .f32⟩
  | 13 => ⟨S128x512, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst : Ref sig .tc := ⟨.hbm, 25, rfl⟩
abbrev main_v9 : Ref sig .tc := ⟨.hbm, 26, rfl⟩
abbrev main_v10 : Ref sig .tc := ⟨.hbm, 27, rfl⟩
abbrev main_cst_0 : Ref sig .tc := ⟨.hbm, 28, rfl⟩
abbrev main_v11 : Ref sig .tc := ⟨.hbm, 29, rfl⟩
abbrev main_v12 : Ref sig .tc := ⟨.hbm, 30, rfl⟩
abbrev main_cst_1 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_2 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_3 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_4 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_call0_v0 : Ref sig .tc := ⟨.hbm, 76, rfl⟩
abbrev main_call0_call0_cst : Ref sig .tc := ⟨.hbm, 77, rfl⟩
abbrev main_call0_call0_v0 : Ref sig .tc := ⟨.hbm, 78, rfl⟩
abbrev main_call0_call0_v1 : Ref sig .tc := ⟨.hbm, 79, rfl⟩
abbrev main_call0_call0_v2 : Ref sig .tc := ⟨.hbm, 80, rfl⟩
abbrev main_call0_call0_v3 : Ref sig .tc := ⟨.hbm, 81, rfl⟩
abbrev main_call0_call0_v4 : Ref sig .tc := ⟨.hbm, 82, rfl⟩
abbrev main_call0_call0_v5 : Ref sig .tc := ⟨.hbm, 83, rfl⟩
abbrev main_call0_call0_v6 : Ref sig .tc := ⟨.hbm, 84, rfl⟩
abbrev main_call0_call0_v7 : Ref sig .tc := ⟨.hbm, 85, rfl⟩
abbrev main_call0_call0_v8 : Ref sig .tc := ⟨.hbm, 86, rfl⟩
abbrev main_call0_call0_v9 : Ref sig .tc := ⟨.hbm, 87, rfl⟩
abbrev main_call0_call0_v10 : Ref sig .tc := ⟨.hbm, 88, rfl⟩
abbrev main_call0_call0_v11 : Ref sig .tc := ⟨.hbm, 89, rfl⟩
abbrev main_call0_v1 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_call1_call0_cst : Ref sig .tc := ⟨.hbm, 95, rfl⟩
abbrev main_call1_call0_v0 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_cst_5 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_cst_6 : Ref sig .tc := ⟨.hbm, 126, rfl⟩
abbrev main_v86 : Ref sig .tc := ⟨.hbm, 127, rfl⟩
abbrev main_cst_7 : Ref sig .tc := ⟨.hbm, 128, rfl⟩
abbrev main_v87 : Ref sig .tc := ⟨.hbm, 129, rfl⟩
abbrev main_cst_8 : Ref sig .tc := ⟨.hbm, 130, rfl⟩
abbrev main_v88 : Ref sig .tc := ⟨.hbm, 131, rfl⟩
abbrev main_cst_9 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩

abbrev nD : Nat := 1
abbrev τ : Topo := Topo.v7x

variable {F : FTy → Type} [FloatOps F]
-- ==== Proof.Mlp.Runs.lean ====
/- The conditions of the body of the feed-forward kernel and where its output windows are idle. -/
module

public import proofs.«01_k».proof.Proof.Gen.MlpIdeal.Frame
public import proofs.«01_k».proof.Proof.Gen.MlpIdeal.Skeleton
public import Idealize.ShloMosaic.Lib.WordCmp

@[expose] public section

-- membership in a rectangle of production extents (`View.cover_of_tiled`): the elaborator's structural look
-- recurses once per coordinate of the long axes
set_option maxRecDepth 16384

noncomputable section

namespace Cert.MlpIdeal.Hand

open Cert.MlpIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the points before point 16 — decided over the grid. -/
theorem hcond0_0 : ∀ t : Fin cfg0.N, cond0_0 (grid0.coords t) ↔ t.val < 16 :=
  (by decide +kernel : ∀ t : Fin grid0.N, cond0_0 (grid0.coords t) ↔ t.val < 16)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 17 = 16 :=
  (fun t => by
    have ht : t.val < 17 := Nat.lt_of_lt_of_eq t.isLt N_0
    have e0 : (grid0.coords t 0).val = t.val / 1 % 17 := Pipeline.Grid.coords_val t 0 (by decide) rfl
    simp only [cond0_1, k0_cond2, e0]
    word_cmp
   : ∀ t : Fin grid0.N, cond0_1 (grid0.coords t) ↔ t.val % 17 = 16)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- At the points of case A the printed configuration (`Cfg.idle`) calls output 8 live: the case stores into it. -/
theorem liveAt0_8_A : ∀ t : Fin cfg0.N, cond0_0 (grid0.coords t) → ¬cond0_1 (grid0.coords t) → cfg0.idle 8 (grid0.coords t) = false := by decide +kernel
/-- At the points of case B the printed configuration (`Cfg.idle`) calls output 8 idle: the case stores nothing into it. -/
theorem idleAt0_8_B : ∀ t : Fin cfg0.N, ¬cond0_0 (grid0.coords t) → cond0_1 (grid0.coords t) → cfg0.idle 8 (grid0.coords t) = true := by decide +kernel
/-- At the point of case B the pipeline writes output 8's block back: what the point before left in it. -/
theorem flush0_8_B : ∀ t : Fin cfg0.N, ¬cond0_0 (grid0.coords t) → cond0_1 (grid0.coords t) → (cfg0.win 8).flush t = true := by decide +kernel
/-- At the points of case A the printed configuration (`Cfg.idle`) calls output 9 idle: the case stores nothing into it. -/
theorem idleAt0_9_A : ∀ t : Fin cfg0.N, cond0_0 (grid0.coords t) → ¬cond0_1 (grid0.coords t) → cfg0.idle 9 (grid0.coords t) = true := by decide +kernel
/-- At the points of case A the pipeline does not write output 9's block back. -/
theorem noFlush0_9_A : ∀ t : Fin cfg0.N, cond0_0 (grid0.coords t) → ¬cond0_1 (grid0.coords t) → (cfg0.win 9).flush t = false := by decide +kernel
/-- At the points of case B the printed configuration (`Cfg.idle`) calls output 9 live: the case stores into it. -/
theorem liveAt0_9_B : ∀ t : Fin cfg0.N, ¬cond0_0 (grid0.coords t) → cond0_1 (grid0.coords t) → cfg0.idle 9 (grid0.coords t) = false := by decide +kernel

/-! ## The kernel body on any staging memrefs: a subtype the run finds -/

/-- One staging buffer of output window 8, through which its contents are stated (`View.read_writes_of_cover`: the
    choice does not matter). -/
abbrev VO0_8 : View sig .tc .vmem S1024x1024 .f32 := (Memref.whole cc0_stg8_0 : Memref sig .tc .vmem S1024x1024 .f32).view
/-- One staging buffer of output window 9, through which its contents are stated (`View.read_writes_of_cover`: the
    choice does not matter). -/
abbrev VO0_9 : View sig .tc .vmem S128x1x1024 .f32 := (Memref.whole cc0_stg9_0 : Memref sig .tc .vmem S128x1x1024 .f32).view
/-- Each window's current staging memref at point `t`, spelled as the pipeline passes it (`bodyAt0`), and its wholeness. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x6144 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x6144 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x4096 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4096x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128x1x1024 .f32 := win0_9.stage (cfg0.slots t 9)
abbrev hs0_9 (t : Fin cfg0.N) : (ms0_9 t).IsWhole := hstage0_9 ((cfg0.slots t 9).cast nbuf0_9)

end Cert.MlpIdeal.Hand

end
-- ==== Proof.Mlp.RunA.lean ====
/- The run of the feed-forward body in case A. -/
module

public import proofs.«01_k».proof.Proof.Mlp.Runs

@[expose] public section

-- membership in a rectangle of production extents (`View.cover_of_tiled`): the elaborator's structural look
-- recurses once per coordinate of the long axes
set_option maxRecDepth 16384

noncomputable section

namespace Cert.MlpIdeal.Hand

open Cert.MlpIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 1, … 15: 16 of 17), WITH the
    proof that on whole staging memrefs — the inputs' at their contents, the outputs it leaves idle (9: no store, the window idle and not written back at the case's points) at contents `xi·` handed back untouched, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S1024x1024 .f32) (harg1 : arg1.IsWhole) (arg2 : Memref sig .tc .vmem S128x1024 .f32) (harg2 : arg2.IsWhole) (arg3 : Memref sig .tc .vmem S8x6144 .f32) (harg3 : arg3.IsWhole) (arg4 : Memref sig .tc .vmem S128x6144 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x4096 .bf16) (harg7 : arg7.IsWhole) (arg8 : Memref sig .tc .vmem S4096x1024 .bf16) (harg8 : arg8.IsWhole) (arg9 : Memref sig .tc .vmem S1024x1024 .f32) (harg9 : arg9.IsWhole) (arg10 : Memref sig .tc .vmem S128x1x1024 .f32) (harg10 : arg10.IsWhole) (hc0 : cond0_0 i) (hc1 : ¬cond0_1 i)
    (x0 : Vec F S1024x1024 .f32) (x1 : Vec F S128x1024 .f32) (x2 : Vec F S8x6144 .f32) (x3 : Vec F S128x6144 .f32) (x4 : Vec F S1x1024 .f32) (x5 : Vec F S1x1024 .f32) (x6 : Vec F S1024x4096 .bf16) (x7 : Vec F S4096x1024 .bf16) :
    Σ' (L8 : List (View.Piece (Elt F) S1024x1024 .f32)), { L9 : List (View.Piece (Elt F) S128x1x1024 .f32) //
      ∀ (xi9 : Vec F S128x1x1024 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xi9
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ owns (c : Thread nD τ) arg10 fullShare xi9) -∗ K ⟨⟩))
          ⊢ wp frame (wpE (defs₀ (F := F)) Variants.none c none) E (cc0_mlp i arg1 harg1 arg2 harg2 arg3 harg3 arg4 harg4 arg5 harg5 arg6 harg6 arg7 harg7 arg8 harg8 arg9 harg9 arg10 harg10) K } := by
  refine ⟨?_, [], fun xi9 E K => ?run⟩
  case run =>
    simp only [cc0_mlp_eq_skeleton]; unfold cc0_mlp_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    iexists _; isplitr; · ipureintro; exact harg10.read_unread _
    iexact H9

end Cert.MlpIdeal.Hand

end
-- ==== Proof.Mlp.RunB.lean ====
/- The run of the feed-forward body in case B. -/
module

public import proofs.«01_k».proof.Proof.Mlp.RunA

@[expose] public section

-- membership in a rectangle of production extents (`View.cover_of_tiled`): the elaborator's structural look
-- recurses once per coordinate of the long axes
set_option maxRecDepth 16384

noncomputable section

namespace Cert.MlpIdeal.Hand

open Cert.MlpIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 taken: points 16), WITH the
    proof that on whole staging memrefs — the inputs' at their contents, the outputs it leaves idle (8: no store, the window idle and not written back at the case's points) at contents `xi·` handed back untouched, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S1024x1024 .f32) (harg1 : arg1.IsWhole) (arg2 : Memref sig .tc .vmem S128x1024 .f32) (harg2 : arg2.IsWhole) (arg3 : Memref sig .tc .vmem S8x6144 .f32) (harg3 : arg3.IsWhole) (arg4 : Memref sig .tc .vmem S128x6144 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x4096 .bf16) (harg7 : arg7.IsWhole) (arg8 : Memref sig .tc .vmem S4096x1024 .bf16) (harg8 : arg8.IsWhole) (arg9 : Memref sig .tc .vmem S1024x1024 .f32) (harg9 : arg9.IsWhole) (arg10 : Memref sig .tc .vmem S128x1x1024 .f32) (harg10 : arg10.IsWhole) (hc0 : ¬cond0_0 i) (hc1 : cond0_1 i)
    (x0 : Vec F S1024x1024 .f32) (x1 : Vec F S128x1024 .f32) (x2 : Vec F S8x6144 .f32) (x3 : Vec F S128x6144 .f32) (x4 : Vec F S1x1024 .f32) (x5 : Vec F S1x1024 .f32) (x6 : Vec F S1024x4096 .bf16) (x7 : Vec F S4096x1024 .bf16) :
    Σ' (L8 : List (View.Piece (Elt F) S1024x1024 .f32)), { L9 : List (View.Piece (Elt F) S128x1x1024 .f32) //
      ∀ (xi8 : Vec F S1024x1024 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ (∃ f, arg10.view.loc (c : Thread nD τ) ↦[arg10.view.set]{fullShare} arg10.view.writes (Elt F) f L9)) -∗ K ⟨⟩))
          ⊢ wp frame (wpE (defs₀ (F := F)) Variants.none c none) E (cc0_mlp i arg1 harg1 arg2 harg2 arg3 harg3 arg4 harg4 arg5 harg5 arg6 harg6 arg7 harg7 arg8 harg8 arg9 harg9 arg10 harg10) K } := by
  refine ⟨[], ?_, fun xi8 E K => ?run⟩
  case run =>
    simp only [cc0_mlp_eq_skeleton]; unfold cc0_mlp_skel
    simp only [k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    iexists _; iexact H9

end Cert.MlpIdeal.Hand

end
-- ==== Proof.Mlp.Frame.lean ====
/- The frame of the idealized feed-forward kernel, its outputs named: what the last tile holds at the last point is what the point before left. -/
module

public import proofs.«01_k».proof.Proof.Mlp.RunB
public import Idealize.ShloMosaic.Lib.Claim
public import Idealize.ShloMosaic.Lib.Pipeline.TableIdle

@[expose] public section

-- membership in a rectangle of production extents (`View.cover_of_tiled`): the elaborator's structural look
-- recurses once per coordinate of the long axes
set_option maxRecDepth 16384

noncomputable section

namespace Cert.MlpIdeal.Hand

open Cert.MlpIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 8 tile its block (2 stores of `S512x1024`, checked by the kernel's evaluation: Lib/Ring.lean `Piece.tiledL`, linear in the pieces, through a loop's `@[irreducible]` trip theorem too), so they cover it. -/
theorem cover0_A_8 (c : Dev nD) (i : grid0.Coords) (arg1 : Memref sig .tc .vmem S1024x1024 .f32) (harg1 : arg1.IsWhole) (arg2 : Memref sig .tc .vmem S128x1024 .f32) (harg2 : arg2.IsWhole) (arg3 : Memref sig .tc .vmem S8x6144 .f32) (harg3 : arg3.IsWhole) (arg4 : Memref sig .tc .vmem S128x6144 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x4096 .bf16) (harg7 : arg7.IsWhole) (arg8 : Memref sig .tc .vmem S4096x1024 .bf16) (harg8 : arg8.IsWhole) (arg9 : Memref sig .tc .vmem S1024x1024 .f32) (harg9 : arg9.IsWhole) (arg10 : Memref sig .tc .vmem S128x1x1024 .f32) (harg10 : arg10.IsWhole) (hc0 : cond0_0 i) (hc1 : ¬cond0_1 i)
    (x0 : Vec F S1024x1024 .f32) (x1 : Vec F S128x1024 .f32) (x2 : Vec F S8x6144 .f32) (x3 : Vec F S128x6144 .f32) (x4 : Vec F S1x1024 .f32) (x5 : Vec F S1x1024 .f32) (x6 : Vec F S1024x4096 .bf16) (x7 : Vec F S4096x1024 .bf16) (y : S1024x1024.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4 x5 x6 x7).1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4 x5 x6 x7).1 S512x1024.size (by sl_kernel_rfl) y

/-- What case A leaves in output 8's staging buffer: its pieces read back over junk. -/
def out0_A_8 (c : Dev nD) (i : grid0.Coords) (arg1 : Memref sig .tc .vmem S1024x1024 .f32) (harg1 : arg1.IsWhole) (arg2 : Memref sig .tc .vmem S128x1024 .f32) (harg2 : arg2.IsWhole) (arg3 : Memref sig .tc .vmem S8x6144 .f32) (harg3 : arg3.IsWhole) (arg4 : Memref sig .tc .vmem S128x6144 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x4096 .bf16) (harg7 : arg7.IsWhole) (arg8 : Memref sig .tc .vmem S4096x1024 .bf16) (harg8 : arg8.IsWhole) (arg9 : Memref sig .tc .vmem S1024x1024 .f32) (harg9 : arg9.IsWhole) (arg10 : Memref sig .tc .vmem S128x1x1024 .f32) (harg10 : arg10.IsWhole) (hc0 : cond0_0 i) (hc1 : ¬cond0_1 i)
    (x0 : Vec F S1024x1024 .f32) (x1 : Vec F S128x1024 .f32) (x2 : Vec F S8x6144 .f32) (x3 : Vec F S128x6144 .f32) (x4 : Vec F S1x1024 .f32) (x5 : Vec F S1x1024 .f32) (x6 : Vec F S1024x4096 .bf16) (x7 : Vec F S4096x1024 .bf16) : Vec F S1024x1024 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 hc0 hc1 x0 x1 x2 x3 x4 x5 x6 x7).1)

/-- Case A stores nothing into output 9 (the window is idle at its points and not written back there):
    no pieces — a placeholder (junk read back) that nothing consults, since at these points the window is neither
    written back nor read at the next point (Lib/Pipeline.lean "Idle points"). -/
def out0_A_9 (c : Dev nD) (i : grid0.Coords) (arg1 : Memref sig .tc .vmem S1024x1024 .f32) (harg1 : arg1.IsWhole) (arg2 : Memref sig .tc .vmem S128x1024 .f32) (harg2 : arg2.IsWhole) (arg3 : Memref sig .tc .vmem S8x6144 .f32) (harg3 : arg3.IsWhole) (arg4 : Memref sig .tc .vmem S128x6144 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x4096 .bf16) (harg7 : arg7.IsWhole) (arg8 : Memref sig .tc .vmem S4096x1024 .bf16) (harg8 : arg8.IsWhole) (arg9 : Memref sig .tc .vmem S1024x1024 .f32) (harg9 : arg9.IsWhole) (arg10 : Memref sig .tc .vmem S128x1x1024 .f32) (harg10 : arg10.IsWhole) (hc0 : cond0_0 i) (hc1 : ¬cond0_1 i)
    (x0 : Vec F S1024x1024 .f32) (x1 : Vec F S128x1024 .f32) (x2 : Vec F S8x6144 .f32) (x3 : Vec F S128x6144 .f32) (x4 : Vec F S1x1024 .f32) (x5 : Vec F S1x1024 .f32) (x6 : Vec F S1024x4096 .bf16) (x7 : Vec F S4096x1024 .bf16) : Vec F S128x1x1024 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 hc0 hc1 x0 x1 x2 x3 x4 x5 x6 x7).2.1)

/-- Case B's pieces for output 9 tile its block (1 store of `S128x1x1024`, checked by the kernel's evaluation: Lib/Ring.lean `Piece.tiledL`, linear in the pieces, through a loop's `@[irreducible]` trip theorem too), so they cover it. -/
theorem cover0_B_9 (c : Dev nD) (i : grid0.Coords) (arg1 : Memref sig .tc .vmem S1024x1024 .f32) (harg1 : arg1.IsWhole) (arg2 : Memref sig .tc .vmem S128x1024 .f32) (harg2 : arg2.IsWhole) (arg3 : Memref sig .tc .vmem S8x6144 .f32) (harg3 : arg3.IsWhole) (arg4 : Memref sig .tc .vmem S128x6144 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x4096 .bf16) (harg7 : arg7.IsWhole) (arg8 : Memref sig .tc .vmem S4096x1024 .bf16) (harg8 : arg8.IsWhole) (arg9 : Memref sig .tc .vmem S1024x1024 .f32) (harg9 : arg9.IsWhole) (arg10 : Memref sig .tc .vmem S128x1x1024 .f32) (harg10 : arg10.IsWhole) (hc0 : ¬cond0_0 i) (hc1 : cond0_1 i)
    (x0 : Vec F S1024x1024 .f32) (x1 : Vec F S128x1024 .f32) (x2 : Vec F S8x6144 .f32) (x3 : Vec F S128x6144 .f32) (x4 : Vec F S1x1024 .f32) (x5 : Vec F S1x1024 .f32) (x6 : Vec F S1024x4096 .bf16) (x7 : Vec F S4096x1024 .bf16) (y : S128x1x1024.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 x5 x6 x7).2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 x4 x5 x6 x7).2.1 S128x1x1024.size (by sl_kernel_rfl) y

/-- What case B leaves in output 9's staging buffer: its pieces read back over junk. -/
def out0_B_9 (c : Dev nD) (i : grid0.Coords) (arg1 : Memref sig .tc .vmem S1024x1024 .f32) (harg1 : arg1.IsWhole) (arg2 : Memref sig .tc .vmem S128x1024 .f32) (harg2 : arg2.IsWhole) (arg3 : Memref sig .tc .vmem S8x6144 .f32) (harg3 : arg3.IsWhole) (arg4 : Memref sig .tc .vmem S128x6144 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x4096 .bf16) (harg7 : arg7.IsWhole) (arg8 : Memref sig .tc .vmem S4096x1024 .bf16) (harg8 : arg8.IsWhole) (arg9 : Memref sig .tc .vmem S1024x1024 .f32) (harg9 : arg9.IsWhole) (arg10 : Memref sig .tc .vmem S128x1x1024 .f32) (harg10 : arg10.IsWhole) (hc0 : ¬cond0_0 i) (hc1 : cond0_1 i)
    (x0 : Vec F S1024x1024 .f32) (x1 : Vec F S128x1024 .f32) (x2 : Vec F S8x6144 .f32) (x3 : Vec F S128x6144 .f32) (x4 : Vec F S1x1024 .f32) (x5 : Vec F S1x1024 .f32) (x6 : Vec F S1024x4096 .bf16) (x7 : Vec F S4096x1024 .bf16) : Vec F S128x1x1024 .f32 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 hc0 hc1 x0 x1 x2 x3 x4 x5 x6 x7).2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1024x1024 .f32 × Vec F S128x1x1024 .f32
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr (by (try dsimp only); omega)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr (by (try dsimp only); omega)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) < 16 then
      if h1 : (n + 1) % 17 = 16 then
        False.elim (by have hN : n + 1 < 17 := lt_of_lt_of_eq hn (show cfg0.N = 17 from N_0); omega)
      else
        (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      if h1 : (n + 1) % 17 = 16 then
        ((outsAt0 c n (Nat.lt_of_succ_lt hn)).1, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
      else
        False.elim (by have hN : n + 1 < 17 := lt_of_lt_of_eq hn (show cfg0.N = 17 from N_0); omega)

/-- `outsAt0` at a point of case A: that case's contents. -/
theorem outsAt0_A (c : Dev nD) (t : Fin cfg0.N) (h0 : t.val < 16) (h1 : ¬t.val % 17 = 16) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans ((dif_neg h1).trans rfl)

/-- `outsAt0` at a point of case B: that case's contents. -/
theorem outsAt0_B (c : Dev nD) (t : Fin cfg0.N) (h0 : ¬t.val < 16) (h1 : t.val % 17 = 16) :
    outsAt0 m c t.val t.isLt = ((outsAt0 m c (t.val - 1) (by omega)).1, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact (by exfalso; (try dsimp only at h0); exact by omega)
  | succ n => exact (dif_neg h0).trans ((dif_pos h1).trans rfl)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- At the last point output 8's buffer holds what the point before left in it: the block is not written back between. -/
theorem before0_8_B (c : Dev nD) (t : Fin cfg0.N) (h0 : ¬t.val < 16) (h1 : t.val % 17 = 16) (d) :
    (dats m 0 c).before 8 t d = (outsAt0 m c t.val t.isLt).1 := by
  have ht : t.val < 17 := lt_of_lt_of_eq t.isLt (show cfg0.N = 17 from N_0)
  have hv : t.val = 15 + 1 := by omega
  have hfr : cfg0.fresh 8 t.val = false := by
    rw [hv, Pipeline.Cfg.fresh_succ cfg0 8 15 (by rw [show cfg0.N = 17 from N_0]; omega)]
    have : ∀ s : Fin cfg0.N, s.val = 15 → ((cfg0.win 8).flush s || (cfg0.idle 8 (grid0.coords s) && cfg0.fresh 8 15)) = false := by
      have e : ∀ s : Fin grid0.N, s.val = 15 → (cfg0.win 8).flush s = false ∧ cfg0.idle 8 (grid0.coords s) = false := by decide +kernel
      intro s hs; rw [(e s hs).1, (e s hs).2]; rfl
    exact this _ rfl
  rw [(dats m 0 c).before_out_traj 8 rfl (fun _ _ => rfl) (fun s hs hi _ => by
    have e : ∀ s : Fin grid0.N, cfg0.idle 8 (grid0.coords s) = true → ¬ s.val < 16 ∧ s.val % 17 = 16 := by decide +kernel
    rw [after0_8, after0_8, outsAt0_B m c s (e s hi).1 (e s hi).2]) t.val t rfl d, hfr, if_neg Bool.false_ne_true, after0_8,
    outsAt0_B m c t h0 h1]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 1600000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl]
  have hN : t.val < 17 := lt_of_lt_of_eq t.isLt (show cfg0.N = 17 from N_0)
  by_cases h0 : t.val < 16
  · by_cases h1 : t.val % 17 = 16
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8_A t ((hcond0_0 t).mpr h0) (fun h => h1 ((hcond0_1 t).mp h))], after0_8]
      rw [Dat.leavesExact_idle (dats m 0 c) 9 t (idleAt0_9_A t ((hcond0_0 t).mpr h0) (fun h => h1 ((hcond0_1 t).mp h))) (noFlush0_9_A t ((hcond0_0 t).mpr h0) (fun h => h1 ((hcond0_1 t).mp h)))]
      rw [outsAt0_A m c t h0 h1]
      unfold out0_A_8; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      iintro ⟨H0, H1, H2, H3, H4, H5, H6, H7, ⟨%e8, H8⟩, H9⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _)
      iexists _; iexact H9
  · by_cases h1 : t.val % 17 = 16
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [idleAt0_8_B t (fun h => h0 ((hcond0_0 t).mp h)) ((hcond0_1 t).mpr h1), flush0_8_B t (fun h => h0 ((hcond0_0 t).mp h)) ((hcond0_1 t).mpr h1)], after0_8]
      simp only [before0_8_B m c t h0 h1]
      rw [show (dats m 0 c).leavesExact 9 t = owns (c : Thread nD τ) (ms0_9 t) fullShare ((dats m 0 c).after 9 t) from by
      unfold Dat.leavesExact; rw [liveAt0_9_B t (fun h => h0 ((hcond0_0 t).mp h)) ((hcond0_1 t).mpr h1)], after0_9]
      rw [show (outsAt0 m c t.val t.isLt).2 = _ from congrArg Prod.snd (outsAt0_B m c t h0 h1)]
      unfold out0_B_9; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_B c (grid0.coords t) _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      iintro ⟨H0, H1, H2, H3, H4, H5, H6, H7, H8, ⟨%e9, H9⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      unfold owns; iexists _; isplitr
      swap; · iexact H9
      ipureintro; exact View.read_writes_of_cover _ _ _ _ _ (cover0_B_9 c _ _ _ _ _ _ _ _ _ _ _ _ _ _ _ _ _ _ _ _ _ _ _ _ _ _ _ _ _ _ _)
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- THE FRAME: `Cert.quiescent_MlpIdeal`'s statement (Defs.lean) at any `F` — Proof.lean cites it at `Bits`:
    `theorem Cert.Proof.claim : Cert.Claim := ⟨Cert.MlpIdeal.Gen.facts, fun m ρ _ => Cert.MlpIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.MlpIdeal.Hand

end
-- ==== Proof.Mlp.Blocks.lean ====
/- The arrays the feed-forward kernel ends with, named. -/
module

public import proofs.«01_k».proof.Proof.Mlp.Frame
public import Idealize.ShloMosaic.Lib.Pipeline.Value

@[expose] public section

noncomputable section

namespace Cert.MlpIdeal.Hand

open Cert.MlpIdeal Cert.MlpIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_0) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v0_1) = (dats m 0 c).arrAt 9 cfg0.N :=
  (h c).1 9

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- After the frame run, argument `main_arg7` is as launched: input window 7 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 8 cfg0.N
      ∧ r.2.mem ((c : Thread nD τ).loc main_v0_1) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨post8 m r h c,
      post9 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

end Cert.MlpIdeal.Hand

end
-- ==== Proof.Mlp.Spec.lean ====
/- One row of the feed-forward layer over the extended reals, and the kernel's tiles as such rows. -/
module
public import proofs.«01_k».proof.Proof.Gen.MlpIdeal.Skeleton
public import Idealize.ShloMosaic.Lib.Tactic
public import Idealize.ShloMosaic.Lib.Pointwise
public import Idealize.ShloMosaic.Lib.Pipeline.ValueKit

@[expose] public section

set_option maxRecDepth 16384

noncomputable section

namespace Cert.MlpSpec

open Idealize.ShloMosaic

/-- A row divided by its root mean square, times a gain. -/
def nrm (v g : Fin 1024 → EReal) (j : Fin 1024) : EReal :=
  v j * Ideal.rsqrt (Ideal.div (∑ x, v x * v x) (Ideal.ofBits .f32 0x44800000#32) + Ideal.ofBits .f32 0x358637BD#32) * g j

/-- The modulated normalised row. -/
def hrow (x n al be : Fin 1024 → EReal) (j : Fin 1024) : EReal := nrm x n j * (1 + be j) + al j

/-- The rectified hidden unit. -/
def ff (h : Fin 1024 → EReal) (W : Fin 1024 → Fin 4096 → EReal) (k : Fin 4096) : EReal := max (∑ x, h x * W x k) 0

/-- The second product of the squared hidden units. -/
def yrow (h : Fin 1024 → EReal) (W : Fin 1024 → Fin 4096 → EReal) (D : Fin 4096 → Fin 1024 → EReal) (j : Fin 1024) : EReal :=
  ∑ k, ff h W k * ff h W k * D k j

/-- One row of the layer. -/
def rowOut (x n3 n4 al be ga : Fin 1024 → EReal) (W : Fin 1024 → Fin 4096 → EReal) (D : Fin 4096 → Fin 1024 → EReal) (j : Fin 1024) : EReal :=
  x j + ga j * nrm (yrow (hrow x n3 al be) W D) n4 j

/-- A sum over the hidden units in four chunks of 1024. -/
theorem sum4 (f : Fin 4096 → EReal) : ∑ k, f k
    = ∑ k : Fin 1024, f ⟨k.val, by omega⟩ + ∑ k : Fin 1024, f ⟨1024 + k.val, by omega⟩
      + ∑ k : Fin 1024, f ⟨2048 + k.val, by omega⟩ + ∑ k : Fin 1024, f ⟨3072 + k.val, by omega⟩ := by
  have h1 := Fin.sum_univ_add (M := EReal) (a := 3072) (b := 1024) f
  have h2 := Fin.sum_univ_add (M := EReal) (a := 2048) (b := 1024) fun k => f (Fin.castAdd 1024 k)
  have h3 := Fin.sum_univ_add (M := EReal) (a := 1024) (b := 1024) fun k => f (Fin.castAdd 1024 (Fin.castAdd 1024 k))
  exact (h1.trans (congrArg (· + _) (h2.trans (congrArg (· + _) h3))))

theorem yrow4 (h : Fin 1024 → EReal) (W : Fin 1024 → Fin 4096 → EReal) (D : Fin 4096 → Fin 1024 → EReal) (j : Fin 1024) :
    yrow h W D j = ∑ k : Fin 1024, ff h W ⟨k.val, by omega⟩ * ff h W ⟨k.val, by omega⟩ * D ⟨k.val, by omega⟩ j
      + ∑ k : Fin 1024, ff h W ⟨1024 + k.val, by omega⟩ * ff h W ⟨1024 + k.val, by omega⟩ * D ⟨1024 + k.val, by omega⟩ j
      + ∑ k : Fin 1024, ff h W ⟨2048 + k.val, by omega⟩ * ff h W ⟨2048 + k.val, by omega⟩ * D ⟨2048 + k.val, by omega⟩ j
      + ∑ k : Fin 1024, ff h W ⟨3072 + k.val, by omega⟩ * ff h W ⟨3072 + k.val, by omega⟩ * D ⟨3072 + k.val, by omega⟩ j :=
  sum4 fun k => ff h W k * ff h W k * D k j

end Cert.MlpSpec

namespace Cert.MlpIdeal.Hand

open Cert.MlpIdeal Cert.MlpIdeal.Gen Cert.MlpSpec Idealize.ShloMosaic Idealize.ShloMosaic.TcCoe Idealize.SL.Sem

/-- The single-row tile. -/
theorem tileB (x1 : Vec Ideal S128x1024 .f32) (x3 : Vec Ideal S128x6144 .f32) (x4 x5 : Vec Ideal S1x1024 .f32)
    (x6 : Vec Ideal S1024x4096 .bf16) (x7 : Vec Ideal S4096x1024 .bf16) (b : Fin 128) (j : Fin 1024)
    (T : FVec Ideal S128x1x1024 .f32)
    (hT : T = k0_pay2 (k0_pay19 x3) x1
      (k0_pay23 x5 (k0_pay20 x3 x4 x1)
        (k0_pay21 x3 x4 x1 (View.ld x6 (Rect.unit ![0, 0] ![1024, 1024] inb_S1024x4096_S1024x1024_0_0))
          (View.ld x7 (Rect.unit ![0, 0] ![1024, 1024] inb_S4096x1024_S1024x1024_0_0)))
        (k0_pay22 x3 x4 x1 (View.ld x6 (Rect.unit ![0, 1024] ![1024, 1024] inb_S1024x4096_S1024x1024_0_1024)))
        (FloatOps.ofBits .f32 0#32)
        (View.ld x7 (Rect.unit ![1024, 0] ![1024, 1024] inb_S4096x1024_S1024x1024_1024_0))
        (View.ld x6 (Rect.unit ![0, 2048] ![1024, 1024] inb_S1024x4096_S1024x1024_0_2048))
        (View.ld x7 (Rect.unit ![2048, 0] ![1024, 1024] inb_S4096x1024_S1024x1024_2048_0))
        (View.ld x6 (Rect.unit ![0, 3072] ![1024, 1024] inb_S1024x4096_S1024x1024_0_3072))
        (View.ld x7 (Rect.unit ![3072, 0] ![1024, 1024] inb_S4096x1024_S1024x1024_3072_0)))) :
    T (ix3 b 0 j) = rowOut (fun k => x1 (ix2 b k)) (fun k => x4 (ix2 0 k)) (fun k => x5 (ix2 0 k))
      (fun k => x3 (ix2 b ⟨3072 + k.val, by omega⟩)) (fun k => x3 (ix2 b ⟨4096 + k.val, by omega⟩)) (fun k => x3 (ix2 b ⟨5120 + k.val, by omega⟩))
      (fun a k => x6 (ix2 a k)) (fun k a => x7 (ix2 k a)) j := by
  subst hT
  have hH : ∀ k, k0_pay20 x3 x4 x1 (ix2 b k) = hrow (fun k => x1 (ix2 b k)) (fun k => x4 (ix2 0 k))
      (fun k => x3 (ix2 b ⟨3072 + k.val, by omega⟩)) (fun k => x3 (ix2 b ⟨4096 + k.val, by omega⟩)) k := by
    intro k
    pointwise [k0_pay20]
    rfl
  unfold k0_pay21 k0_pay22
  generalize k0_pay20 x3 x4 x1 = H at hH ⊢
  pointwise [k0_pay2, k0_pay23, k0_pay19]
  simp only [hH]
  unfold rowOut nrm
  simp only [yrow4]
  rfl

/-- The lower half of a tile. -/
theorem tileA1 (x0 : Vec Ideal S1024x1024 .f32) (v : Vec Ideal S1x6144 .f32) (x4 x5 : Vec Ideal S1x1024 .f32)
    (x6 : Vec Ideal S1024x4096 .bf16) (x7 : Vec Ideal S4096x1024 .bf16) (b : Fin 512) (j : Fin 1024)
    (T : FVec Ideal S512x1024 .f32)
    (hT : T = k0_pay1 x5 (k0_pay5 v)
      (k0_pay16 (k0_pay13 (k0_pay9 x4 (k0_pay3 v) (k0_pay4 v) (View.ld x0 (Rect.unit ![512, 0] ![512, 1024] inb_S1024x1024_S512x1024_512_0))) k0_pay10 (k0_pay12 x4 (k0_pay3 v) (k0_pay4 v) (View.ld x0 (Rect.unit ![512, 0] ![512, 1024] inb_S1024x1024_S512x1024_512_0)) (View.ld x6 (Rect.unit ![0, 0] ![1024, 1024] inb_S1024x4096_S1024x1024_0_0))) (View.ld x7 (Rect.unit ![0, 0] ![1024, 1024] inb_S4096x1024_S1024x1024_0_0)) (View.ld x6 (Rect.unit ![0, 1024] ![1024, 1024] inb_S1024x4096_S1024x1024_0_1024)) (View.ld x7 (Rect.unit ![1024, 0] ![1024, 1024] inb_S4096x1024_S1024x1024_1024_0)))
        (k0_pay15 (k0_pay9 x4 (k0_pay3 v) (k0_pay4 v) (View.ld x0 (Rect.unit ![512, 0] ![512, 1024] inb_S1024x1024_S512x1024_512_0))) (View.ld x6 (Rect.unit ![0, 2048] ![1024, 1024] inb_S1024x4096_S1024x1024_0_2048))) (View.ld x7 (Rect.unit ![2048, 0] ![1024, 1024] inb_S4096x1024_S1024x1024_2048_0)))
      (k0_pay18 (k0_pay9 x4 (k0_pay3 v) (k0_pay4 v) (View.ld x0 (Rect.unit ![512, 0] ![512, 1024] inb_S1024x1024_S512x1024_512_0))) (View.ld x6 (Rect.unit ![0, 3072] ![1024, 1024] inb_S1024x4096_S1024x1024_0_3072))) (View.ld x7 (Rect.unit ![3072, 0] ![1024, 1024] inb_S4096x1024_S1024x1024_3072_0)) (View.ld x0 (Rect.unit ![512, 0] ![512, 1024] inb_S1024x1024_S512x1024_512_0))) :
    T (ix2 b j) = rowOut (fun k => x0 (ix2 ⟨512 + b.val, by omega⟩ k)) (fun k => x4 (ix2 0 k)) (fun k => x5 (ix2 0 k))
      (fun k => v (ix2 0 ⟨3072 + k.val, by omega⟩)) (fun k => v (ix2 0 ⟨4096 + k.val, by omega⟩)) (fun k => v (ix2 0 ⟨5120 + k.val, by omega⟩))
      (fun a k => x6 (ix2 a k)) (fun k a => x7 (ix2 k a)) j := by
  subst hT
  have hH : ∀ k, (k0_pay9 x4 (k0_pay3 v) (k0_pay4 v) (View.ld x0 (Rect.unit ![512, 0] ![512, 1024] inb_S1024x1024_S512x1024_512_0))) (ix2 b k) = hrow (fun k => x0 (ix2 ⟨512 + b.val, by omega⟩ k)) (fun k => x4 (ix2 0 k))
      (fun k => v (ix2 0 ⟨3072 + k.val, by omega⟩)) (fun k => v (ix2 0 ⟨4096 + k.val, by omega⟩)) k := by
    intro k
    pointwise [k0_pay9, k0_pay3, k0_pay4]
    try simp only [Nat.zero_add]
    rfl
  unfold k0_pay12
  generalize (k0_pay9 x4 (k0_pay3 v) (k0_pay4 v) (View.ld x0 (Rect.unit ![512, 0] ![512, 1024] inb_S1024x1024_S512x1024_512_0))) = H at hH ⊢
  pointwise [k0_pay1, k0_pay5, k0_pay16, k0_pay13, k0_pay10, k0_pay15, k0_pay18]
  simp only [hH]
  unfold rowOut nrm
  simp only [yrow4, Nat.zero_add]
  rfl

/-- The upper half of a tile. -/
theorem tileA0 (x0 : Vec Ideal S1024x1024 .f32) (v : Vec Ideal S1x6144 .f32) (x4 x5 : Vec Ideal S1x1024 .f32)
    (x6 : Vec Ideal S1024x4096 .bf16) (x7 : Vec Ideal S4096x1024 .bf16) (b : Fin 512) (j : Fin 1024)
    (T : FVec Ideal S512x1024 .f32)
    (hT : T = k0_pay17 x5 (k0_pay5 v) (k0_pay8 (k0_pay6 v x4 (View.ld x0 (Rect.unit ![0, 0] ![512, 1024] inb_S1024x1024_S512x1024_0_0))) (k0_pay7 v))
      (k0_pay14 (k0_pay8 (k0_pay6 v x4 (View.ld x0 (Rect.unit ![0, 0] ![512, 1024] inb_S1024x1024_S512x1024_0_0))) (k0_pay7 v)) (k0_pay11 (k0_pay6 v x4 (View.ld x0 (Rect.unit ![0, 0] ![512, 1024] inb_S1024x1024_S512x1024_0_0))) (k0_pay7 v) (View.ld x6 (Rect.unit ![0, 0] ![1024, 1024] inb_S1024x4096_S1024x1024_0_0)) (View.ld x7 (Rect.unit ![0, 0] ![1024, 1024] inb_S4096x1024_S1024x1024_0_0))) (View.ld x6 (Rect.unit ![0, 1024] ![1024, 1024] inb_S1024x4096_S1024x1024_0_1024)) (View.ld x7 (Rect.unit ![1024, 0] ![1024, 1024] inb_S4096x1024_S1024x1024_1024_0)) (View.ld x6 (Rect.unit ![0, 2048] ![1024, 1024] inb_S1024x4096_S1024x1024_0_2048)) (View.ld x7 (Rect.unit ![2048, 0] ![1024, 1024] inb_S4096x1024_S1024x1024_2048_0)))
      (View.ld x6 (Rect.unit ![0, 3072] ![1024, 1024] inb_S1024x4096_S1024x1024_0_3072)) (View.ld x7 (Rect.unit ![3072, 0] ![1024, 1024] inb_S4096x1024_S1024x1024_3072_0)) (View.ld x0 (Rect.unit ![0, 0] ![512, 1024] inb_S1024x1024_S512x1024_0_0))) :
    T (ix2 b j) = rowOut (fun k => x0 (ix2 ⟨0 + b.val, by omega⟩ k)) (fun k => x4 (ix2 0 k)) (fun k => x5 (ix2 0 k))
      (fun k => v (ix2 0 ⟨3072 + k.val, by omega⟩)) (fun k => v (ix2 0 ⟨4096 + k.val, by omega⟩)) (fun k => v (ix2 0 ⟨5120 + k.val, by omega⟩))
      (fun a k => x6 (ix2 a k)) (fun k a => x7 (ix2 k a)) j := by
  subst hT
  have hH : ∀ k, (k0_pay8 (k0_pay6 v x4 (View.ld x0 (Rect.unit ![0, 0] ![512, 1024] inb_S1024x1024_S512x1024_0_0))) (k0_pay7 v)) (ix2 b k) = hrow (fun k => x0 (ix2 ⟨0 + b.val, by omega⟩ k)) (fun k => x4 (ix2 0 k))
      (fun k => v (ix2 0 ⟨3072 + k.val, by omega⟩)) (fun k => v (ix2 0 ⟨4096 + k.val, by omega⟩)) k := by
    intro k
    pointwise [k0_pay8, k0_pay6, k0_pay7, k0_pay4, k0_pay3]
    try simp only [Nat.zero_add]
    rfl
  unfold k0_pay11
  generalize (k0_pay8 (k0_pay6 v x4 (View.ld x0 (Rect.unit ![0, 0] ![512, 1024] inb_S1024x1024_S512x1024_0_0))) (k0_pay7 v)) = H at hH ⊢
  pointwise [k0_pay17, k0_pay5, k0_pay14]
  simp only [hH]
  unfold rowOut nrm
  simp only [yrow4, Nat.zero_add]
  rfl

end Cert.MlpIdeal.Hand
end
-- ==== Proof.Mlp.Ref.lean ====
/- The feed-forward reference, row by row. -/
module
public import proofs.«01_k».proof.Proof.Mlp.Spec
public import proofs.«01_k».proof.Proof.Gen.MlpReferenceIdeal.Run
public import Idealize.ShloMosaic.Lib.Tactic.CleanTypes

@[expose] public section

set_option maxRecDepth 16384

noncomputable section

namespace Cert.MlpRef

open Cert.MlpReferenceIdeal Cert.MlpReferenceIdeal.Value Cert.MlpSpec Idealize.ShloMosaic Idealize.ShloMosaic.TcCoe Idealize.SL.Sem

variable (m : (ℓ : Loc nD τ sig) → Buf (Elt Ideal) ℓ) (c : Dev nD)

/-- The layer on the prompt's rows, over typed arrays. -/
def rowsP (x : FVec Ideal S16384x1024 .f32) (md : FVec Ideal S8x6144 .f32) (n3 n4 : FVec Ideal S1x1024 .f32)
    (W : FVec Ideal S1024x4096 .bf16) (D : FVec Ideal S4096x1024 .bf16) (r : Fin 16384) (j : Fin 1024) : EReal :=
  rowOut (fun k => x (ix2 r k)) (fun k => n3 (ix2 0 k)) (fun k => n4 (ix2 0 k))
    (fun k => md (ix2 ⟨r.val / 2048, by omega⟩ ⟨3072 + k.val, by omega⟩)) (fun k => md (ix2 ⟨r.val / 2048, by omega⟩ ⟨4096 + k.val, by omega⟩))
    (fun k => md (ix2 ⟨r.val / 2048, by omega⟩ ⟨5120 + k.val, by omega⟩)) (fun a k => W (ix2 a k)) (fun k a => D (ix2 k a)) j

/-- The layer on the single rows, over typed arrays. -/
def rowsS (x : FVec Ideal S128x1024 .f32) (md : FVec Ideal S128x6144 .f32) (n3 n4 : FVec Ideal S1x1024 .f32)
    (W : FVec Ideal S1024x4096 .bf16) (D : FVec Ideal S4096x1024 .bf16) (b : Fin 128) (j : Fin 1024) : EReal :=
  rowOut (fun k => x (ix2 b k)) (fun k => n3 (ix2 0 k)) (fun k => n4 (ix2 0 k))
    (fun k => md (ix2 b ⟨3072 + k.val, by omega⟩)) (fun k => md (ix2 b ⟨4096 + k.val, by omega⟩))
    (fun k => md (ix2 b ⟨5120 + k.val, by omega⟩)) (fun a k => W (ix2 a k)) (fun k a => D (ix2 k a)) j

theorem refS (b : Fin 128) (j : Fin 1024) : res_main_v97 m c (ix3 b 0 j) = rowsS (m ((c.tc : Thread nD τ).loc main_arg1))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) b j := by
  unfold res_main_v97
  clean_types
  pointwise []
  rfl

theorem refP (r : Fin 16384) (j : Fin 1024) : res_main_v51 m c (ix2 r j) = rowsP (m ((c.tc : Thread nD τ).loc main_arg0))
    (m ((c.tc : Thread nD τ).loc main_arg2)) (m ((c.tc : Thread nD τ).loc main_arg4)) (m ((c.tc : Thread nD τ).loc main_arg5))
    (m ((c.tc : Thread nD τ).loc main_arg6)) (m ((c.tc : Thread nD τ).loc main_arg7)) r j := by
  unfold res_main_v51
  clean_types
  pointwise []
  rfl

end Cert.MlpRef
end
-- ==== Proof.Mlp.Val.lean ====
/- What the feed-forward kernel leaves in its two output arrays, row by row. -/
module
public import proofs.«01_k».proof.Proof.Mlp.Blocks
public import proofs.«01_k».proof.Proof.Mlp.Ref
public import Idealize.ShloMosaic.Lib.Tactic
public import Idealize.ShloMosaic.Lib.Pointwise
public import Idealize.ShloMosaic.Lib.Pipeline.ValueKit

@[expose] public section

set_option maxRecDepth 16384

noncomputable section

namespace Cert.MlpIdeal.Hand

open Cert.MlpIdeal Cert.MlpIdeal.Gen Cert.MlpSpec Cert.MlpRef Idealize.ShloMosaic Idealize.ShloMosaic.TcCoe Idealize.SL.Sem

theorem idx : ∀ t : Fin cfg0.N, win0_0.index t = ![min t.val 15, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0]
    ∧ win0_8.index t = ![min t.val 15, 0] ∧ win0_9.index t = ![0, 0, 0] := (by decide +kernel : ∀ t : Fin grid0.N, _)

theorem off1 : ∀ t : Fin cfg0.N, t.val < 16 → k0_off1 (grid0.coords t) = ![t.val / 2, 0] := (by decide +kernel : ∀ t : Fin grid0.N, t.val < 16 → k0_off1 (grid0.coords t) = ![t.val / 2, 0])

theorem fl9 : ∀ t : Fin cfg0.N, (cfg0.win 9).flush t = true → t.val = 16 := (by decide +kernel : ∀ t : Fin grid0.N, (cfg0.win 9).flush t = true → t.val = 16)

variable (m : (ℓ : Loc nD τ sig) → Buf (Elt Ideal) ℓ) (c : Dev nD)

theorem blk0 (t : Fin cfg0.N) (b k : Fin 1024) : iblk m c 0 t (ix2 b k) = m ((c.tc : Thread nD τ).loc main_arg0) (ix2 ⟨min t.val 15 * 1024 + b.val, by omega⟩ k) := by
  blk_ext [iblk, V, idx t]
theorem blk1 (t : Fin cfg0.N) (b : Fin 128) (k : Fin 1024) : iblk m c 1 t (ix2 b k) = m ((c.tc : Thread nD τ).loc main_arg1) (ix2 b k) := by
  blk_ext [iblk, V, idx t]
theorem blk2 (t : Fin cfg0.N) (b : Fin 8) (k : Fin 6144) : iblk m c 2 t (ix2 b k) = m ((c.tc : Thread nD τ).loc main_arg2) (ix2 b k) := by
  blk_ext [iblk, V, idx t]
theorem blk3 (t : Fin cfg0.N) (b : Fin 128) (k : Fin 6144) : iblk m c 3 t (ix2 b k) = m ((c.tc : Thread nD τ).loc main_arg3) (ix2 b k) := by
  blk_ext [iblk, V, idx t]
theorem blk4 (t : Fin cfg0.N) (k : Fin 1024) : iblk m c 4 t (ix2 0 k) = m ((c.tc : Thread nD τ).loc main_arg4) (ix2 0 k) := by
  blk_ext [iblk, V, idx t]
theorem blk5 (t : Fin cfg0.N) (k : Fin 1024) : iblk m c 5 t (ix2 0 k) = m ((c.tc : Thread nD τ).loc main_arg5) (ix2 0 k) := by
  blk_ext [iblk, V, idx t]
theorem blk6 (t : Fin cfg0.N) (b : Fin 1024) (k : Fin 4096) : iblk m c 6 t (ix2 b k) = m ((c.tc : Thread nD τ).loc main_arg6) (ix2 b k) := by
  blk_ext [iblk, V, idx t]
theorem blk7 (t : Fin cfg0.N) (b : Fin 4096) (k : Fin 1024) : iblk m c 7 t (ix2 b k) = m ((c.tc : Thread nD τ).loc main_arg7) (ix2 b k) := by
  blk_ext [iblk, V, idx t]

/-- The single rows' array after the run. -/
def arrS : FVec Ideal S128x1x1024 .f32 := fun i => rowsS (m ((c.tc : Thread nD τ).loc main_arg1))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (i 0) (i 2)

/-- The prompt's array after the run. -/
def arrP : FVec Ideal S16384x1024 .f32 := fun i => rowsP (m ((c.tc : Thread nD τ).loc main_arg0))
    (m ((c.tc : Thread nD τ).loc main_arg2)) (m ((c.tc : Thread nD τ).loc main_arg4)) (m ((c.tc : Thread nD τ).loc main_arg5))
    (m ((c.tc : Thread nD τ).loc main_arg6)) (m ((c.tc : Thread nD τ).loc main_arg7)) (i 0) (i 1)

theorem outB (t : Fin cfg0.N) (h0 : ¬t.val < 16) (h1 : t.val % 17 = 16) (b : Fin 128) (j : Fin 1024) :
    (outsAt0 m c t.val t.isLt).2 (ix3 b 0 j) = arrS m c (ix3 b 0 j) := by
  rw [outsAt0_B m c t h0 h1]
  frame_out
  refine (tileB (iblk m c 1 t) (iblk m c 3 t) (iblk m c 4 t) (iblk m c 5 t) (iblk m c 6 t) (iblk m c 7 t) b j _ rfl).trans ?_
  simp only [blk1, blk3, blk4, blk5, blk6, blk7]
  rfl

/-- The modulation row a prompt tile loads. -/
theorem modrow (t : Fin cfg0.N) (ht : t.val < 16) (o : Fin 2 → Nat) (ho : o = ![t.val / 2, 0]) (h) (k : Fin 6144) :
    View.ld (iblk m c 2 t) (Rect.unit o ![1, 6144] h) (ix2 0 k) = m ((c.tc : Thread nD τ).loc main_arg2) (ix2 ⟨t.val / 2, by omega⟩ k) := by
  subst ho
  refine Eq.trans ?_ (blk2 m c t ⟨t.val / 2, by omega⟩ k)
  pointwise []

theorem rowA (t : Fin cfg0.N) (ht : t.val < 16) (h) (q j : Fin 1024) (v : Vec Ideal S1x6144 .f32)
    (hv : v = View.ld (iblk m c 2 t) (Rect.unit (k0_off1 (grid0.coords t)) ![1, 6144] h)) :
    rowOut (fun k => iblk m c 0 t (ix2 q k)) (fun k => iblk m c 4 t (ix2 0 k)) (fun k => iblk m c 5 t (ix2 0 k))
      (fun k => v (ix2 0 ⟨3072 + k.val, by omega⟩)) (fun k => v (ix2 0 ⟨4096 + k.val, by omega⟩)) (fun k => v (ix2 0 ⟨5120 + k.val, by omega⟩))
      (fun a k => iblk m c 6 t (ix2 a k)) (fun k a => iblk m c 7 t (ix2 k a)) j
    = arrP m c (ix2 ⟨t.val * 1024 + q.val, by omega⟩ j) := by
  have hm : min t.val 15 = t.val := by omega
  have hd : (t.val * 1024 + q.val) / 2048 = t.val / 2 := by omega
  have hv' : ∀ k, v (ix2 0 k) = m ((c.tc : Thread nD τ).loc main_arg2) (ix2 ⟨t.val / 2, by omega⟩ k) := fun k => by
    rw [hv]; exact modrow m c t ht _ (off1 t ht) h k
  simp only [blk0, blk4, blk5, blk6, blk7, hv', hm]
  refine Eq.trans ?_ (show rowsP _ _ _ _ _ _ ⟨t.val * 1024 + q.val, by omega⟩ j = _ from rfl)
  unfold rowsP
  simp only [hd]

theorem final9 : (dats m 0 c).arrAt 9 cfg0.N = arrS m c := by
  refine (dats m 0 c).arrAt_eq_of_covers 9 _ (by decide +kernel) fun t hf y => ?_
  have h16 := fl9 t hf
  blk_simp [idx t]
  rw [after0_9]
  have e : (win0_9.blk t).view.emb y = ix3 (y 0) 0 (y 2) := by
    blk_ext [idx t]
  rw [e]
  idx_vars y
  obtain rfl : y1 = 0 := Subsingleton.elim _ _
  exact outB m c t (by omega) (by omega) _ _

theorem outA (t : Fin cfg0.N) (ht : t.val < 16) (b j : Fin 1024) :
    (outsAt0 m c t.val t.isLt).1 (ix2 b j) = arrP m c (ix2 ⟨t.val * 1024 + b.val, by omega⟩ j) := by
  rw [outsAt0_A m c t ht (by omega)]
  frame_out
  canon_tiles x h
  · idx_vars x
    refine (tileA1 (iblk m c 0 t) _ (iblk m c 4 t) (iblk m c 5 t) (iblk m c 6 t) (iblk m c 7 t) _ _ _ rfl).trans ?_
    refine (rowA m c t ht _ _ _ _ rfl).trans ?_
    obtain rfl : j = x1 := Fin.ext h1
    simp only [h0]
  · idx_vars x
    refine (tileA0 (iblk m c 0 t) _ (iblk m c 4 t) (iblk m c 5 t) (iblk m c 6 t) (iblk m c 7 t) _ _ _ rfl).trans ?_
    refine (rowA m c t ht _ _ _ _ rfl).trans ?_
    obtain rfl : j = x1 := Fin.ext h1
    simp only [h0, Nat.zero_add]

theorem outPrev (t : Fin cfg0.N) (h0 : ¬t.val < 16) (h1 : t.val % 17 = 16) :
    (outsAt0 m c t.val t.isLt).1 = (outsAt0 m c (t.val - 1) (by omega)).1 := by
  rw [outsAt0_B m c t h0 h1]

theorem outP (t : Fin cfg0.N) (b j : Fin 1024) :
    (outsAt0 m c t.val t.isLt).1 (ix2 b j) = arrP m c (ix2 ⟨min t.val 15 * 1024 + b.val, by omega⟩ j) := by
  have hN : t.val < 17 := lt_of_lt_of_eq t.isLt N_0
  by_cases h0 : t.val < 16
  · have hm : min t.val 15 = t.val := by omega
    simp only [hm]
    exact outA m c t h0 b j
  · have hm : min t.val 15 = t.val - 1 := by omega
    simp only [hm]
    rw [outPrev m c t h0 (by omega)]
    exact outA m c ⟨t.val - 1, by omega⟩ (by simp only []; omega) b j

theorem final8 : (dats m 0 c).arrAt 8 cfg0.N = arrP m c := by
  refine (dats m 0 c).arrAt_eq_of_covers 8 _ (by decide +kernel) fun t hf y => ?_
  blk_simp [idx t]
  rw [after0_8]
  idx_vars y
  refine (outP m c t _ _).trans ?_
  blk_ext [idx t]

end Cert.MlpIdeal.Hand
end
-- ==== Proof.Mlp.Claim.lean ====
/- The feed-forward kernel and its reference leave the same arrays. -/
module
public import proofs.«01_k».proof.Defs
public import proofs.«01_k».proof.Proof.Mlp.Val

@[expose] public section

set_option maxRecDepth 16384

noncomputable section

namespace Cert.MlpClaim

open Idealize.ShloMosaic Idealize.ShloMosaic.TcCoe Idealize.SL.Sem

variable (m : (ℓ : Loc Cert.MlpIdeal.nD Cert.MlpIdeal.τ Cert.MlpIdeal.sig) → Buf (Elt Ideal) ℓ)
  (m' : (ℓ : Loc Cert.MlpReferenceIdeal.nD Cert.MlpReferenceIdeal.τ Cert.MlpReferenceIdeal.sig) → Buf (Elt Ideal) ℓ)
  (c : Dev Cert.MlpIdeal.nD)

theorem eqS (i : Cert.MlpReferenceIdeal.S128x1x1024.Idx) :
    Cert.MlpReferenceIdeal.Value.res_main_v97 m' c i = Cert.MlpRef.rowsS (m' ((c.tc : Thread Cert.MlpReferenceIdeal.nD Cert.MlpReferenceIdeal.τ).loc Cert.MlpReferenceIdeal.main_arg1))
    (m' ((c.tc : Thread Cert.MlpReferenceIdeal.nD Cert.MlpReferenceIdeal.τ).loc Cert.MlpReferenceIdeal.main_arg3)) (m' ((c.tc : Thread Cert.MlpReferenceIdeal.nD Cert.MlpReferenceIdeal.τ).loc Cert.MlpReferenceIdeal.main_arg4)) (m' ((c.tc : Thread Cert.MlpReferenceIdeal.nD Cert.MlpReferenceIdeal.τ).loc Cert.MlpReferenceIdeal.main_arg5))
    (m' ((c.tc : Thread Cert.MlpReferenceIdeal.nD Cert.MlpReferenceIdeal.τ).loc Cert.MlpReferenceIdeal.main_arg6)) (m' ((c.tc : Thread Cert.MlpReferenceIdeal.nD Cert.MlpReferenceIdeal.τ).loc Cert.MlpReferenceIdeal.main_arg7)) (i 0) (i 2) := by
  idx_vars i
  obtain rfl : i1 = 0 := Subsingleton.elim _ _
  exact Cert.MlpRef.refS m' c i0 i2

theorem eqP (i : Cert.MlpReferenceIdeal.S16384x1024.Idx) :
    Cert.MlpReferenceIdeal.Value.res_main_v51 m' c i = Cert.MlpRef.rowsP (m' ((c.tc : Thread Cert.MlpReferenceIdeal.nD Cert.MlpReferenceIdeal.τ).loc Cert.MlpReferenceIdeal.main_arg0))
    (m' ((c.tc : Thread Cert.MlpReferenceIdeal.nD Cert.MlpReferenceIdeal.τ).loc Cert.MlpReferenceIdeal.main_arg2)) (m' ((c.tc : Thread Cert.MlpReferenceIdeal.nD Cert.MlpReferenceIdeal.τ).loc Cert.MlpReferenceIdeal.main_arg4)) (m' ((c.tc : Thread Cert.MlpReferenceIdeal.nD Cert.MlpReferenceIdeal.τ).loc Cert.MlpReferenceIdeal.main_arg5))
    (m' ((c.tc : Thread Cert.MlpReferenceIdeal.nD Cert.MlpReferenceIdeal.τ).loc Cert.MlpReferenceIdeal.main_arg6)) (m' ((c.tc : Thread Cert.MlpReferenceIdeal.nD Cert.MlpReferenceIdeal.τ).loc Cert.MlpReferenceIdeal.main_arg7)) (i 0) (i 1) := by
  idx_vars i
  exact Cert.MlpRef.refP m' c i0 i1

theorem algebraic : Cert.algebraic_MlpIdeal_MlpReferenceIdeal := by
  intro m g m' g' _ hag
  refine ⟨fun c => Cert.MlpIdeal.Hand.arrP m c, fun c => Cert.MlpIdeal.Hand.arrS m c, ?_, ?_⟩
  · refine (θ_run Cert.MlpIdeal.defs _ _).mono (fun r h c => ?_) (Cert.MlpIdeal.Hand.run_blocks (F := Ideal) m g)
    have hc := h c
    rw [Cert.MlpIdeal.Hand.final8 m c, Cert.MlpIdeal.Hand.final9 m c] at hc
    exact hc
  · refine (θ_run Cert.MlpReferenceIdeal.defs _ _).mono (fun r h c => ?_) (Cert.MlpReferenceIdeal.Value.run (F := Ideal) m' g')
    obtain ⟨h51, h97, hr⟩ := h c
    obtain ⟨a0, a1, a2, a3, a4, a5, a6, a7⟩ := hag c
    refine ⟨h51.trans ?_, h97.trans ?_, hr⟩
    · funext i
      refine (eqP m' c i).trans ?_
      rw [a0, a2, a4, a5, a6, a7]
      rfl
    · funext i
      refine (eqS m' c i).trans ?_
      rw [a1, a3, a4, a5, a6, a7]
      rfl

end Cert.MlpClaim
end
-- ==== Proof.Smix.Spec.lean ====
/- One decoding step of the mixer, row by row. -/
module
public import Idealize.ShloMosaic.Lib.Tactic
public import Idealize.ShloMosaic.Lib.Pointwise

@[expose] public section

set_option maxRecDepth 16384

noncomputable section

namespace Cert.SmixSpec

open Idealize.ShloMosaic

/-- The logarithm of the forget gate. -/
def lf (f : EReal) : EReal := 0 - (max (0 - f) 0 + Ideal.log1p (Ideal.exp (0 - FloatOps.absf (F := Ideal) (φ := .f32) (0 - f))))

/-- Of a finite gate it is finite. -/
theorem lf_fin (f : EReal) (h : ∃ r : ℝ, f = r) : ∃ r : ℝ, lf f = r := by
  obtain ⟨r, rfl⟩ := h
  have e1 : (0 : EReal) - (r : EReal) = ((-r : ℝ) : EReal) := by simp
  have e2 : FloatOps.absf (F := Ideal) (φ := .f32) ((-r : ℝ) : EReal) = ((|r| : ℝ) : EReal) := by
    show max (((-r : ℝ) : EReal)) (-((-r : ℝ) : EReal)) = _
    rw [← EReal.coe_neg, ← EReal.coe_strictMono.monotone.map_max, neg_neg, max_comm]; rfl
  have e3 : Ideal.log1p ((Real.exp (-|r|) : ℝ) : EReal) = ((Real.log (1 + Real.exp (-|r|)) : ℝ) : EReal) := by
    unfold Ideal.log1p
    rw [← EReal.coe_one, ← EReal.coe_add]
    show (if _ then _ else _) = _
    rw [if_neg (not_le.2 (by positivity))]
  refine ⟨-(max (-r) 0 + Real.log (1 + Real.exp (-|r|))), ?_⟩
  unfold lf
  rw [e1, e2, zero_sub, zero_sub, ← EReal.coe_neg, Ideal.exp_coe, e3, ← EReal.coe_zero, ← EReal.coe_strictMono.monotone.map_max, ← EReal.coe_add, ← EReal.coe_neg]

variable (X : FVec Ideal (⟨3, ![128, 1, 1024]⟩ : Shape) .f32) (Z : FVec Ideal (⟨2, ![128, 2568]⟩ : Shape) .f32) (QC : FVec Ideal (⟨2, ![128, 512]⟩ : Shape) .f32)
  (MD : FVec Ideal (⟨2, ![128, 6144]⟩ : Shape) .f32) (N0 : FVec Ideal (⟨3, ![128, 4, 128]⟩ : Shape) .f32) (M0 : FVec Ideal (⟨2, ![128, 4]⟩ : Shape) .f32)
  (BUF : FVec Ideal (⟨3, ![128, 15, 512]⟩ : Shape) .f32) (BI BF : FVec Ideal (⟨2, ![1, 4]⟩ : Shape) .f32) (GH : FVec Ideal (⟨2, ![1, 128]⟩ : Shape) .f32)
  (WP : FVec Ideal (⟨3, ![4, 128, 128]⟩ : Shape) .f32) (PS : FVec Ideal (⟨2, ![1, 512]⟩ : Shape) .f32) (WO : FVec Ideal (⟨2, ![1024, 1024]⟩ : Shape) .f32)
  (GP : FVec Ideal (⟨2, ![1, 1024]⟩ : Shape) .f32)

/-- The input gate. -/
def ig (b : Fin 128) (h : Fin 4) : EReal := Z (ix2 b ⟨2048 + h.val, by omega⟩) + BI (ix2 0 h)
/-- The forget gate before its nonlinearity. -/
def fg (b : Fin 128) (h : Fin 4) : EReal := Z (ix2 b ⟨2052 + h.val, by omega⟩) + BF (ix2 0 h)
/-- The new stabiliser. -/
def mS (b : Fin 128) (h : Fin 4) : EReal := max (lf (fg Z BF b h) + M0 (ix2 b h)) (ig Z BI b h)
/-- The weight of the new row. -/
def wS (b : Fin 128) (h : Fin 4) : EReal := Ideal.exp (ig Z BI b h - mS Z M0 BI BF b h)
/-- The weight of the memory carried in. -/
def aS (b : Fin 128) (h : Fin 4) : EReal := Ideal.exp (lf (fg Z BF b h) + M0 (ix2 b h) - mS Z M0 BI BF b h)
/-- The scaled key. -/
def kS (b : Fin 128) (h : Fin 4) (d : Fin 128) : EReal := Z (ix2 b ⟨(512 + h.val * 128) + d.val, by omega⟩) * Ideal.ofBits .f32 0x3DB504F3#32
/-- The new normaliser. -/
def nS (b : Fin 128) (h : Fin 4) (d : Fin 128) : EReal := aS Z M0 BI BF b h * N0 (ix3 b h d) + wS Z M0 BI BF b h * kS Z b h d
/-- The score of the new row. -/
def sS (b : Fin 128) (h : Fin 4) : EReal := (∑ x : Fin 128, Z (ix2 b ⟨h.val * 128 + x.val, by omega⟩) * kS Z b h x) * wS Z M0 BI BF b h
/-- A head's reading. -/
def hS (b : Fin 128) (h : Fin 4) (e : Fin 128) : EReal :=
  Ideal.div (aS Z M0 BI BF b h * QC (ix2 b ⟨h.val * 128 + e.val, by omega⟩) + sS Z M0 BI BF b h * Z (ix2 b ⟨(1024 + h.val * 128) + e.val, by omega⟩))
    (max (FloatOps.absf (F := Ideal) (φ := .f32) (aS Z M0 BI BF b h * (∑ x : Fin 128, Z (ix2 b ⟨h.val * 128 + x.val, by omega⟩) * N0 (ix3 b h x)) + sS Z M0 BI BF b h))
      (Ideal.exp (0 - mS Z M0 BI BF b h)))
/-- The normalised, gated head. -/
def oS (b : Fin 128) (h : Fin 4) (e : Fin 128) : EReal :=
  hS Z QC N0 M0 BI BF b h e * Ideal.rsqrt (Ideal.div (∑ x : Fin 128, hS Z QC N0 M0 BI BF b h x * hS Z QC N0 M0 BI BF b h x) (Ideal.ofBits .f32 0x43000000#32)
    + Ideal.ofBits .f32 0x358637BD#32) * GH (ix2 0 e) * Ideal.logistic (Z (ix2 b ⟨(1536 + h.val * 128) + e.val, by omega⟩))
/-- The rows carried in followed by the new row. -/
def extS (b : Fin 128) (s : ℕ) (k : Fin 512) : EReal := if h : s < 15 then BUF (ix3 b ⟨s, h⟩ k) else Z (ix2 b ⟨2056 + k.val, by omega⟩)
/-- First row of each window. -/
def st : Fin 4 → ℕ := ![14, 12, 8, 0]
/-- Length of each window. -/
def cnt : Fin 4 → EReal := ![Ideal.ofBits .f32 0x40000000#32, Ideal.ofBits .f32 0x40800000#32, Ideal.ofBits .f32 0x41000000#32, Ideal.ofBits .f32 0x41800000#32]
/-- A window's mean less the new row. -/
def pl (b : Fin 128) (g : Fin 4) (x : Fin 128) : EReal :=
  Ideal.div (∑ s ∈ Finset.Ico (st g) 16, extS Z BUF b s ⟨g.val * 128 + x.val, by omega⟩) (cnt g) - Z (ix2 b ⟨2056 + (g.val * 128 + x.val), by omega⟩)
/-- The pooling heads. -/
def pS (b : Fin 128) (g : Fin 4) (e : Fin 128) : EReal := ∑ x : Fin 128, pl Z BUF b g x * WP (ix3 g x e)
/-- The projected mixture. -/
def mixS (b : Fin 128) (k : Fin 1024) : EReal :=
  (∑ x : Fin 512, oS Z QC N0 M0 BI BF GH b ⟨x.val / 128, by omega⟩ ⟨x.val % 128, by omega⟩ * WO (ix2 ⟨x.val, by omega⟩ k))
  + ∑ x : Fin 512, pS Z BUF WP b ⟨x.val / 128, by omega⟩ ⟨x.val % 128, by omega⟩ * PS (ix2 0 x) * WO (ix2 ⟨512 + x.val, by omega⟩ k)
/-- The row that leaves the mixer. -/
def xS (b : Fin 128) (k : Fin 1024) : EReal := X (ix3 b 0 k) + MD (ix2 b ⟨2048 + k.val, by omega⟩) *
  (mixS Z QC N0 M0 BUF BI BF GH WP PS WO b k * Ideal.rsqrt (Ideal.div (∑ x : Fin 1024, mixS Z QC N0 M0 BUF BI BF GH WP PS WO b x * mixS Z QC N0 M0 BUF BI BF GH WP PS WO b x)
    (Ideal.ofBits .f32 0x44800000#32) + Ideal.ofBits .f32 0x358637BD#32) * GP (ix2 0 k))

end Cert.SmixSpec
end
-- ==== Proof.Smix.Pay.lean ====
/- What the sample mixer stores, row by row. -/
module
public import proofs.«01_k».proof.Proof.Smix.Spec
public import proofs.«01_k».proof.Proof.Gen.SmixIdeal.Value
public import Idealize.ShloMosaic.Lib.Pipeline.ValueKit
public import Idealize.ShloMosaic.Lib.Pipeline.ReadBack

@[expose] public section

set_option maxRecDepth 16384

noncomputable section

namespace Cert.SmixIdeal.Hand

open Cert.SmixIdeal Cert.SmixIdeal.Gen Cert.SmixSpec Idealize.ShloMosaic Idealize.ShloMosaic.TcCoe Idealize.SL.Sem

section Payloads

variable (X : Vec Ideal S128x1x1024 .f32) (Z : Vec Ideal S128x2568 .f32) (QC : Vec Ideal S128x512 .f32) (MD : Vec Ideal S128x6144 .f32)
  (N0 : Vec Ideal S128x4x128 .f32) (M0 : Vec Ideal S128x4 .f32) (PB : Vec Ideal S15x128x512 .f32) (BUF : Vec Ideal S128x15x512 .f32)
  (BI BF : Vec Ideal S1x4 .f32) (GH : Vec Ideal S1x128 .f32) (WP : Vec Ideal S4x128x128 .f32) (PS : Vec Ideal S1x512 .f32)
  (WO : Vec Ideal S1024x1024 .f32) (GP : Vec Ideal S1x1024 .f32)

theorem col (h : Fin 4) (p : 2048 + (4 + h.val) < 2568) : (⟨2048 + (4 + h.val), p⟩ : Fin 2568) = ⟨2052 + h.val, by omega⟩ := Fin.ext (by show 2048 + (4 + h.val) = 2052 + h.val; omega)

theorem pe (f : Fin 4 → Fin 128 → EReal) (g g' : Fin 4) (e e' : Fin 128) (hg : g.val = g'.val) (he : e.val = e'.val) : f g e = f g' e' := by rw [Fin.ext hg, Fin.ext he]

theorem payM (b : Fin 128) (h : Fin 4) : k0_pay7 (F := Ideal) Z BI BF M0 (ix2 b h) = mS Z M0 BI BF b h := by
  pointwise [k0_pay7,k0_pay6,k0_pay5,k0_pay4]
  simp only [ne_eq, not_true_eq_false, if_false, col]
  rfl

theorem payW (b : Fin 128) (h : Fin 4) : k0_pay8 (F := Ideal) Z BI BF M0 (ix2 b h) = wS Z M0 BI BF b h := by
  pointwise [k0_pay8,k0_pay5,k0_pay4]
  rw [payM]
  rfl

theorem payA (b : Fin 128) (h : Fin 4) : k0_pay9 (F := Ideal) Z BI BF M0 (ix2 b h) = aS Z M0 BI BF b h := by
  pointwise [k0_pay9,k0_pay6,k0_pay5,k0_pay4]
  simp only [ne_eq, not_true_eq_false, if_false, col, payM]
  rfl

theorem payN0 (b d : Fin 128) : k0_pay16 (F := Ideal) Z (k0_pay8 Z BI BF M0) (k0_pay9 Z BI BF M0) (View.ld (Val := Elt Ideal) N0 (Rect.unit ![0, 0, 0] ![128, 1, 128] inb_S128x4x128_S128x1x128_0_0_0)) (ix3 b 0 d) = nS Z N0 M0 BI BF b 0 d := by
  pointwise [k0_pay10,k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49]
  simp only [payM, payW, payA]
  rfl

theorem payO0 (b e : Fin 128) : k0_pay18 (F := Ideal) GH (k0_pay11 Z) (k0_pay15 Z (k0_pay7 Z BI BF M0) (k0_pay8 Z BI BF M0) (k0_pay9 Z BI BF M0) (View.ld (Val := Elt Ideal) N0 (Rect.unit ![0, 0, 0] ![128, 1, 128] inb_S128x4x128_S128x1x128_0_0_0)) (View.ld (Val := Elt Ideal) QC (Rect.unit ![0, 0] ![128, 128] inb_S128x512_S128x128_0_0))) (k0_pay17 Z (k0_pay7 Z BI BF M0) (k0_pay8 Z BI BF M0) (k0_pay9 Z BI BF M0) (View.ld (Val := Elt Ideal) N0 (Rect.unit ![0, 0, 0] ![128, 1, 128] inb_S128x4x128_S128x1x128_0_0_0)) (View.ld (Val := Elt Ideal) QC (Rect.unit ![0, 0] ![128, 128] inb_S128x512_S128x128_0_0))) (ix2 b e) = oS Z QC N0 M0 BI BF GH b 0 e := by
  pointwise [k0_pay10,k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49]
  simp only [payM, payW, payA]
  unfold oS hS sS kS
  simp only [Fin.val_zero, Nat.zero_mul, Nat.zero_add, Nat.add_zero]
  all_goals rfl

theorem payN1 (b d : Fin 128) : k0_pay27 (F := Ideal) (k0_pay25 (k0_pay9 Z BI BF M0) (View.ld (Val := Elt Ideal) N0 (Rect.unit ![0, 1, 0] ![128, 1, 128] inb_S128x4x128_S128x1x128_0_1_0))) (k0_pay26 Z (k0_pay8 Z BI BF M0)) (ix3 b 0 d) = nS Z N0 M0 BI BF b 1 d := by
  pointwise [k0_pay10,k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49]
  simp only [payM, payW, payA]
  rfl

theorem payO1 (b e : Fin 128) : k0_pay28 (F := Ideal) GH (k0_pay20 Z) (k0_pay24 Z (k0_pay7 Z BI BF M0) (k0_pay8 Z BI BF M0) (k0_pay9 Z BI BF M0) (View.ld (Val := Elt Ideal) N0 (Rect.unit ![0, 1, 0] ![128, 1, 128] inb_S128x4x128_S128x1x128_0_1_0)) (View.ld (Val := Elt Ideal) QC (Rect.unit ![0, 128] ![128, 128] inb_S128x512_S128x128_0_128))) (ix2 b e) = oS Z QC N0 M0 BI BF GH b 1 e := by
  pointwise [k0_pay10,k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49]
  simp only [payM, payW, payA]
  all_goals rfl

theorem payN2 (b d : Fin 128) : k0_pay38 (F := Ideal) (k0_pay30 Z) (k0_pay32 (View.ld (Val := Elt Ideal) N0 (Rect.unit ![0, 2, 0] ![128, 1, 128] inb_S128x4x128_S128x1x128_0_2_0))) (k0_pay33 (k0_pay9 Z BI BF M0)) (k0_pay34 (k0_pay8 Z BI BF M0)) (ix3 b 0 d) = nS Z N0 M0 BI BF b 2 d := by
  pointwise [k0_pay10,k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49]
  simp only [payM, payW, payA]
  rfl

theorem payO2 (b e : Fin 128) : k0_pay39 (F := Ideal) (k0_pay7 Z BI BF M0) GH (k0_pay31 Z) (k0_pay36 Z (k0_pay8 Z BI BF M0) (k0_pay9 Z BI BF M0) (View.ld (Val := Elt Ideal) QC (Rect.unit ![0, 256] ![128, 128] inb_S128x512_S128x128_0_256))) (k0_pay37 Z (k0_pay8 Z BI BF M0) (k0_pay9 Z BI BF M0) (View.ld (Val := Elt Ideal) N0 (Rect.unit ![0, 2, 0] ![128, 1, 128] inb_S128x4x128_S128x1x128_0_2_0))) (ix2 b e) = oS Z QC N0 M0 BI BF GH b 2 e := by
  pointwise [k0_pay10,k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49]
  simp only [payM, payW, payA]
  all_goals rfl

theorem payN3 (b d : Fin 128) : k0_pay48 (F := Ideal) (k0_pay41 Z) (k0_pay44 (View.ld (Val := Elt Ideal) N0 (Rect.unit ![0, 3, 0] ![128, 1, 128] inb_S128x4x128_S128x1x128_0_3_0))) (k0_pay45 (k0_pay9 Z BI BF M0)) (k0_pay46 (k0_pay8 Z BI BF M0)) (ix3 b 0 d) = nS Z N0 M0 BI BF b 3 d := by
  pointwise [k0_pay10,k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49]
  simp only [payM, payW, payA]
  rfl

theorem payO3 (b e : Fin 128) : k0_pay49 (F := Ideal) (k0_pay7 Z BI BF M0) GH (k0_pay40 Z) (k0_pay42 Z) (k0_pay43 Z) (k0_pay44 (View.ld (Val := Elt Ideal) N0 (Rect.unit ![0, 3, 0] ![128, 1, 128] inb_S128x4x128_S128x1x128_0_3_0))) (k0_pay45 (k0_pay9 Z BI BF M0)) (k0_pay47 Z (k0_pay8 Z BI BF M0)) (View.ld (Val := Elt Ideal) QC (Rect.unit ![0, 384] ![128, 128] inb_S128x512_S128x128_0_384)) (ix2 b e) = oS Z QC N0 M0 BI BF GH b 3 e := by
  pointwise [k0_pay10,k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49]
  simp only [payM, payW, payA]
  all_goals rfl

theorem ext0 (b : Fin 128) (r : Fin 15) (k : Fin 512) : extS Z BUF b r.val k = BUF (ix3 b r k) := dif_pos r.isLt
theorem ext1 (b : Fin 128) (k : Fin 512) : extS Z BUF b 15 k = Z (ix2 b ⟨2056 + k.val, by omega⟩) := dif_neg (by decide)

variable (hPB : ∀ (b : Fin 128) (r : Fin 15) (k : Fin 512), PB (ix3 r b k) = BUF (ix3 b r k))
include hPB

theorem payP0 (b e : Fin 128) : k0_pay54 (F := Ideal) (k0_pay51 Z) (k0_pay52 Z (View.ld (Val := Elt Ideal) PB (Rect.unit ![14, 0, 0] ![1, 128, 128] inb_S15x128x512_S1x128x128_14_0_0))) k0_pay53 (View.ld (Val := Elt Ideal) WP (Rect.unit ![0, 0, 0] ![1, 128, 128] inb_S4x128x128_S1x128x128_0_0_0)) (ix2 b e) = pS Z BUF WP b 0 e := by
  pointwise [k0_pay50,k0_pay51,k0_pay52,k0_pay53,k0_pay54,k0_pay55,k0_pay56,k0_pay57,k0_pay58]
  refine Finset.sum_congr rfl fun x _ => ?_
  simp only [pl, hPB, st, cnt, extS, Matrix.cons_val, Finset.sum_Ico_eq_sum_range, Finset.sum_range_succ, Finset.range_zero, Finset.sum_empty, zero_add,
    Nat.reduceAdd, Nat.reduceSub, Nat.reduceLT, reduceDIte, Fin.val_zero, Nat.zero_mul, Nat.zero_add, Nat.add_zero]
  rw [add_comm _ (Z _)]
  try simp only [← add_assoc]
  rfl

theorem payP1 (b e : Fin 128) : k0_pay55 (F := Ideal) (k0_pay50 Z) (View.ld (Val := Elt Ideal) PB (Rect.unit ![12, 0, 128] ![1, 128, 128] inb_S15x128x512_S1x128x128_12_0_128)) (View.ld (Val := Elt Ideal) PB (Rect.unit ![13, 0, 128] ![1, 128, 128] inb_S15x128x512_S1x128x128_13_0_128)) (View.ld (Val := Elt Ideal) PB (Rect.unit ![14, 0, 128] ![1, 128, 128] inb_S15x128x512_S1x128x128_14_0_128)) (View.ld (Val := Elt Ideal) WP (Rect.unit ![1, 0, 0] ![1, 128, 128] inb_S4x128x128_S1x128x128_1_0_0)) (ix2 b e) = pS Z BUF WP b 1 e := by
  pointwise [k0_pay50,k0_pay51,k0_pay52,k0_pay53,k0_pay54,k0_pay55,k0_pay56,k0_pay57,k0_pay58]
  refine Finset.sum_congr rfl fun x _ => ?_
  simp only [pl, hPB, st, cnt, extS, Matrix.cons_val, Finset.sum_Ico_eq_sum_range, Finset.sum_range_succ, Finset.range_zero, Finset.sum_empty, zero_add,
    Nat.reduceAdd, Nat.reduceSub, Nat.reduceLT, reduceDIte, Fin.val_zero, Nat.zero_mul, Nat.zero_add, Nat.add_zero]
  rw [add_comm _ (Z _)]
  try simp only [← add_assoc]
  rfl

theorem payP2 (b e : Fin 128) : k0_pay58 (F := Ideal) (k0_pay56 (k0_pay50 Z)) (k0_pay57 (k0_pay50 Z) (View.ld (Val := Elt Ideal) PB (Rect.unit ![8, 0, 256] ![1, 128, 128] inb_S15x128x512_S1x128x128_8_0_256)) (View.ld (Val := Elt Ideal) PB (Rect.unit ![9, 0, 256] ![1, 128, 128] inb_S15x128x512_S1x128x128_9_0_256))) (View.ld (Val := Elt Ideal) PB (Rect.unit ![10, 0, 256] ![1, 128, 128] inb_S15x128x512_S1x128x128_10_0_256)) (View.ld (Val := Elt Ideal) PB (Rect.unit ![11, 0, 256] ![1, 128, 128] inb_S15x128x512_S1x128x128_11_0_256)) (View.ld (Val := Elt Ideal) PB (Rect.unit ![12, 0, 256] ![1, 128, 128] inb_S15x128x512_S1x128x128_12_0_256)) (View.ld (Val := Elt Ideal) PB (Rect.unit ![13, 0, 256] ![1, 128, 128] inb_S15x128x512_S1x128x128_13_0_256)) (View.ld (Val := Elt Ideal) PB (Rect.unit ![14, 0, 256] ![1, 128, 128] inb_S15x128x512_S1x128x128_14_0_256)) (View.ld (Val := Elt Ideal) WP (Rect.unit ![2, 0, 0] ![1, 128, 128] inb_S4x128x128_S1x128x128_2_0_0)) (ix2 b e) = pS Z BUF WP b 2 e := by
  pointwise [k0_pay50,k0_pay51,k0_pay52,k0_pay53,k0_pay54,k0_pay55,k0_pay56,k0_pay57,k0_pay58]
  refine Finset.sum_congr rfl fun x _ => ?_
  simp only [pl, hPB, st, cnt, extS, Matrix.cons_val, Finset.sum_Ico_eq_sum_range, Finset.sum_range_succ, Finset.range_zero, Finset.sum_empty, zero_add,
    Nat.reduceAdd, Nat.reduceSub, Nat.reduceLT, reduceDIte, Fin.val_zero, Nat.zero_mul, Nat.zero_add, Nat.add_zero]
  rw [add_comm _ (Z _)]
  try simp only [← add_assoc]
  rfl

theorem payP3 (b : Fin 128) (Q0 Q1 Q2 : FVec Ideal S128x128 .f32) (h0 : ∀ e, Q0 (ix2 b e) = pS Z BUF WP b ⟨0, by decide⟩ e) (h1 : ∀ e, Q1 (ix2 b e) = pS Z BUF WP b ⟨1, by decide⟩ e)
    (h2 : ∀ e, Q2 (ix2 b e) = pS Z BUF WP b ⟨2, by decide⟩ e) (k : Fin 1024) :
    k0_pay65 (F := Ideal) Q0 Q1 Q2 (k0_pay59 (k0_pay50 Z)) (k0_pay61 (k0_pay60 (k0_pay50 Z) (View.ld (Val := Elt Ideal) PB (Rect.unit ![0, 0, 384] ![1, 128, 128] inb_S15x128x512_S1x128x128_0_0_384)) (View.ld (Val := Elt Ideal) PB (Rect.unit ![1, 0, 384] ![1, 128, 128] inb_S15x128x512_S1x128x128_1_0_384)) (View.ld (Val := Elt Ideal) PB (Rect.unit ![2, 0, 384] ![1, 128, 128] inb_S15x128x512_S1x128x128_2_0_384))) (View.ld (Val := Elt Ideal) PB (Rect.unit ![3, 0, 384] ![1, 128, 128] inb_S15x128x512_S1x128x128_3_0_384)) (View.ld (Val := Elt Ideal) PB (Rect.unit ![4, 0, 384] ![1, 128, 128] inb_S15x128x512_S1x128x128_4_0_384)) (View.ld (Val := Elt Ideal) PB (Rect.unit ![5, 0, 384] ![1, 128, 128] inb_S15x128x512_S1x128x128_5_0_384)) (View.ld (Val := Elt Ideal) PB (Rect.unit ![6, 0, 384] ![1, 128, 128] inb_S15x128x512_S1x128x128_6_0_384)) (View.ld (Val := Elt Ideal) PB (Rect.unit ![7, 0, 384] ![1, 128, 128] inb_S15x128x512_S1x128x128_7_0_384)) (View.ld (Val := Elt Ideal) PB (Rect.unit ![8, 0, 384] ![1, 128, 128] inb_S15x128x512_S1x128x128_8_0_384)) (View.ld (Val := Elt Ideal) PB (Rect.unit ![9, 0, 384] ![1, 128, 128] inb_S15x128x512_S1x128x128_9_0_384)) (View.ld (Val := Elt Ideal) PB (Rect.unit ![10, 0, 384] ![1, 128, 128] inb_S15x128x512_S1x128x128_10_0_384)) (View.ld (Val := Elt Ideal) PB (Rect.unit ![11, 0, 384] ![1, 128, 128] inb_S15x128x512_S1x128x128_11_0_384)) (View.ld (Val := Elt Ideal) PB (Rect.unit ![12, 0, 384] ![1, 128, 128] inb_S15x128x512_S1x128x128_12_0_384))) (View.ld (Val := Elt Ideal) PB (Rect.unit ![13, 0, 384] ![1, 128, 128] inb_S15x128x512_S1x128x128_13_0_384)) (View.ld (Val := Elt Ideal) PB (Rect.unit ![14, 0, 384] ![1, 128, 128] inb_S15x128x512_S1x128x128_14_0_384)) (View.ld (Val := Elt Ideal) WP (Rect.unit ![3, 0, 0] ![1, 128, 128] inb_S4x128x128_S1x128x128_3_0_0)) PS (View.ld (Val := Elt Ideal) WO (Rect.unit ![512, 0] ![512, 1024] inb_S1024x1024_S512x1024_512_0)) (ix2 b k)
      = ∑ x : Fin 512, pS Z BUF WP b ⟨x.val / 128, by omega⟩ ⟨x.val % 128, by omega⟩ * PS (ix2 0 x) * WO (ix2 ⟨512 + x.val, by omega⟩ k) := by
  have h3 : ∀ e : Fin 128, ∑ x : Fin 128, (Ideal.div (Z (ix2 b ⟨2056 + (384 + x.val), by omega⟩) + BUF (ix3 b 0 ⟨384 + x.val, by omega⟩) + BUF (ix3 b 1 ⟨384 + x.val, by omega⟩) + BUF (ix3 b 2 ⟨384 + x.val, by omega⟩) + BUF (ix3 b 3 ⟨384 + x.val, by omega⟩) + BUF (ix3 b 4 ⟨384 + x.val, by omega⟩) + BUF (ix3 b 5 ⟨384 + x.val, by omega⟩) + BUF (ix3 b 6 ⟨384 + x.val, by omega⟩) + BUF (ix3 b 7 ⟨384 + x.val, by omega⟩) + BUF (ix3 b 8 ⟨384 + x.val, by omega⟩) + BUF (ix3 b 9 ⟨384 + x.val, by omega⟩) + BUF (ix3 b 10 ⟨384 + x.val, by omega⟩) + BUF (ix3 b 11 ⟨384 + x.val, by omega⟩) + BUF (ix3 b 12 ⟨384 + x.val, by omega⟩) + BUF (ix3 b 13 ⟨384 + x.val, by omega⟩) + BUF (ix3 b 14 ⟨384 + x.val, by omega⟩)) (Ideal.ofBits .f32 0x41800000#32) - Z (ix2 b ⟨2056 + (384 + x.val), by omega⟩)) * WP (ix3 3 x e) = pS Z BUF WP b ⟨3, by decide⟩ e := by
    intro e
    show _ = pS Z BUF WP b 3 e
    refine Finset.sum_congr rfl fun x _ => ?_
    simp only [pl, st, cnt, extS, Matrix.cons_val, Finset.sum_Ico_eq_sum_range, Finset.sum_range_succ, Finset.range_zero, Finset.sum_empty, zero_add,
      Nat.reduceAdd, Nat.reduceSub, Nat.reduceLT, reduceDIte]
    rw [add_comm _ (Z _)]
    simp only [← add_assoc]
    rfl
  pointwise [k0_pay50,k0_pay59,k0_pay60,k0_pay61,k0_pay65]
  refine Finset.sum_congr rfl fun x _ => congrArg₂ _ (congrArg₂ _ ?_ rfl) rfl
  simp only [hPB, h0, h1, h2]
  have hx := x.isLt
  split_ifs
  all_goals first
    | exact pe _ _ _ _ _ (by dsimp only; omega) (by dsimp only; omega)
    | exact (h3 _).trans (pe _ _ _ _ _ (by dsimp only; omega) (by dsimp only; omega))

omit hPB in
theorem payH (b : Fin 128) (H0 H1 H2 H3 : FVec Ideal S128x128 .bf16) (h0 : ∀ e, H0 (ix2 b e) = oS Z QC N0 M0 BI BF GH b ⟨0, by decide⟩ e) (h1 : ∀ e, H1 (ix2 b e) = oS Z QC N0 M0 BI BF GH b ⟨1, by decide⟩ e)
    (h2 : ∀ e, H2 (ix2 b e) = oS Z QC N0 M0 BI BF GH b ⟨2, by decide⟩ e) (h3 : ∀ e, H3 (ix2 b e) = oS Z QC N0 M0 BI BF GH b ⟨3, by decide⟩ e) (k : Fin 1024) :
    k0_pay64 (F := Ideal) H0 H1 H2 H3 (View.ld (Val := Elt Ideal) WO (Rect.unit ![0, 0] ![512, 1024] inb_S1024x1024_S512x1024_0_0)) (ix2 b k)
      = ∑ x : Fin 512, oS Z QC N0 M0 BI BF GH b ⟨x.val / 128, by omega⟩ ⟨x.val % 128, by omega⟩ * WO (ix2 ⟨x.val, by omega⟩ k) := by
  pointwise [k0_pay64]
  refine Finset.sum_congr rfl fun x _ => congrArg₂ _ ?_ rfl
  simp only [h0, h1, h2, h3]
  have hx := x.isLt
  split_ifs
  all_goals exact pe _ _ _ _ _ (by dsimp only; omega) (by dsimp only; omega)

omit hPB in
theorem payX (b : Fin 128) (D0 D1 : FVec Ideal S128x1024 .f32) (h : ∀ k, D0 (ix2 b k) + D1 (ix2 b k) = mixS Z QC N0 M0 BUF BI BF GH WP PS WO b k) (k : Fin 1024) :
    k0_pay1 (F := Ideal) (k0_pay2 X) (k0_pay3 MD) D0 D1 GP (ix2 b k) = xS X Z QC MD N0 M0 BUF BI BF GH WP PS WO GP b k := by
  pointwise [k0_pay1,k0_pay2,k0_pay3]
  simp only [h]
  rfl

end Payloads

end Cert.SmixIdeal.Hand
end
-- ==== Proof.Smix.Val.lean ====
/- What the sample mixer leaves in its arrays, row by row. -/
module
public import proofs.«01_k».proof.Proof.Smix.Pay
public import proofs.«01_k».proof.Proof.Gen.SmixIdeal.Value
public import Idealize.ShloMosaic.Lib.Pipeline.ValueKit
public import Idealize.ShloMosaic.Lib.Pipeline.ReadBack

@[expose] public section

set_option maxRecDepth 16384

noncomputable section

namespace Cert.SmixIdeal.Hand

open Cert.SmixIdeal Cert.SmixIdeal.Gen Cert.SmixSpec Idealize.ShloMosaic Idealize.ShloMosaic.TcCoe Idealize.SL.Sem

variable (m : (ℓ : Loc nD τ sig) → Buf (Elt Ideal) ℓ) (c : Dev nD)

theorem idx : ∀ t : Fin cfg0.N, win0_0.index t = ![0, 0, 0] ∧ win0_1.index t = ![0, 0] ∧ win0_2.index t = ![0, 0] ∧ win0_3.index t = ![0, 0] ∧ win0_4.index t = ![0, 0, 0] ∧ win0_5.index t = ![0, 0] ∧ win0_6.index t = ![0, 0, 0] ∧ win0_7.index t = ![0, 0] ∧ win0_8.index t = ![0, 0] ∧ win0_9.index t = ![0, 0] ∧ win0_10.index t = ![0, 0, 0] ∧ win0_11.index t = ![0, 0] ∧ win0_12.index t = ![0, 0] ∧ win0_13.index t = ![0, 0] ∧ win0_14.index t = ![0, 0] ∧ win0_15.index t = ![0, 0, 0] ∧ win0_16.index t = ![0, 0] ∧ win0_17.index t = ![0, 0, 0] := (by decide +kernel : ∀ t : Fin grid0.N, _)

theorem blk0 (t : Fin cfg0.N) : iblk m c 0 t = m ((c.tc : Thread nD τ).loc main_arg0) := by
  funext i
  idx_vars i
  blk_ext [iblk, V, idx t]

theorem blk1 (t : Fin cfg0.N) : iblk m c 1 t = m ((c.tc : Thread nD τ).loc main_arg1) := by
  funext i
  idx_vars i
  blk_ext [iblk, V, idx t]

theorem blk2 (t : Fin cfg0.N) : iblk m c 2 t = m ((c.tc : Thread nD τ).loc main_arg2) := by
  funext i
  idx_vars i
  blk_ext [iblk, V, idx t]

theorem blk3 (t : Fin cfg0.N) : iblk m c 3 t = m ((c.tc : Thread nD τ).loc main_arg3) := by
  funext i
  idx_vars i
  blk_ext [iblk, V, idx t]

theorem blk4 (t : Fin cfg0.N) : iblk m c 4 t = m ((c.tc : Thread nD τ).loc main_arg4) := by
  funext i
  idx_vars i
  blk_ext [iblk, V, idx t]

theorem blk5 (t : Fin cfg0.N) : iblk m c 5 t = m ((c.tc : Thread nD τ).loc main_arg5) := by
  funext i
  idx_vars i
  blk_ext [iblk, V, idx t]

theorem blk7 (t : Fin cfg0.N) : iblk m c 7 t = m ((c.tc : Thread nD τ).loc main_arg7) := by
  funext i
  idx_vars i
  blk_ext [iblk, V, idx t]

theorem blk8 (t : Fin cfg0.N) : iblk m c 8 t = m ((c.tc : Thread nD τ).loc main_arg8) := by
  funext i
  idx_vars i
  blk_ext [iblk, V, idx t]

theorem blk9 (t : Fin cfg0.N) : iblk m c 9 t = m ((c.tc : Thread nD τ).loc main_arg9) := by
  funext i
  idx_vars i
  blk_ext [iblk, V, idx t]

theorem blk10 (t : Fin cfg0.N) : iblk m c 10 t = m ((c.tc : Thread nD τ).loc main_arg10) := by
  funext i
  idx_vars i
  blk_ext [iblk, V, idx t]

theorem blk11 (t : Fin cfg0.N) : iblk m c 11 t = m ((c.tc : Thread nD τ).loc main_arg11) := by
  funext i
  idx_vars i
  blk_ext [iblk, V, idx t]

theorem blk12 (t : Fin cfg0.N) : iblk m c 12 t = m ((c.tc : Thread nD τ).loc main_arg12) := by
  funext i
  idx_vars i
  blk_ext [iblk, V, idx t]

theorem blk13 (t : Fin cfg0.N) : iblk m c 13 t = m ((c.tc : Thread nD τ).loc main_arg13) := by
  funext i
  idx_vars i
  blk_ext [iblk, V, idx t]

theorem blk6 (t : Fin cfg0.N) (b : Fin 128) (r : Fin 15) (k : Fin 512) : iblk m c 6 t (ix3 r b k) = m ((c.tc : Thread nD τ).loc main_arg6) (ix3 b r k) := by
  have e : V m c main_v0 = transpose S15x128x512 [1, 0, 2] (m ((c.tc : Thread nD τ).loc main_arg6)) transposes_S128x15x512_S15x128x512_1_0_2 := by
    show StableHlo.after hostOps0 _ _ = _
    rw [hostOps0]
    after_results
  have w : iblk m c 6 t (ix3 r b k) = V m c main_v0 (ix3 r b k) := by
    blk_ext [iblk, idx t]
  rw [w, e]
  pointwise []

/-- What the sample mixer leaves in its arrays. -/
def X1 : FVec Ideal S128x1024 .f32 := fun i => xS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (i 0) (i 1)
def N1 : FVec Ideal S128x4x128 .f32 := fun i => nS (m ((c.tc : Thread nD τ).loc main_arg1)) (m ((c.tc : Thread nD τ).loc main_arg4)) (m ((c.tc : Thread nD τ).loc main_arg5)) (m ((c.tc : Thread nD τ).loc main_arg7)) (m ((c.tc : Thread nD τ).loc main_arg8)) (i 0) (i 1) (i 2)
def M1 : FVec Ideal S128x4 .f32 := fun i => mS (m ((c.tc : Thread nD τ).loc main_arg1)) (m ((c.tc : Thread nD τ).loc main_arg5)) (m ((c.tc : Thread nD τ).loc main_arg7)) (m ((c.tc : Thread nD τ).loc main_arg8)) (i 0) (i 1)
def P1 : FVec Ideal S15x128x512 .f32 := fun i => extS (m ((c.tc : Thread nD τ).loc main_arg1)) (m ((c.tc : Thread nD τ).loc main_arg6)) (i 1) ((i 0).val + 1) (i 2)

theorem outM (t : Fin cfg0.N) : (outsAt0 m c t).2.2.1 = M1 m c := by
  funext i
  idx_vars i
  unfold outsAt0
  frame_out
  simp only [read_unread_whole, blk1, blk5, blk7, blk8]
  exact payM _ _ _ _ _ _

theorem outN (t : Fin cfg0.N) : (outsAt0 m c t).2.1 = N1 m c := by
  funext i
  idx_vars i
  unfold outsAt0
  frame_out
  simp only [read_unread_whole, blk1, blk4, blk5, blk7, blk8]
  canon_tiles x hx
  · idx_vars x
    obtain rfl : i0 = x0 := Fin.ext hx0
    obtain rfl : i2 = x2 := Fin.ext hx2
    obtain rfl : x1 = 0 := Subsingleton.elim _ _
    obtain rfl : i1 = 3 := Fin.ext hx1
    exact payN3 _ _ _ _ _ _ _
  · idx_vars x
    obtain rfl : i0 = x0 := Fin.ext hx0
    obtain rfl : i2 = x2 := Fin.ext hx2
    obtain rfl : x1 = 0 := Subsingleton.elim _ _
    obtain rfl : i1 = 2 := Fin.ext hx1
    exact payN2 _ _ _ _ _ _ _
  · idx_vars x
    obtain rfl : i0 = x0 := Fin.ext hx0
    obtain rfl : i2 = x2 := Fin.ext hx2
    obtain rfl : x1 = 0 := Subsingleton.elim _ _
    obtain rfl : i1 = 1 := Fin.ext hx1
    exact payN1 _ _ _ _ _ _ _
  · idx_vars x
    obtain rfl : i0 = x0 := Fin.ext hx0
    obtain rfl : i2 = x2 := Fin.ext hx2
    obtain rfl : x1 = 0 := Subsingleton.elim _ _
    obtain rfl : i1 = 0 := Fin.ext hx1
    exact payN0 _ _ _ _ _ _ _

theorem outP (t : Fin cfg0.N) : (outsAt0 m c t).2.2.2 = P1 m c := by
  funext i
  idx_vars i
  unfold outsAt0
  frame_out
  simp only [read_unread_whole, blk1]
  canon_tiles x hx using (by
    by_cases h : i0.val = 14
    · refine ⟨_, List.mem_cons_self, ?_⟩
      rw [Rect.mem_set_unit]
      intro a
      fin_cases a <;> simp [ix3] <;> omega
    · refine ⟨_, List.mem_cons_of_mem _ List.mem_cons_self, ?_⟩
      rw [Rect.mem_set_unit]
      intro a
      fin_cases a <;> simp [ix3] <;> omega)
  · idx_vars x
    obtain rfl : i1 = x1 := Fin.ext hx1
    obtain rfl : i2 = x2 := Fin.ext hx2
    obtain rfl : x0 = 0 := Subsingleton.elim _ _
    obtain rfl : i0 = 14 := Fin.ext hx0
    refine Eq.trans ?_ (ext1 _ _ _ _).symm
    pointwise [k0_pay63, k0_pay50]
  · idx_vars x
    obtain rfl : i1 = x1 := Fin.ext hx1
    obtain rfl : i2 = x2 := Fin.ext hx2
    have h0 : i0.val = x0.val := by simpa using hx0
    have h1 : i0.val + 1 < 15 := by omega
    refine Eq.trans ?_ (ext0 (m ((c.tc : Thread nD τ).loc main_arg1)) (m ((c.tc : Thread nD τ).loc main_arg6)) i1 ⟨i0.val + 1, h1⟩ i2).symm
    pointwise [k0_pay62]
    rw [blk6]
    exact congrArg (fun r => (m ((c.tc : Thread nD τ).loc main_arg6) : FVec Ideal S128x15x512 .f32) (ix3 i1 r i2)) (Fin.ext (by dsimp only; omega))

theorem outX (t : Fin cfg0.N) : (outsAt0 m c t).1 = X1 m c := by
  funext i
  idx_vars i
  unfold outsAt0
  frame_out
  simp only [read_unread_whole, blk0, blk1, blk2, blk3, blk4, blk5, blk7, blk8, blk9, blk10, blk11, blk12, blk13]
  refine payX _ _ _ _ _ _ _ _ _ _ _ _ _ _ _ _ _ (fun k => ?_) _
  refine congrArg₂ _ (payH _ _ _ _ _ _ _ _ _ _ _ _ _ ?_ ?_ ?_ ?_ _) (payP3 _ _ _ _ _ _ ?_ _ _ _ _ ?_ ?_ ?_ _)
  · exact fun e => payO0 _ _ _ _ _ _ _ _ _
  · exact fun e => payO1 _ _ _ _ _ _ _ _ _
  · exact fun e => payO2 _ _ _ _ _ _ _ _ _
  · exact fun e => payO3 _ _ _ _ _ _ _ _ _
  · exact fun b r k => blk6 m c t b r k
  · exact fun e => payP0 _ _ _ _ (fun b r k => blk6 m c t b r k) _ _
  · exact fun e => payP1 _ _ _ _ (fun b r k => blk6 m c t b r k) _ _
  · exact fun e => payP2 _ _ _ _ (fun b r k => blk6 m c t b r k) _ _

theorem final14 : (dats m 0 c).arrAt 14 cfg0.N = X1 m c := by
  refine (dats m 0 c).arrAt_eq_of_covers 14 _ (by decide +kernel) fun t hf y => ?_
  idx_vars y
  blk_simp [idx t]
  rw [after0_14, outX]
  have e : (win0_14.blk t).view.emb (ix2 y0 y1) = ix2 y0 y1 := by
    blk_ext [idx t]
  rw [e]

theorem final15 : (dats m 0 c).arrAt 15 cfg0.N = N1 m c := by
  refine (dats m 0 c).arrAt_eq_of_covers 15 _ (by decide +kernel) fun t hf y => ?_
  idx_vars y
  blk_simp [idx t]
  rw [after0_15, outN]
  have e : (win0_15.blk t).view.emb (ix3 y0 y1 y2) = ix3 y0 y1 y2 := by
    blk_ext [idx t]
  rw [e]

theorem final16 : (dats m 0 c).arrAt 16 cfg0.N = M1 m c := by
  refine (dats m 0 c).arrAt_eq_of_covers 16 _ (by decide +kernel) fun t hf y => ?_
  idx_vars y
  blk_simp [idx t]
  rw [after0_16, outM]
  have e : (win0_16.blk t).view.emb (ix2 y0 y1) = ix2 y0 y1 := by
    blk_ext [idx t]
  rw [e]

theorem final17 : (dats m 0 c).arrAt 17 cfg0.N = P1 m c := by
  refine (dats m 0 c).arrAt_eq_of_covers 17 _ (by decide +kernel) fun t hf y => ?_
  idx_vars y
  blk_simp [idx t]
  rw [after0_17, outP]
  have e : (win0_17.blk t).view.emb (ix3 y0 y1 y2) = ix3 y0 y1 y2 := by
    blk_ext [idx t]
  rw [e]

end Cert.SmixIdeal.Hand
end
-- ==== Proof.Lib.Win.lean ====
/- Running sums written as padded window sums, read at an index. -/
module
public import Idealize.ShloMosaic.Lib.Tactic
public import Idealize.ShloMosaic.Lib.Pointwise

@[expose] public section

noncomputable section

namespace Cert.Win

open Idealize.ShloMosaic

/-- A left fold of additions is the start plus the sum. -/
theorem foldl_add (l : List EReal) (a : EReal) : l.foldl (· + ·) a = a + l.sum := by
  induction l generalizing a with
  | nil => simp
  | cons x l ih => rw [List.foldl_cons, ih, List.sum_cons, add_assoc]

theorem foldl_fin {n : ℕ} (g : Fin n → EReal) (a : EReal) : (List.finRange n).foldl (fun r k => r + g k) a = a + ∑ k, g k := by
  have := foldl_add ((List.finRange n).map g) a
  rw [List.foldl_map] at this
  rw [this, ← List.sum_ofFn, List.ofFn_eq_map]

/-- The sum of the reachable terms of a low-padded window is the sum up to the position. -/
theorem shift (N t : ℕ) (ht : t < N) (g : ℕ → EReal) :
    ∑ n : Fin N, (if N - 1 ≤ t + n.val then g (t + n.val - (N - 1)) else 0) = ∑ s ∈ Finset.range (t + 1), g s := by
  rw [Fin.sum_univ_eq_sum_range (fun n => if N - 1 ≤ t + n then g (t + n - (N - 1)) else 0) N, ← Finset.sum_filter]
  refine Finset.sum_nbij' (fun n => t + n - (N - 1)) (fun s => s + (N - 1) - t) ?_ ?_ ?_ ?_ ?_ <;>
    intro a ha <;> simp only [Finset.mem_filter, Finset.mem_range] at ha ⊢ <;> first | omega | rfl

theorem sum_window1 (K : ℕ) (g : (⟨3, ![1, K, 1]⟩ : Shape).Idx → EReal) : ∑ q, g q = ∑ k : Fin K, g (ix3 0 k 0) := by
  refine (Fintype.sum_bijective (fun k : Fin K => (ix3 0 k 0 : (⟨3, ![1, K, 1]⟩ : Shape).Idx)) ⟨?_, ?_⟩ _ _ fun _ => rfl).symm
  · intro a b h
    exact congrFun h 1
  · intro q
    refine ⟨q 1, ?_⟩
    funext a
    fin_cases a
    · exact Subsingleton.elim (α := Fin 1) _ _
    · rfl
    · exact Subsingleton.elim (α := Fin 1) _ _

theorem sum_window2 (K : ℕ) (g : (⟨3, ![1, 1, K]⟩ : Shape).Idx → EReal) : ∑ q, g q = ∑ k : Fin K, g (ix3 0 0 k) := by
  refine (Fintype.sum_bijective (fun k : Fin K => (ix3 0 0 k : (⟨3, ![1, 1, K]⟩ : Shape).Idx)) ⟨?_, ?_⟩ _ _ fun _ => rfl).symm
  · intro a b h
    exact congrFun h 2
  · intro q
    refine ⟨q 2, ?_⟩
    funext a
    fin_cases a
    · exact Subsingleton.elim (α := Fin 1) _ _
    · exact Subsingleton.elim (α := Fin 1) _ _
    · rfl

/-- A running sum along the middle axis. -/
theorem cumsum1 {A N D : ℕ} {u : Shape} (P : ℕ) (hP : P = N - 1) (x : FVec Ideal (⟨3, ![A, N, D]⟩ : Shape) .f32) (init : FVec Ideal u .f32)
    (h) (hu) (h0 : init (Shape.Idx.first hu) = 0) (a : Fin A) (t : Fin N) (d : Fin D) :
    Host.reduceWindowAdd (s := ⟨3, ![A, N, D]⟩) (t := ⟨3, ![A, N, D]⟩) ![1, N, 1] ![1, 1, 1] ![0, P, 0] ![0, 0, 0] x init h hu (ix3 a t d)
      = ∑ s ∈ Finset.range (t.val + 1), if hs : s < N then x (ix3 a ⟨s, hs⟩ d) else 0 := by
  subst hP
  rw [← shift N t.val t.isLt fun s => if hs : s < N then x (ix3 a ⟨s, hs⟩ d) else 0]
  show (List.finRange _).foldl (fun r n => r + _) (init (Shape.Idx.first hu)) = _
  rw [foldl_fin, h0, zero_add]
  refine (Fintype.sum_equiv (Shape.rowMajor ⟨3, ![1, N, 1]⟩).symm _ (fun q => @dite (Ideal .f32) (∀ e : Fin 3, (![0, N - 1, 0] : Fin 3 → ℕ) e ≤ ((ix3 a t d : (⟨3, ![A, N, D]⟩ : Shape).Idx) e).val * (![1, 1, 1] : Fin 3 → ℕ) e + (q e).val
      ∧ ((ix3 a t d : (⟨3, ![A, N, D]⟩ : Shape).Idx) e).val * (![1, 1, 1] : Fin 3 → ℕ) e + (q e).val - (![0, N - 1, 0] : Fin 3 → ℕ) e < (![A, N, D] : Fin 3 → ℕ) e
    ) (Nat.decidableForallFin _) (fun hin => x (fun e => ⟨_, (hin e).2⟩)) (fun _ => 0)) fun k => rfl).trans ?_
  rw [sum_window1]
  refine Finset.sum_congr rfl fun n _ => ?_
  by_cases hc : N - 1 ≤ t.val + n.val
  · have hlt : t.val + n.val - (N - 1) < N := by omega
    rw [if_pos hc, dif_pos hlt, dif_pos]
    · refine congrArg x (funext fun e => ?_)
      fin_cases e <;> exact Fin.ext (by simp [ix3])
    · intro e
      fin_cases e <;> simp [ix3] <;> omega
  · rw [if_neg hc, dif_neg]
    intro hin
    have := (hin 1).1
    simp [ix3] at this
    omega

/-- A running sum along the last axis. -/
theorem cumsum2 {A N D : ℕ} {u : Shape} (P : ℕ) (hP : P = N - 1) (x : FVec Ideal (⟨3, ![A, D, N]⟩ : Shape) .f32) (init : FVec Ideal u .f32)
    (h) (hu) (h0 : init (Shape.Idx.first hu) = 0) (a : Fin A) (t : Fin N) (d : Fin D) :
    Host.reduceWindowAdd (s := ⟨3, ![A, D, N]⟩) (t := ⟨3, ![A, D, N]⟩) ![1, 1, N] ![1, 1, 1] ![0, 0, P] ![0, 0, 0] x init h hu (ix3 a d t)
      = ∑ s ∈ Finset.range (t.val + 1), if hs : s < N then x (ix3 a d ⟨s, hs⟩) else 0 := by
  subst hP
  rw [← shift N t.val t.isLt fun s => if hs : s < N then x (ix3 a d ⟨s, hs⟩) else 0]
  show (List.finRange _).foldl (fun r n => r + _) (init (Shape.Idx.first hu)) = _
  rw [foldl_fin, h0, zero_add]
  refine (Fintype.sum_equiv (Shape.rowMajor ⟨3, ![1, 1, N]⟩).symm _ (fun q => @dite (Ideal .f32) (∀ e : Fin 3, (![0, 0, N - 1] : Fin 3 → ℕ) e ≤ ((ix3 a d t : (⟨3, ![A, D, N]⟩ : Shape).Idx) e).val * (![1, 1, 1] : Fin 3 → ℕ) e + (q e).val
      ∧ ((ix3 a d t : (⟨3, ![A, D, N]⟩ : Shape).Idx) e).val * (![1, 1, 1] : Fin 3 → ℕ) e + (q e).val - (![0, 0, N - 1] : Fin 3 → ℕ) e < (![A, D, N] : Fin 3 → ℕ) e
    ) (Nat.decidableForallFin _) (fun hin => x (fun e => ⟨_, (hin e).2⟩)) (fun _ => 0)) fun k => rfl).trans ?_
  rw [sum_window2]
  refine Finset.sum_congr rfl fun n _ => ?_
  by_cases hc : N - 1 ≤ t.val + n.val
  · have hlt : t.val + n.val - (N - 1) < N := by omega
    rw [if_pos hc, dif_pos hlt, dif_pos]
    · refine congrArg x (funext fun e => ?_)
      fin_cases e <;> exact Fin.ext (by simp [ix3])
    · intro e
      fin_cases e <;> simp [ix3] <;> omega
  · rw [if_neg hc, dif_neg]
    intro hin
    have := (hin 2).1
    simp [ix3] at this
    omega

end Cert.Win
end
-- ==== Proof.Smix.Ref.lean ====
/- The reference's decoding step, row by row. -/
module
public import proofs.«01_k».proof.Proof.Smix.Spec
public import proofs.«01_k».proof.Proof.Lib.Win
public import proofs.«01_k».proof.Proof.Gen.SmixReferenceIdeal.Run
public import Idealize.ShloMosaic.Lib.Tactic.CleanTypes

@[expose] public section

set_option maxRecDepth 16384

noncomputable section

namespace Cert.SmixRef

open Cert.SmixReferenceIdeal Cert.SmixReferenceIdeal.Value Cert.SmixSpec Idealize.ShloMosaic Idealize.ShloMosaic.TcCoe Idealize.SL.Sem

variable (m : Valuation τ sig (Elt Ideal))

theorem r7 (b : Fin 128) (k : Fin 2568) : (res_main_v7 m (ix3 b 0 k) : EReal) = (m (Proc.tc.devRef main_arg1)) (ix2 b k) := by
  unfold res_main_v7
  clean_types
  pointwise []

theorem r22 (b : Fin 128) (k : Fin 512) : (res_main_v22 m (ix3 b 0 k) : EReal) = (m (Proc.tc.devRef main_arg1)) (ix2 b ⟨2056 + k.val, by omega⟩) := by
  unfold res_main_v22
  clean_types
  pointwise []
  rw [r7]
theorem r24 (b : Fin 128) (h : Fin 4) (d : Fin 128) : (res_main_v24 m (ix4 b h 0 d) : EReal) = (m (Proc.tc.devRef main_arg1)) (ix2 b ⟨h.val * 128 + d.val, by omega⟩) := by
  unfold res_main_v24
  clean_types
  pointwise []
  rw [r7]
theorem r28 (b : Fin 128) (h : Fin 4) (d : Fin 128) : (res_main_v28 m (ix4 b h 0 d) : EReal) = kS (m (Proc.tc.devRef main_arg1)) b h d := by
  unfold res_main_v28
  clean_types
  pointwise []
  rw [r7]
  unfold kS
  simp only [Nat.add_assoc]
theorem rc0 (b : Fin 128) (h : Fin 4) : (res_main_call0_v0 m (ix3 b 0 h) : EReal) = 0 - fg (m (Proc.tc.devRef main_arg1)) (m (Proc.tc.devRef main_arg8)) b h := by
  unfold res_main_call0_v0
  clean_types
  pointwise []
  rw [r7, zero_sub]
  rfl
theorem cst0 : @Eq EReal (res_main_call0_call0_cst m ix0) 0 := by
  unfold res_main_call0_call0_cst
  clean_types
  pointwise []

theorem rc3 (b : Fin 128) (h : Fin 4) : (res_main_call0_call0_v3 m (ix3 b 0 h) : EReal) = 0 - fg (m (Proc.tc.devRef main_arg1)) (m (Proc.tc.devRef main_arg8)) b h := by
  unfold res_main_call0_call0_v3
  clean_types
  pointwise []
  rw [rc0]
  rw [cst0, sub_zero]
theorem r33 (b : Fin 128) (h : Fin 4) : (res_main_v33 m (ix3 b h 0) : EReal) = ig (m (Proc.tc.devRef main_arg1)) (m (Proc.tc.devRef main_arg7)) b h := by
  unfold res_main_v33
  clean_types
  pointwise []
  rw [r7]
  rfl
theorem r34 (b : Fin 128) (h : Fin 4) : (res_main_v34 m (ix3 b h 0) : EReal) = lf (fg (m (Proc.tc.devRef main_arg1)) (m (Proc.tc.devRef main_arg8)) b h) := by
  unfold res_main_v34
  clean_types
  rw [Cert.Win.cumsum2 (N := 1) _ rfl]
  · simp only [Fin.val_zero, Nat.zero_add, Finset.sum_range_one, Nat.lt_one_iff, dite_true]
    pointwise []
    rw [rc3, rc0, cst0, if_neg (by simp), ← zero_sub, ← zero_sub (FloatOps.absf _)]
    rfl
  · pointwise []

theorem r41 (b : Fin 128) (h : Fin 4) : (res_main_v41 m (ix3 b h 0) : EReal) = lf (fg (m (Proc.tc.devRef main_arg1)) (m (Proc.tc.devRef main_arg8)) b h) + (m (Proc.tc.devRef main_arg5)) (ix2 b h) := by
  unfold res_main_v41
  clean_types
  pointwise []
  rw [r34]

/-- The precondition's facts: finite forget gates and pooled rows. -/
structure Fin0 : Prop where
  gate : ∀ b h, ∃ r : ℝ, fg (m (Proc.tc.devRef main_arg1)) (m (Proc.tc.devRef main_arg8)) b h = r
  row : ∀ b s k, ∃ r : ℝ, extS (m (Proc.tc.devRef main_arg1)) (m (Proc.tc.devRef main_arg6)) b s k = r

variable (H : Fin0 m)
include H

theorem r39 (b : Fin 128) (h : Fin 4) : (res_main_v39 m (ix4 b h 0 0) : EReal) = ig (m (Proc.tc.devRef main_arg1)) (m (Proc.tc.devRef main_arg7)) b h := by
  unfold res_main_v39
  clean_types
  pointwise []
  rw [r34, r33]
  obtain ⟨r, hr⟩ := lf_fin _ (H.gate b h)
  rw [hr, ← EReal.coe_sub, sub_self, EReal.coe_zero, zero_add]

theorem r43 (b : Fin 128) (h : Fin 4) : (res_main_v43 m (ix3 b h 0) : EReal) = mS (m (Proc.tc.devRef main_arg1)) (m (Proc.tc.devRef main_arg5)) (m (Proc.tc.devRef main_arg7)) (m (Proc.tc.devRef main_arg8)) b h := by
  unfold res_main_v43
  clean_types
  pointwise []
  have e : (Ideal.ofBits FTy.f32 4286578688#32 : EReal) = ⊥ := by
    simp [Ideal.ofBits, Ideal.ieee]
  rw [r41]
  simp only [Finset.univ_unique, Fin.default_eq_zero, Finset.fold_singleton, e]
  rw [r39 m H]
  unfold mS
  simp

theorem r48 (b : Fin 128) (h : Fin 4) : (res_main_v48 m (ix3 b h 0) : EReal) = aS (m (Proc.tc.devRef main_arg1)) (m (Proc.tc.devRef main_arg5)) (m (Proc.tc.devRef main_arg7)) (m (Proc.tc.devRef main_arg8)) b h := by
  unfold res_main_v48
  clean_types
  pointwise []
  rw [r41, r43 m H]
  rfl

theorem r50 (b : Fin 128) (h : Fin 4) : (res_main_v50 m (ix4 b h 0 0) : EReal) = sS (m (Proc.tc.devRef main_arg1)) (m (Proc.tc.devRef main_arg5)) (m (Proc.tc.devRef main_arg7)) (m (Proc.tc.devRef main_arg8)) b h := by
  unfold res_main_v50
  clean_types
  pointwise []
  rw [r39 m H, r43 m H]
  simp only [r24, r28]
  rfl

theorem r70 (b : Fin 128) (h : Fin 4) : (res_main_v70 m (ix2 b h) : EReal) = mS (m (Proc.tc.devRef main_arg1)) (m (Proc.tc.devRef main_arg5)) (m (Proc.tc.devRef main_arg7)) (m (Proc.tc.devRef main_arg8)) b h := by
  unfold res_main_v70
  clean_types
  pointwise []
  rw [r43 m H]

theorem r84 (b : Fin 128) (h : Fin 4) (d : Fin 128) : (res_main_v84 m (ix4 b 0 h d) : EReal) = hS (m (Proc.tc.devRef main_arg1)) (m (Proc.tc.devRef main_arg2)) (m (Proc.tc.devRef main_arg4)) (m (Proc.tc.devRef main_arg5)) (m (Proc.tc.devRef main_arg7)) (m (Proc.tc.devRef main_arg8)) b h d := by
  unfold res_main_v84
  clean_types
  pointwise []
  simp only [Finset.univ_unique, Fin.default_eq_zero, Finset.sum_singleton, r48 m H, r50 m H, r43 m H, r24, r7]
  unfold hS
  simp only [Nat.add_assoc, zero_sub]

theorem r110 (b : Fin 128) (r : Fin 16) (k : Fin 512) : (res_main_v110 m (ix3 b r k) : EReal) = extS (m (Proc.tc.devRef main_arg1)) (m (Proc.tc.devRef main_arg6)) b r.val k := by
  unfold res_main_v110
  clean_types
  pointwise []
  unfold extS
  have hr := r.isLt
  by_cases h0 : r.val < 15
  · rw [dif_pos h0, dif_pos h0]
  · rw [dif_neg h0, dif_neg h0]
    have e : (⟨r.val - 15, by omega⟩ : Fin 1) = 0 := Subsingleton.elim _ _
    rw [e, r22]

theorem r112 (b : Fin 128) (r : Fin 17) (k : Fin 512) : (res_main_v112 m (ix3 b r k) : EReal) = ∑ s ∈ Finset.range r.val, extS (m (Proc.tc.devRef main_arg1)) (m (Proc.tc.devRef main_arg6)) b s k := by
  unfold res_main_v112
  clean_types
  pointwise []
  have hr := r.isLt
  split_ifs with h0
  · rw [Cert.Win.cumsum1 (N := 16) _ rfl]
    · have e : r.val - 1 + 1 = r.val := by omega
      simp only [e]
      refine Finset.sum_congr rfl fun s hs => ?_
      have := Finset.mem_range.1 hs
      rw [dif_pos (by omega), r110 m H]
    · pointwise []
  · have e : r.val = 0 := by omega
    rw [e, Finset.sum_range_zero]
    show (((0#32 : BitVec 32).toInt : ℝ) : EReal) = 0
    simp

theorem r116 : (res_main_v116 m (ix1 0) : EReal) = ((16384 : ℝ) : EReal) := by
  unfold res_main_v116
  clean_types
  pointwise []
  show ((((16384#32 : BitVec 32) + 0#32).toInt : ℝ) : EReal) = _
  rw [show ((16384#32 : BitVec 32) + 0#32).toInt = 16384 by decide]
  norm_num

theorem cs (b : Fin 128) (k : Fin 512) (n : ℕ) (hn : n ≤ 16) : (∑ s ∈ Finset.range 16, extS (m (Proc.tc.devRef main_arg1)) (m (Proc.tc.devRef main_arg6)) b s k) - ∑ s ∈ Finset.range n, extS (m (Proc.tc.devRef main_arg1)) (m (Proc.tc.devRef main_arg6)) b s k
    = ∑ s ∈ Finset.Ico n 16, extS (m (Proc.tc.devRef main_arg1)) (m (Proc.tc.devRef main_arg6)) b s k := by
  rw [← Finset.sum_range_add_sum_Ico _ hn]
  have hr : ∀ l, ∃ r : ℝ, ∑ s ∈ Finset.range l, extS (m (Proc.tc.devRef main_arg1)) (m (Proc.tc.devRef main_arg6)) b s k = r := by
    intro l
    induction l with
    | zero => exact ⟨0, by simp⟩
    | succ l ih =>
      obtain ⟨r, hr⟩ := ih
      obtain ⟨r', hr'⟩ := H.row b l k
      exact ⟨r + r', by rw [Finset.sum_range_succ, hr, hr', EReal.coe_add]⟩
  obtain ⟨r, hr⟩ := hr n
  rw [hr, add_comm, add_sub_assoc, ← EReal.coe_sub, sub_self, EReal.coe_zero, add_zero]

omit H in
theorem cntR : (min ((16384 : ℝ) + 1 : EReal) (Ideal.ofBits FTy.f32 1073741824#32) = cnt 0) ∧ (min ((16384 : ℝ) + 1 : EReal) (Ideal.ofBits FTy.f32 1082130432#32) = cnt 1)
    ∧ (min ((16384 : ℝ) + 1 : EReal) (Ideal.ofBits FTy.f32 1090519040#32) = cnt 2) ∧ (min ((16384 : ℝ) + 1 : EReal) (Ideal.ofBits FTy.f32 1098907648#32) = cnt 3) := by
  refine ⟨?_, ?_, ?_, ?_⟩ <;> refine min_eq_right ?_ <;> simp [Ideal.ofBits, Ideal.ieee] <;> norm_cast <;> norm_num

theorem r167a (b : Fin 128) (k : Fin 512) : (res_main_v167 m (ix3 b 0 ⟨k.val, by omega⟩) : EReal) = oS (m (Proc.tc.devRef main_arg1)) (m (Proc.tc.devRef main_arg2)) (m (Proc.tc.devRef main_arg4)) (m (Proc.tc.devRef main_arg5)) (m (Proc.tc.devRef main_arg7)) (m (Proc.tc.devRef main_arg8)) (m (Proc.tc.devRef main_arg9)) b ⟨k.val / 128, by omega⟩ ⟨k.val % 128, by omega⟩ := by
  unfold res_main_v167
  clean_types
  pointwise []
  simp only [r84 m H, r7]
  refine congrArg₂ _ rfl (congrArg (fun j => Ideal.logistic ((m (Proc.tc.devRef main_arg1)) (ix2 b j))) (Fin.ext ?_))
  dsimp only
  omega

theorem r167p (C : FVec Ideal (⟨3, ![128, 17, 512]⟩ : Shape) .f32) (U : FVec Ideal (⟨3, ![128, 1, 512]⟩ : Shape) .f32) (n : EReal)
    (hC : ∀ (b : Fin 128) (r : Fin 17) (k : Fin 512), C (ix3 b r k) = ∑ s ∈ Finset.range r.val, extS (m (Proc.tc.devRef main_arg1)) (m (Proc.tc.devRef main_arg6)) b s k)
    (hU : ∀ (b : Fin 128) (k : Fin 512), U (ix3 b 0 k) = (m (Proc.tc.devRef main_arg1)) (ix2 b ⟨2056 + k.val, by omega⟩)) (hn : n = ((16384 : ℝ) : EReal)) (b : Fin 128) (g : Fin 4) (x : Fin 128) : ((if h : g.val * 128 + x.val < 128 then Ideal.div (C (ix3 b 16 ⟨g.val * 128 + x.val, by omega⟩) - C (ix3 b 14 ⟨g.val * 128 + x.val, by omega⟩)) (min (n + 1) (Ideal.ofBits FTy.f32 1073741824#32)) else
    if h : g.val * 128 + x.val - 128 < 128 then Ideal.div (C (ix3 b 16 ⟨128 + (g.val * 128 + x.val - 128), by omega⟩) - C (ix3 b 12 ⟨128 + (g.val * 128 + x.val - 128), by omega⟩)) (min (n + 1) (Ideal.ofBits FTy.f32 1082130432#32)) else
    if h : g.val * 128 + x.val - 128 - 128 < 128 then Ideal.div (C (ix3 b 16 ⟨256 + (g.val * 128 + x.val - 128 - 128), by omega⟩) - C (ix3 b 8 ⟨256 + (g.val * 128 + x.val - 128 - 128), by omega⟩)) (min (n + 1) (Ideal.ofBits FTy.f32 1090519040#32)) else
    Ideal.div (C (ix3 b 16 ⟨384 + (g.val * 128 + x.val - 128 - 128 - 128), by omega⟩) - C (ix3 b 0 ⟨384 + (g.val * 128 + x.val - 128 - 128 - 128), by omega⟩)) (min (n + 1) (Ideal.ofBits FTy.f32 1098907648#32))) - U (ix3 b 0 ⟨g.val * 128 + x.val, by omega⟩) : EReal) = pl (m (Proc.tc.devRef main_arg1)) (m (Proc.tc.devRef main_arg6)) b g x := by
  obtain ⟨c0, c1, c2, c3⟩ := cntR
  obtain ⟨g, hg⟩ := g
  have hx := x.isLt
  simp only [hC, hU, hn]
  interval_cases g
  · rw [dif_pos (by omega)]
    exact congrArg₂ _ (congrArg₂ _ (cs m H b _ 14 (by omega)) c0) rfl
  · rw [dif_neg (by omega), dif_pos (by omega)]
    refine congrArg₂ _ (congrArg₂ _ ((cs m H b _ 12 (by omega)).trans ?_) c1) rfl
    all_goals exact Finset.sum_congr rfl fun s _ => congrArg _ (Fin.ext (by dsimp only; omega))
  · rw [dif_neg (by omega), dif_neg (by omega), dif_pos (by omega)]
    refine congrArg₂ _ (congrArg₂ _ ((cs m H b _ 8 (by omega)).trans ?_) c2) rfl
    all_goals exact Finset.sum_congr rfl fun s _ => congrArg _ (Fin.ext (by dsimp only; omega))
  · rw [dif_neg (by omega), dif_neg (by omega), dif_neg (by omega)]
    refine congrArg₂ _ (congrArg₂ _ ((cs m H b _ 0 (by omega)).trans ?_) c3) rfl
    all_goals exact Finset.sum_congr rfl fun s _ => congrArg _ (Fin.ext (by dsimp only; omega))

theorem r167b (b : Fin 128) (k : Fin 512) : (res_main_v167 m (ix3 b 0 ⟨512 + k.val, by omega⟩) : EReal) = pS (m (Proc.tc.devRef main_arg1)) (m (Proc.tc.devRef main_arg6)) (m (Proc.tc.devRef main_arg10)) b ⟨k.val / 128, by omega⟩ ⟨k.val % 128, by omega⟩ * (m (Proc.tc.devRef main_arg11)) (ix2 0 k) := by
  unfold res_main_v167
  clean_types
  pointwise []
  refine congrArg₂ _ (Finset.sum_congr rfl fun x _ => ?_) rfl
  rw [mul_comm]
  exact congrArg₂ _ (r167p m H _ _ _ (r112 m H) (r22 m) (r116 m H) b ⟨k.val / 128, by omega⟩ x) rfl

theorem r168 (b : Fin 128) (k : Fin 1024) : (res_main_v168 m (ix3 b 0 k) : EReal) = mixS (m (Proc.tc.devRef main_arg1)) (m (Proc.tc.devRef main_arg2)) (m (Proc.tc.devRef main_arg4)) (m (Proc.tc.devRef main_arg5)) (m (Proc.tc.devRef main_arg6)) (m (Proc.tc.devRef main_arg7)) (m (Proc.tc.devRef main_arg8)) (m (Proc.tc.devRef main_arg9)) (m (Proc.tc.devRef main_arg10)) (m (Proc.tc.devRef main_arg11)) (m (Proc.tc.devRef main_arg12)) b k := by
  unfold res_main_v168
  clean_types
  pointwise []
  refine (Fin.sum_univ_add (a := 512) (b := 512) _).trans ?_
  refine congrArg₂ _ (Finset.sum_congr rfl fun x _ => ?_) (Finset.sum_congr rfl fun x _ => ?_)
  · exact congrArg₂ _ (r167a m H b x) rfl
  · exact congrArg₂ _ (r167b m H b x) rfl

end Cert.SmixRef
end
-- ==== Proof.Smix.Pre.lean ====
/- What the sample mixer's precondition says, index by index. -/
module
public import proofs.«01_k».proof.Pre_sample_finite
public import proofs.«01_k».proof.Proof.Smix.Spec
public import Idealize.ShloMosaic.Lib.ReduceAll
public import Idealize.ShloMosaic.Lib.Tactic
public import Idealize.ShloMosaic.Lib.Pointwise

@[expose] public section

set_option maxRecDepth 16384

noncomputable section

namespace Cert.Pre_sample_finite

open Idealize.ShloMosaic Cert.SmixSpec

instance facts : Facts where
  slices_S128x2568_S128x516_0_2052 := by decide
  bcast_S_S128x516 := by decide
  reducesTo_S128x516_S_d0_1 := by decide
  h_S_ := by decide
  bcast_S_S128x15x512 := by decide
  reducesTo_S128x15x512_S_d0_1_2 := by decide
  bcast_S_S1x4 := by decide
  reducesTo_S1x4_S_d0_1 := by decide

theorem both : ∀ a b : BitVec 1, IntOp.andi a b = 1#1 → a = 1#1 ∧ b = 1#1 := by decide

/-- A comparison of an absolute value with infinity that holds says the value is a real number. -/
theorem real_of_abs (x : EReal) (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  unfold Ideal.cmp at h
  induction x with
  | bot => simp at h
  | top => simp at h
  | coe r => exact ⟨r, rfl⟩

/-- The gates and the pooled rows are real numbers. -/
theorem of_fn (a0 : FVec Ideal S128x1x1024 .f32) (a1 : FVec Ideal S128x2568 .f32) (a2 : FVec Ideal S128x512 .f32) (a3 : FVec Ideal S128x6144 .f32) (a4 : FVec Ideal S128x4x128 .f32) (a5 : FVec Ideal S128x4 .f32) (a6 : FVec Ideal S128x15x512 .f32) (a7 : FVec Ideal S1x4 .f32) (a8 : FVec Ideal S1x4 .f32) (a9 : FVec Ideal S1x128 .f32) (a10 : FVec Ideal S4x128x128 .f32) (a11 : FVec Ideal S1x512 .f32) (a12 : FVec Ideal S1024x1024 .f32) (a13 : FVec Ideal S1x1024 .f32)
    (h : fn (F := Ideal) a0 a1 a2 a3 a4 a5 a6 a7 a8 a9 a10 a11 a12 a13 = fun _ => 1#1) :
    (∀ b g, ∃ r : ℝ, fg a1 a8 b g = r) ∧ ∀ b s k, ∃ r : ℝ, extS a1 a6 b s k = r := by
  have h0 := congrFun h ix0
  obtain ⟨h1, h2⟩ := both _ _ h0
  obtain ⟨h3, h4⟩ := both _ _ h1
  have : Subsingleton S_.Idx := ⟨fun x y => funext fun a => a.elim0⟩
  have z1 : ∀ (b : Fin 128) (k : Fin 516), ∃ r : ℝ, a1 (ix2 b ⟨2052 + k.val, by omega⟩) = (r : EReal) := fun b k => by
    have q := Host.reduce_andi_all _ _ _ _ _ h3 (ix2 b k)
    refine real_of_abs _ (Eq.trans ?_ q)
    pointwise []
    rfl
  have z2 : ∀ (b : Fin 128) (s : Fin 15) (k : Fin 512), ∃ r : ℝ, a6 (ix3 b s k) = (r : EReal) := fun b s k =>
    real_of_abs _ (Host.reduce_andi_all _ _ _ _ _ h4 (ix3 b s k))
  have z3 : ∀ (k : Fin 4), ∃ r : ℝ, a8 (ix2 0 k) = (r : EReal) := fun k =>
    real_of_abs _ (Host.reduce_andi_all _ _ _ _ _ h2 (ix2 0 k))
  refine ⟨fun b g => ?_, fun b s k => ?_⟩
  · obtain ⟨r, hr⟩ := z1 b ⟨g.val, by omega⟩
    obtain ⟨r', hr'⟩ := z3 g
    refine ⟨r + r', ?_⟩
    unfold fg
    rw [hr, hr']
    rfl
  · unfold extS
    split_ifs with hs
    · exact z2 b ⟨s, hs⟩ k
    · obtain ⟨r, hr⟩ := z1 b ⟨4 + k.val, by omega⟩
      refine ⟨r, ?_⟩
      rw [← hr]
      exact congrArg a1 (congrArg (ix2 b) (Fin.ext (by dsimp only; omega)))

end Cert.Pre_sample_finite
end
-- ==== Proof.Smix.Claim.lean ====
/- The sample mixer and its reference leave the same arrays. -/
module
public import proofs.«01_k».proof.Defs
public import proofs.«01_k».proof.Proof.Smix.Val
public import proofs.«01_k».proof.Proof.Smix.Ref
public import proofs.«01_k».proof.Proof.Smix.Pre

@[expose] public section

set_option maxRecDepth 16384

noncomputable section

namespace Cert.SmixRef

open Idealize.ShloMosaic Idealize.ShloMosaic.TcCoe Idealize.SL.Sem
open Cert.SmixReferenceIdeal Cert.SmixReferenceIdeal.Gen Cert.SmixReferenceIdeal.Value Cert.SmixSpec

variable (m : Valuation τ sig (Elt Ideal)) (H : Fin0 m)
include H

theorem resN (b : Fin 128) (h : Fin 4) (d : Fin 128) : (((addf (mulf (broadcastInDim S128x4x128 ![0, 1, 2] bcast_S128x4x1_S128x4x128_0_1_2 (broadcastInDim S128x4x1 ![0, 1] bcast_S128x4_S128x4x1_0_1 (Host.exp (subf (shapeCast _ (res_main_v41 m) shapeCasts_S128x4x1_S128x4) (res_main_v70 m))))) (m (Proc.devRef .tc main_arg4))) (Host.dotGeneral (φ₁ := .f32) (φ₂ := .f32) dot_S128x4x1_S128x4x1x128_S128x4x128_2_2_n_3_01_01 none (Host.exp (subf (addf (subf (res_main_v34 m) (res_main_v34 m)) (res_main_v33 m)) (broadcastInDim S128x4x1 ![0, 1] bcast_S128x4_S128x4x1_0_1 (res_main_v70 m)))) (res_main_v28 m))) : FVec Ideal S128x4x128 .f32) (ix3 b h d) : EReal)
    = nS (m (Proc.tc.devRef main_arg1)) (m (Proc.tc.devRef main_arg4)) (m (Proc.tc.devRef main_arg5)) (m (Proc.tc.devRef main_arg7)) (m (Proc.tc.devRef main_arg8)) b h d := by
  clean_types
  pointwise []
  rw [Fin.sum_univ_one, r41, r70 m H, r34, r33, r28]
  obtain ⟨r, hr⟩ := lf_fin _ (H.gate b h)
  unfold nS aS wS
  rw [hr, ← EReal.coe_sub, sub_self, EReal.coe_zero, zero_add]

theorem resP (s : Fin 15) (b : Fin 128) (k : Fin 512) : (((transpose S15x128x512 [1, 0, 2] (extractStridedSlice S128x15x512 ![0, 1, 0] (res_main_v110 m) slices_S128x16x512_S128x15x512_0_1_0) transposes_S128x15x512_S15x128x512_1_0_2) : FVec Ideal S15x128x512 .f32) (ix3 s b k) : EReal)
    = extS (m (Proc.tc.devRef main_arg1)) (m (Proc.tc.devRef main_arg6)) b (s.val + 1) k := by
  clean_types
  pointwise []
  rw [r110 m H]
  exact congrArg (extS _ _ b · k) (Nat.add_comm 1 s.val)

theorem resX (b : Fin 128) (k : Fin 1024) : (((shapeCast S128x1024 (addf (m (Proc.devRef .tc main_arg0)) (mulf (extractStridedSlice S128x1x1024 ![0, 0, 2048] (res_main_v0 m) slices_S128x1x6144_S128x1x1024_0_0_2048) (mulf (mulf (res_main_v168 m) (broadcastInDim S128x1x1024 ![0, 1, 2] bcast_S128x1x1_S128x1x1024_0_1_2 (Host.rsqrt (addf (Host.divf (broadcastInDim S128x1x1 ![0, 1] bcast_S128x1_S128x1x1_0_1 (Host.reduceAdd (mulf (res_main_v168 m) (res_main_v168 m)) (constant S_ .f32 0x00000000#32) reducesTo_S128x1x1024_S128x1_d2 h_S_)) (broadcastInDim S128x1x1 ![] bcast_S_S128x1x1 (constant S_ .f32 0x44800000#32))) (broadcastInDim S128x1x1 ![] bcast_S_S128x1x1 (constant S_ .f32 0x358637BD#32)))))) (broadcastInDim S128x1x1024 ![0, 1, 2] bcast_S1x1x1024_S128x1x1024_0_1_2 (broadcastInDim S1x1x1024 ![2] bcast_S1024_S1x1x1024_2 (shapeCast _ (m (Proc.devRef .tc main_arg13)) shapeCasts_S1x1024_S1024)))))) shapeCasts_S128x1x1024_S128x1024) : FVec Ideal S128x1024 .f32) (ix2 b k) : EReal)
    = xS (m (Proc.tc.devRef main_arg0)) (m (Proc.tc.devRef main_arg1)) (m (Proc.tc.devRef main_arg2)) (m (Proc.tc.devRef main_arg3)) (m (Proc.tc.devRef main_arg4)) (m (Proc.tc.devRef main_arg5)) (m (Proc.tc.devRef main_arg6)) (m (Proc.tc.devRef main_arg7)) (m (Proc.tc.devRef main_arg8)) (m (Proc.tc.devRef main_arg9)) (m (Proc.tc.devRef main_arg10)) (m (Proc.tc.devRef main_arg11)) (m (Proc.tc.devRef main_arg12)) (m (Proc.tc.devRef main_arg13)) b k := by
  unfold res_main_v0
  clean_types
  pointwise []
  simp only [r168 m H]
  rfl

end Cert.SmixRef

namespace Cert.SmixClaim

open Idealize.ShloMosaic Idealize.ShloMosaic.TcCoe Idealize.SL.Sem Cert.SmixSpec

theorem algebraic : Cert.algebraic_SmixIdeal_SmixReferenceIdeal_pre_sample_finite := by
  intro m g m' g' hpre hag
  refine ⟨fun c => Cert.SmixIdeal.Hand.X1 m c, fun c => Cert.SmixIdeal.Hand.N1 m c, fun c => Cert.SmixIdeal.Hand.M1 m c, fun c => Cert.SmixIdeal.Hand.P1 m c, ?_, ?_⟩
  · refine (θ_run Cert.SmixIdeal.defs _ _).mono (fun r h c => ?_) (Cert.SmixIdeal.Value.run_blocks (F := Ideal) m g)
    have hc := h c
    rw [Cert.SmixIdeal.Hand.final14 m c, Cert.SmixIdeal.Hand.final15 m c, Cert.SmixIdeal.Hand.final16 m c, Cert.SmixIdeal.Hand.final17 m c] at hc
    exact hc
  · refine (θ_run Cert.SmixReferenceIdeal.defs _ _).mono (fun r h c => ?_) (Cert.SmixReferenceIdeal.Value.run (F := Ideal) m' g')
    obtain ⟨hx, hn, hm, hp, hr⟩ := h c
    obtain ⟨a0, a1, a2, a3, a4, a5, a6, a7, a8, a9, a10, a11, a12, a13⟩ := hag c
    have hq := Cert.Pre_sample_finite.of_fn _ _ _ _ _ _ _ _ _ _ _ _ _ _ (hpre c)
    have H : Cert.SmixRef.Fin0 (StableHlo.launchContents m' c) := by
      refine ⟨fun b h => ?_, fun b s k => ?_⟩
      · have q := hq.1 b h
        rw [← a1, ← a8] at q
        exact q
      · have q := hq.2 b s k
        rw [← a1, ← a6] at q
        exact q
    refine ⟨hx.trans ?_, hn.trans ?_, hm.trans ?_, hp.trans ?_, hr⟩
    · funext i
      idx_vars i
      refine (Cert.SmixRef.resX _ H i0 i1).trans ?_
      show xS (m' ((c.tc : Thread Cert.SmixReferenceIdeal.nD Cert.SmixReferenceIdeal.τ).loc Cert.SmixReferenceIdeal.main_arg0)) (m' ((c.tc : Thread Cert.SmixReferenceIdeal.nD Cert.SmixReferenceIdeal.τ).loc Cert.SmixReferenceIdeal.main_arg1)) (m' ((c.tc : Thread Cert.SmixReferenceIdeal.nD Cert.SmixReferenceIdeal.τ).loc Cert.SmixReferenceIdeal.main_arg2)) (m' ((c.tc : Thread Cert.SmixReferenceIdeal.nD Cert.SmixReferenceIdeal.τ).loc Cert.SmixReferenceIdeal.main_arg3)) (m' ((c.tc : Thread Cert.SmixReferenceIdeal.nD Cert.SmixReferenceIdeal.τ).loc Cert.SmixReferenceIdeal.main_arg4)) (m' ((c.tc : Thread Cert.SmixReferenceIdeal.nD Cert.SmixReferenceIdeal.τ).loc Cert.SmixReferenceIdeal.main_arg5)) (m' ((c.tc : Thread Cert.SmixReferenceIdeal.nD Cert.SmixReferenceIdeal.τ).loc Cert.SmixReferenceIdeal.main_arg6)) (m' ((c.tc : Thread Cert.SmixReferenceIdeal.nD Cert.SmixReferenceIdeal.τ).loc Cert.SmixReferenceIdeal.main_arg7)) (m' ((c.tc : Thread Cert.SmixReferenceIdeal.nD Cert.SmixReferenceIdeal.τ).loc Cert.SmixReferenceIdeal.main_arg8)) (m' ((c.tc : Thread Cert.SmixReferenceIdeal.nD Cert.SmixReferenceIdeal.τ).loc Cert.SmixReferenceIdeal.main_arg9)) (m' ((c.tc : Thread Cert.SmixReferenceIdeal.nD Cert.SmixReferenceIdeal.τ).loc Cert.SmixReferenceIdeal.main_arg10)) (m' ((c.tc : Thread Cert.SmixReferenceIdeal.nD Cert.SmixReferenceIdeal.τ).loc Cert.SmixReferenceIdeal.main_arg11)) (m' ((c.tc : Thread Cert.SmixReferenceIdeal.nD Cert.SmixReferenceIdeal.τ).loc Cert.SmixReferenceIdeal.main_arg12)) (m' ((c.tc : Thread Cert.SmixReferenceIdeal.nD Cert.SmixReferenceIdeal.τ).loc Cert.SmixReferenceIdeal.main_arg13)) i0 i1 = _
      rw [a0, a1, a2, a3, a4, a5, a6, a7, a8, a9, a10, a11, a12, a13]
      rfl
    · funext i
      idx_vars i
      refine (Cert.SmixRef.resN _ H i0 i1 i2).trans ?_
      show nS (m' ((c.tc : Thread Cert.SmixReferenceIdeal.nD Cert.SmixReferenceIdeal.τ).loc Cert.SmixReferenceIdeal.main_arg1)) (m' ((c.tc : Thread Cert.SmixReferenceIdeal.nD Cert.SmixReferenceIdeal.τ).loc Cert.SmixReferenceIdeal.main_arg4)) (m' ((c.tc : Thread Cert.SmixReferenceIdeal.nD Cert.SmixReferenceIdeal.τ).loc Cert.SmixReferenceIdeal.main_arg5)) (m' ((c.tc : Thread Cert.SmixReferenceIdeal.nD Cert.SmixReferenceIdeal.τ).loc Cert.SmixReferenceIdeal.main_arg7)) (m' ((c.tc : Thread Cert.SmixReferenceIdeal.nD Cert.SmixReferenceIdeal.τ).loc Cert.SmixReferenceIdeal.main_arg8)) i0 i1 i2 = _
      rw [a1, a4, a5, a7, a8]
      rfl
    · funext i
      idx_vars i
      refine (Cert.SmixRef.r70 _ H i0 i1).trans ?_
      show mS (m' ((c.tc : Thread Cert.SmixReferenceIdeal.nD Cert.SmixReferenceIdeal.τ).loc Cert.SmixReferenceIdeal.main_arg1)) (m' ((c.tc : Thread Cert.SmixReferenceIdeal.nD Cert.SmixReferenceIdeal.τ).loc Cert.SmixReferenceIdeal.main_arg5)) (m' ((c.tc : Thread Cert.SmixReferenceIdeal.nD Cert.SmixReferenceIdeal.τ).loc Cert.SmixReferenceIdeal.main_arg7)) (m' ((c.tc : Thread Cert.SmixReferenceIdeal.nD Cert.SmixReferenceIdeal.τ).loc Cert.SmixReferenceIdeal.main_arg8)) i0 i1 = _
      rw [a1, a5, a7, a8]
      rfl
    · funext i
      idx_vars i
      refine (Cert.SmixRef.resP _ H i0 i1 i2).trans ?_
      show extS (m' ((c.tc : Thread Cert.SmixReferenceIdeal.nD Cert.SmixReferenceIdeal.τ).loc Cert.SmixReferenceIdeal.main_arg1)) (m' ((c.tc : Thread Cert.SmixReferenceIdeal.nD Cert.SmixReferenceIdeal.τ).loc Cert.SmixReferenceIdeal.main_arg6)) i1 (i0.val + 1) i2 = _
      rw [a1, a6]
      rfl

end Cert.SmixClaim
end
-- ==== Proof.MixBits.Frame.lean ====
/- The prompt-mixing kernel ends, leaving its arguments as they were and its counters at zero. -/
module

public import proofs.«01_k».proof.Proof.MixBits.SoundA
public import proofs.«01_k».proof.Proof.MixBits.SoundB
public import proofs.«01_k».proof.Proof.MixBits.SoundC
public import Idealize.ShloMosaic.Lib.Claim

@[expose] public section

set_option maxRecDepth 16384

noncomputable section

namespace Cert.Mix.Hand

open Cert.Mix.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The body at any point. -/
theorem sound_body (c : Dev nD) (t : Fin cfg0.N) :
    bodyPre m c t ⊢ wp frame (wpE (defs₀ (F := F)) Variants.none c none) Set.univ (bodyAt0 t) (fun _ => bodyPost m c t) := by
  rcases Nat.mod_two_eq_zero_or_one t.val with h | h
  · by_cases hz : t.val = 0
    · exact sound_A m c t hz
    · exact sound_C m c t h hz
  · exact sound_B m c t h

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- After the last point the scratch buffers' contents are forgotten. -/
theorem hout (c : Dev nD) : (dats m 0 c).Φ (Fin.last cfg0.N) ⊢ Pipeline.ΦD osem0 spec0 H0 (V m) c := by
  have hN : cfg0.N = 16 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), PhiD0_eq]
  unfold PhiAt
  iintro ⟨⟨HS0, HS1, HS2, HS3, HS4, HS5, HS6⟩, Hg, ⟨Hq0, Hq1, Hq2, Hq3⟩, ⟨Hh0, Hh1⟩⟩
  isplitl [HS0 HS1 HS2 HS3 HS4 HS5 HS6]
  · isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    iexists _; iexact HS6
  isplitl [Hg]; · iexact Hg
  isplitl [Hq0 Hq1 Hq2 Hq3]
  · isplitl [Hq0]; · iexact Hq0
    isplitl [Hq1]; · iexact Hq1
    isplitl [Hq2]; · iexact Hq2
    iexact Hq3
  isplitl [Hh0]; · iexact Hh0
  iexact Hh1

set_option backward.isDefEq.respectTransparency.types false in
/-- The launch: every run ends, with the arrays as the proof data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_dma_shared (Q' := _) cfgs (dats m) (0 : Fin 1) launch₀0 osem0 defs₀ Variants.none ownSemFacts0 H0 H0_sub m ρ main
    (hbody := fun c => (body_obligation m c).loose) (hq := fun _ _ _ => rfl)
    (howed := fun _ _ => rfl) (V := V m) (hmain := hmain m Variants.none) (hA := A_eq m)
    (hin := hin m) (hout := hout m)

set_option maxHeartbeats 16000000 in
/-- The arguments end as they began, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  (θ_run defs _ _).mono (fun _ h => ⟨fun c => ⟨((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c))),
      ((h.1 c).1 3).trans (((dats m 0 c).arrAt_in 3 rfl _).trans ((A_eq m c 3).trans (V_main_arg3 m c))),
      ((h.1 c).2 main_arg4 (Pipeline.mem_restRefs_of main_arg4 (by decide) (by decide))).trans (V_main_arg4 m c),
      ((h.1 c).1 13).trans (((dats m 0 c).arrAt_in 13 rfl _).trans ((A_eq m c 13).trans (V_main_arg5 m c))),
      ((h.1 c).1 14).trans (((dats m 0 c).arrAt_in 14 rfl _).trans ((A_eq m c 14).trans (V_main_arg6 m c))),
      ((h.1 c).1 6).trans (((dats m 0 c).arrAt_in 6 rfl _).trans ((A_eq m c 6).trans (V_main_arg7 m c))),
      ((h.1 c).1 7).trans (((dats m 0 c).arrAt_in 7 rfl _).trans ((A_eq m c 7).trans (V_main_arg8 m c))),
      ((h.1 c).1 8).trans (((dats m 0 c).arrAt_in 8 rfl _).trans ((A_eq m c 8).trans (V_main_arg9 m c))),
      ((h.1 c).2 main_arg10 (Pipeline.mem_restRefs_of main_arg10 (by decide) (by decide))).trans (V_main_arg10 m c),
      ((h.1 c).1 9).trans (((dats m 0 c).arrAt_in 9 rfl _).trans ((A_eq m c 9).trans (V_main_arg11 m c))),
      ((h.1 c).1 10).trans (((dats m 0 c).arrAt_in 10 rfl _).trans ((A_eq m c 10).trans (V_main_arg12 m c))),
      ((h.1 c).1 11).trans (((dats m 0 c).arrAt_in 11 rfl _).trans ((A_eq m c 11).trans (V_main_arg13 m c))),
      ((h.1 c).1 12).trans (((dats m 0 c).arrAt_in 12 rfl _).trans ((A_eq m c 12).trans (V_main_arg14 m c))),
      ((h.1 c).1 15).trans (((dats m 0 c).arrAt_in 15 rfl _).trans ((A_eq m c 15).trans (V_main_arg15 m c)))⟩, h.2⟩) (run_main_quiescent m ρ)

end Cert.Mix.Hand

end
-- ==== Proof.Mix.Runs.lean ====
/- What the runs of the prompt-mixing kernel share: the conditions of its branches, where its windows are idle, its
   buffers, semaphores and the arrays left in main memory. -/
module

public import proofs.«01_k».proof.Proof.Gen.MixIdeal.Frame
public import proofs.«01_k».proof.Proof.Gen.MixIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.MixIdeal.Hand

open Cert.MixIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The program up to its one call, for a body with transfers of its own. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-! ## The body's branch conditions -/

abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 2 % 8 := Pipeline.Grid.coords_val t 0 (by decide) rfl
    have e1 : (grid0.coords t 1).val = t.val / 1 % 2 := Pipeline.Grid.coords_val t 1 (by decide) rfl
    simp only [cond0_0, e0, e1]
    word_cmp
   : ∀ t : Fin grid0.N, cond0_0 (grid0.coords t) ↔ t.val % 16 = 0)

abbrev cond0_1 (i : grid0.Coords) : Prop := (Scalar.cmpi .ne (Scalar.extui (Scalar.cmpi .eq (BitVec.ofNat 32 (i 1).val) 0#32)) 0#32) = 1#1
theorem hcond0_1 : ∀ t : Fin cfg0.N, cond0_1 (grid0.coords t) ↔ t.val % 2 = 0 :=
  (fun t => by
    have ht : t.val < 16 := Nat.lt_of_lt_of_eq t.isLt N_0
    have e0 : (grid0.coords t 0).val = t.val / 2 % 8 := Pipeline.Grid.coords_val t 0 (by decide) rfl
    have e1 : (grid0.coords t 1).val = t.val / 1 % 2 := Pipeline.Grid.coords_val t 1 (by decide) rfl
    simp only [cond0_1, e0, e1]
    word_cmp
   : ∀ t : Fin grid0.N, cond0_1 (grid0.coords t) ↔ t.val % 2 = 0)

abbrev cond0_2 (i : grid0.Coords) : Prop := k0_cond3 i = 1#1
theorem hcond0_2 : ∀ t : Fin cfg0.N, cond0_2 (grid0.coords t) ↔ t.val % 2 = 1 :=
  (fun t => by
    have ht : t.val < 16 := Nat.lt_of_lt_of_eq t.isLt N_0
    have e0 : (grid0.coords t 0).val = t.val / 2 % 8 := Pipeline.Grid.coords_val t 0 (by decide) rfl
    have e1 : (grid0.coords t 1).val = t.val / 1 % 2 := Pipeline.Grid.coords_val t 1 (by decide) rfl
    simp only [cond0_2, k0_cond3, e0, e1]
    word_cmp
   : ∀ t : Fin grid0.N, cond0_2 (grid0.coords t) ↔ t.val % 2 = 1)

/-! ## Where the windows are idle (the printed configuration's table `Cfg.idle`) -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
theorem liveAt0_11 : ∀ t : Fin cfg0.N, cfg0.idle 11 (grid0.coords t) = false := fun _ => rfl
theorem liveAt0_12 : ∀ t : Fin cfg0.N, cfg0.idle 12 (grid0.coords t) = false := fun _ => rfl
theorem liveAt0_13 : ∀ t : Fin cfg0.N, cfg0.idle 13 (grid0.coords t) = false := fun _ => rfl
theorem liveAt0_14 : ∀ t : Fin cfg0.N, cfg0.idle 14 (grid0.coords t) = false := fun _ => rfl
theorem liveAt0_15 : ∀ t : Fin cfg0.N, cfg0.idle 15 (grid0.coords t) = false := fun _ => rfl
theorem liveAt0_16 : ∀ t : Fin cfg0.N, cfg0.idle 16 (grid0.coords t) = false := fun _ => rfl
theorem liveAt0_21 : ∀ t : Fin cfg0.N, cfg0.idle 21 (grid0.coords t) = false := fun _ => rfl
theorem liveAt0_22 : ∀ t : Fin cfg0.N, cfg0.idle 22 (grid0.coords t) = false := fun _ => rfl
theorem liveAt0_23 : ∀ t : Fin cfg0.N, cfg0.idle 23 (grid0.coords t) = false := fun _ => rfl
theorem liveAt0_24 : ∀ t : Fin cfg0.N, cfg0.idle 24 (grid0.coords t) = false := fun _ => rfl
theorem idleAt0_17_A : ∀ t : Fin cfg0.N, cond0_0 (grid0.coords t) → cond0_1 (grid0.coords t) → ¬cond0_2 (grid0.coords t) → cfg0.idle 17 (grid0.coords t) = true := by decide +kernel
theorem noFlush0_17_A : ∀ t : Fin cfg0.N, cond0_0 (grid0.coords t) → cond0_1 (grid0.coords t) → ¬cond0_2 (grid0.coords t) → (cfg0.win 17).flush t = false := by decide +kernel
theorem liveAt0_17_B : ∀ t : Fin cfg0.N, ¬cond0_0 (grid0.coords t) → ¬cond0_1 (grid0.coords t) → cond0_2 (grid0.coords t) → cfg0.idle 17 (grid0.coords t) = false := by decide +kernel
theorem idleAt0_17_C : ∀ t : Fin cfg0.N, ¬cond0_0 (grid0.coords t) → cond0_1 (grid0.coords t) → ¬cond0_2 (grid0.coords t) → cfg0.idle 17 (grid0.coords t) = true := by decide +kernel
theorem noFlush0_17_C : ∀ t : Fin cfg0.N, ¬cond0_0 (grid0.coords t) → cond0_1 (grid0.coords t) → ¬cond0_2 (grid0.coords t) → (cfg0.win 17).flush t = false := by decide +kernel
theorem idleAt0_18_A : ∀ t : Fin cfg0.N, cond0_0 (grid0.coords t) → cond0_1 (grid0.coords t) → ¬cond0_2 (grid0.coords t) → cfg0.idle 18 (grid0.coords t) = true := by decide +kernel
theorem noFlush0_18_A : ∀ t : Fin cfg0.N, cond0_0 (grid0.coords t) → cond0_1 (grid0.coords t) → ¬cond0_2 (grid0.coords t) → (cfg0.win 18).flush t = false := by decide +kernel
theorem liveAt0_18_B : ∀ t : Fin cfg0.N, ¬cond0_0 (grid0.coords t) → ¬cond0_1 (grid0.coords t) → cond0_2 (grid0.coords t) → cfg0.idle 18 (grid0.coords t) = false := by decide +kernel
theorem idleAt0_18_C : ∀ t : Fin cfg0.N, ¬cond0_0 (grid0.coords t) → cond0_1 (grid0.coords t) → ¬cond0_2 (grid0.coords t) → cfg0.idle 18 (grid0.coords t) = true := by decide +kernel
theorem noFlush0_18_C : ∀ t : Fin cfg0.N, ¬cond0_0 (grid0.coords t) → cond0_1 (grid0.coords t) → ¬cond0_2 (grid0.coords t) → (cfg0.win 18).flush t = false := by decide +kernel
theorem idleAt0_19_A : ∀ t : Fin cfg0.N, cond0_0 (grid0.coords t) → cond0_1 (grid0.coords t) → ¬cond0_2 (grid0.coords t) → cfg0.idle 19 (grid0.coords t) = true := by decide +kernel
theorem noFlush0_19_A : ∀ t : Fin cfg0.N, cond0_0 (grid0.coords t) → cond0_1 (grid0.coords t) → ¬cond0_2 (grid0.coords t) → (cfg0.win 19).flush t = false := by decide +kernel
theorem liveAt0_19_B : ∀ t : Fin cfg0.N, ¬cond0_0 (grid0.coords t) → ¬cond0_1 (grid0.coords t) → cond0_2 (grid0.coords t) → cfg0.idle 19 (grid0.coords t) = false := by decide +kernel
theorem idleAt0_19_C : ∀ t : Fin cfg0.N, ¬cond0_0 (grid0.coords t) → cond0_1 (grid0.coords t) → ¬cond0_2 (grid0.coords t) → cfg0.idle 19 (grid0.coords t) = true := by decide +kernel
theorem noFlush0_19_C : ∀ t : Fin cfg0.N, ¬cond0_0 (grid0.coords t) → cond0_1 (grid0.coords t) → ¬cond0_2 (grid0.coords t) → (cfg0.win 19).flush t = false := by decide +kernel
theorem idleAt0_20_A : ∀ t : Fin cfg0.N, cond0_0 (grid0.coords t) → cond0_1 (grid0.coords t) → ¬cond0_2 (grid0.coords t) → cfg0.idle 20 (grid0.coords t) = true := by decide +kernel
theorem noFlush0_20_A : ∀ t : Fin cfg0.N, cond0_0 (grid0.coords t) → cond0_1 (grid0.coords t) → ¬cond0_2 (grid0.coords t) → (cfg0.win 20).flush t = false := by decide +kernel
theorem liveAt0_20_B : ∀ t : Fin cfg0.N, ¬cond0_0 (grid0.coords t) → ¬cond0_1 (grid0.coords t) → cond0_2 (grid0.coords t) → cfg0.idle 20 (grid0.coords t) = false := by decide +kernel
theorem idleAt0_20_C : ∀ t : Fin cfg0.N, ¬cond0_0 (grid0.coords t) → cond0_1 (grid0.coords t) → ¬cond0_2 (grid0.coords t) → cfg0.idle 20 (grid0.coords t) = true := by decide +kernel
theorem noFlush0_20_C : ∀ t : Fin cfg0.N, ¬cond0_0 (grid0.coords t) → cond0_1 (grid0.coords t) → ¬cond0_2 (grid0.coords t) → (cfg0.win 20).flush t = false := by decide +kernel

/-! ## The kernel body on any staging memrefs: a subtype the run finds -/

abbrev VO0_16 : View sig .tc .vmem S1024x1024 .f32 := (Memref.whole cc0_stg16_0 : Memref sig .tc .vmem S1024x1024 .f32).view
abbrev VO0_17 : View sig .tc .vmem S1x4x128x128 .f32 := (Memref.whole cc0_stg17_0 : Memref sig .tc .vmem S1x4x128x128 .f32).view
abbrev VO0_18 : View sig .tc .vmem S1x4x128 .f32 := (Memref.whole cc0_stg18_0 : Memref sig .tc .vmem S1x4x128 .f32).view
abbrev VO0_19 : View sig .tc .vmem S1x4x1x1 .f32 := (Memref.whole cc0_stg19_0 : Memref sig .tc .vmem S1x4x1x1 .f32).view
abbrev VO0_20 : View sig .tc .vmem S1x15x512 .f32 := (Memref.whole cc0_stg20_0 : Memref sig .tc .vmem S1x15x512 .f32).view
abbrev VO0_21 : View sig .tc .vmem S64x4096 .bf16 := (Memref.whole cc0_stg21_0 : Memref sig .tc .vmem S64x4096 .bf16).view
abbrev VO0_22 : View sig .tc .vmem S256x1024 .bf16 := (Memref.whole cc0_stg22_0 : Memref sig .tc .vmem S256x1024 .bf16).view
abbrev VO0_23 : View sig .tc .vmem S4096x128 .f32 := (Memref.whole cc0_stg23_0 : Memref sig .tc .vmem S4096x128 .f32).view
abbrev VO0_24 : View sig .tc .vmem S8x512 .f32 := (Memref.whole cc0_stg24_0 : Memref sig .tc .vmem S8x512 .f32).view
abbrev ms0_0 (t : Fin cfg0.N) : Memref sig .tc .vmem S1x1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x6144 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .smem S1x4 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .smem S1x4 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4x128x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x64x4096 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x256x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S8x2568 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S8x4 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x4 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x4 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S4096x128 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1024x1024 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x4x128x128 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x4x128 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1x4x1x1 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S1x15x512 .f32 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S64x4096 .bf16 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S256x1024 .bf16 := win0_22.stage (cfg0.slots t 22)
abbrev hs0_22 (t : Fin cfg0.N) : (ms0_22 t).IsWhole := hstage0_22 ((cfg0.slots t 22).cast nbuf0_22)
abbrev ms0_23 (t : Fin cfg0.N) : Memref sig .tc .vmem S4096x128 .f32 := win0_23.stage (cfg0.slots t 23)
abbrev hs0_23 (t : Fin cfg0.N) : (ms0_23 t).IsWhole := hstage0_23 ((cfg0.slots t 23).cast nbuf0_23)
abbrev ms0_24 (t : Fin cfg0.N) : Memref sig .tc .vmem S8x512 .f32 := win0_24.stage (cfg0.slots t 24)
abbrev hs0_24 (t : Fin cfg0.N) : (ms0_24 t).IsWhole := hstage0_24 ((cfg0.slots t 24).cast nbuf0_24)
abbrev scM0_0 : Memref sig .tc .vmem S1024x2048 .bf16 := Memref.whole cc0_scratch0
abbrev scM0_1 : Memref sig .tc .vmem S512x1024 .bf16 := Memref.whole cc0_scratch1
abbrev scM0_2 : Memref sig .tc .vmem S16x1024 .bf16 := Memref.whole cc0_scratch2
abbrev scM0_3 : Memref sig .tc .vmem S1024x1024 .bf16 := Memref.whole cc0_scratch3
abbrev scM0_4 : Memref sig .tc .vmem S4x128x256 .f32 := Memref.whole cc0_scratch5
abbrev scM0_5 : Memref sig .tc .vmem S4x1x1 .f32 := Memref.whole cc0_scratch6
abbrev scM0_6 : Memref sig .tc .vmem S16x512 .f32 := Memref.whole cc0_scratch7
abbrev VS0_0 : View sig .tc .vmem S1024x2048 .bf16 := scM0_0.view
abbrev VS0_1 : View sig .tc .vmem S512x1024 .bf16 := scM0_1.view
abbrev VS0_2 : View sig .tc .vmem S16x1024 .bf16 := scM0_2.view
abbrev VS0_3 : View sig .tc .vmem S1024x1024 .bf16 := scM0_3.view
abbrev VS0_4 : View sig .tc .vmem S4x128x256 .f32 := scM0_4.view
abbrev VS0_5 : View sig .tc .vmem S4x1x1 .f32 := scM0_5.view
abbrev VS0_6 : View sig .tc .vmem S16x512 .f32 := scM0_6.view
abbrev hbM0_0 : Memref sig .tc .hbm S2568x1024 .f32 := Memref.whole main_arg4
abbrev hbM0_1 : Memref sig .tc .hbm S1x1024x1024 .f32 := Memref.whole main_arg10
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

abbrev osem0 : Fin 4 → SemLoc sig := fun j => (![SemLoc.dma 40, SemLoc.dma 41, SemLoc.dma 42, SemLoc.dma 43] : Fin 4 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0) := by
  rw [Pipeline.ownSems0_eq_of_list c osem0 [0, 1, 2, 3] (by decide) (by decide)]; rfl
def H0 : Finset (Ref sig .tc) := {main_arg4, main_arg10}
theorem H0_sub : H0 ⊆ Pipeline.restRefs sig spec0 := by decide
theorem hbmPts0_eq (c : Dev nD) :
    (bigSep H0 (fun b => ((c : Thread nD τ).loc b) ↦{fullShare} V m c b) : sProp 𝕄) = iprop(hbPt0 c hbM0_0 (V m c main_arg4) ∗ hbPt0 c hbM0_1 (V m c main_arg10)) := by
  rw [BI.bigSep_eq_bigSepL_of_eq [main_arg4, main_arg10] (by decide) (by decide)]; rfl

theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r) ∗ iprop(semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0) ∗ iprop(hbPt0 c hbM0_0 (V m c main_arg4) ∗ hbPt0 c hbM0_1 (V m c main_arg10))) := by
  rw [Pipeline.ΦD_eq, scopedRest0_eq, ownSems00_eq, hbmPts0_eq]; simp only [scM0_0, scM0_1, scM0_2, scM0_3, scM0_4, scM0_5, scM0_6, owns_whole]; try rfl

end Cert.MixIdeal.Hand

end
-- ==== Proof.Mix.RunA.lean ====
/- The prompt-mixing kernel run at the first point: the weights are copied in, the carried buffers are cleared. -/
module

public import proofs.«01_k».proof.Proof.Mix.Runs

@[expose] public section

set_option maxRecDepth 16384

noncomputable section

namespace Cert.MixIdeal.Hand

open Cert.MixIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

variable (c : Dev nD) (i : grid0.Coords)
  (arg2 : Memref sig .tc .vmem S1x1024x1024 .f32) (harg2 : arg2.IsWhole) (arg3 : Memref sig .tc .vmem S8x6144 .f32) (harg3 : arg3.IsWhole)
  (arg4 : Memref sig .tc .vmem S1x1024 .f32) (harg4 : arg4.IsWhole) (arg5 : Memref sig .tc .vmem S1x1024 .f32) (harg5 : arg5.IsWhole)
  (arg7 : Memref sig .tc .smem S1x4 .f32) (harg7 : arg7.IsWhole) (arg8 : Memref sig .tc .smem S1x4 .f32) (harg8 : arg8.IsWhole)
  (arg9 : Memref sig .tc .vmem S1x128 .f32) (harg9 : arg9.IsWhole) (arg10 : Memref sig .tc .vmem S4x128x128 .f32) (harg10 : arg10.IsWhole)
  (arg11 : Memref sig .tc .vmem S1x512 .f32) (harg11 : arg11.IsWhole) (arg13 : Memref sig .tc .vmem S1x64x4096 .f32) (harg13 : arg13.IsWhole)
  (arg14 : Memref sig .tc .vmem S1x256x1024 .f32) (harg14 : arg14.IsWhole) (arg15 : Memref sig .tc .vmem S8x2568 .f32) (harg15 : arg15.IsWhole)
  (arg16 : Memref sig .tc .vmem S8x4 .f32) (harg16 : arg16.IsWhole) (arg17 : Memref sig .tc .vmem S1x4 .f32) (harg17 : arg17.IsWhole)
  (arg18 : Memref sig .tc .vmem S1x4 .f32) (harg18 : arg18.IsWhole) (arg19 : Memref sig .tc .vmem S4096x128 .f32) (harg19 : arg19.IsWhole)
  (arg20 : Memref sig .tc .vmem S1024x1024 .f32) (harg20 : arg20.IsWhole) (arg21 : Memref sig .tc .vmem S1x4x128x128 .f32) (harg21 : arg21.IsWhole)
  (arg22 : Memref sig .tc .vmem S1x4x128 .f32) (harg22 : arg22.IsWhole) (arg23 : Memref sig .tc .vmem S1x4x1x1 .f32) (harg23 : arg23.IsWhole)
  (arg24 : Memref sig .tc .vmem S1x15x512 .f32) (harg24 : arg24.IsWhole) (arg25 : Memref sig .tc .vmem S64x4096 .bf16) (harg25 : arg25.IsWhole)
  (arg26 : Memref sig .tc .vmem S256x1024 .bf16) (harg26 : arg26.IsWhole) (arg27 : Memref sig .tc .vmem S4096x128 .f32) (harg27 : arg27.IsWhole)
  (arg28 : Memref sig .tc .vmem S8x512 .f32) (harg28 : arg28.IsWhole) (arg29 : Memref sig .tc .vmem S1024x2048 .bf16) (harg29 : arg29.IsWhole)
  (arg30 : Memref sig .tc .vmem S512x1024 .bf16) (harg30 : arg30.IsWhole) (arg31 : Memref sig .tc .vmem S16x1024 .bf16) (harg31 : arg31.IsWhole)
  (arg32 : Memref sig .tc .vmem S1024x1024 .bf16) (harg32 : arg32.IsWhole) (arg34 : Memref sig .tc .vmem S4x128x256 .f32) (harg34 : arg34.IsWhole)
  (arg35 : Memref sig .tc .vmem S4x1x1 .f32) (harg35 : arg35.IsWhole) (arg36 : Memref sig .tc .vmem S16x512 .f32) (harg36 : arg36.IsWhole)

set_option maxHeartbeats 40000000 in set_option sl_exec.dmaWindow true in set_option sl_exec.dmaWindowSet true in
/-- What the body stores into each buffer at the first point: the weights are copied in, the carried buffers are cleared, with the proof that it does so and nothing else. -/
noncomputable def kernelRun0_A (hc0 : cond0_0 i) (hc1 : cond0_1 i) (hc2 : ¬cond0_2 i)
    (x0 : Vec F S1x1024x1024 .f32) (x1 : Vec F S8x6144 .f32) (x2 : Vec F S1x1024 .f32) (x3 : Vec F S1x1024 .f32) (x4 : Vec F S1x4 .f32) (x5 : Vec F S1x4 .f32) (x6 : Vec F S1x128 .f32) (x7 : Vec F S4x128x128 .f32) (x8 : Vec F S1x512 .f32) (x9 : Vec F S1x64x4096 .f32) (x10 : Vec F S1x256x1024 .f32) (x11 : Vec F S8x2568 .f32) (x12 : Vec F S8x4 .f32) (x13 : Vec F S1x4 .f32) (x14 : Vec F S1x4 .f32) (x15 : Vec F S4096x128 .f32) (fh0 : HbBuf0 (F := F) c hbM0_0) (fh1 : HbBuf0 (F := F) c hbM0_1) :
    Σ' (L16 : List (View.Piece (Elt F) S1024x1024 .f32)), Σ' (L17 : List (View.Piece (Elt F) S1x4x128x128 .f32)), Σ' (L18 : List (View.Piece (Elt F) S1x4x128 .f32)), Σ' (L19 : List (View.Piece (Elt F) S1x4x1x1 .f32)), Σ' (L20 : List (View.Piece (Elt F) S1x15x512 .f32)), Σ' (L21 : List (View.Piece (Elt F) S64x4096 .bf16)), Σ' (L22 : List (View.Piece (Elt F) S256x1024 .bf16)), Σ' (L23 : List (View.Piece (Elt F) S4096x128 .f32)), Σ' (L24 : List (View.Piece (Elt F) S8x512 .f32)), Σ' (LS0 : List (View.Piece (Elt F) S1024x2048 .bf16)), Σ' (LS1 : List (View.Piece (Elt F) S512x1024 .bf16)), Σ' (LS2 : List (View.Piece (Elt F) S16x1024 .bf16)), Σ' (LS3 : List (View.Piece (Elt F) S1024x1024 .bf16)), Σ' (LS4 : List (View.Piece (Elt F) S4x128x256 .f32)), Σ' (LS5 : List (View.Piece (Elt F) S4x1x1 .f32)), { LS6 : List (View.Piece (Elt F) S16x512 .f32) //
      ∀ (xi17 : Vec F S1x4x128x128 .f32) (xi18 : Vec F S1x4x128 .f32) (xi19 : Vec F S1x4x1x1 .f32) (xi20 : Vec F S1x15x512 .f32) (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg13 fullShare x9 ∗ owns (c : Thread nD τ) arg14 fullShare x10 ∗ owns (c : Thread nD τ) arg15 fullShare x11 ∗ owns (c : Thread nD τ) arg16 fullShare x12 ∗ owns (c : Thread nD τ) arg17 fullShare x13 ∗ owns (c : Thread nD τ) arg18 fullShare x14 ∗ owns (c : Thread nD τ) arg19 fullShare x15 ∗ (∃ d, owns (c : Thread nD τ) arg20 fullShare d) ∗ owns (c : Thread nD τ) arg21 fullShare xi17 ∗ owns (c : Thread nD τ) arg22 fullShare xi18 ∗ owns (c : Thread nD τ) arg23 fullShare xi19 ∗ owns (c : Thread nD τ) arg24 fullShare xi20 ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg34 fullShare d) ∗ (∃ d, owns (c : Thread nD τ) arg35 fullShare d) ∗ (∃ d, owns (c : Thread nD τ) arg36 fullShare d) ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ hbPt0 c hbM0_0 fh0 ∗ hbPt0 c hbM0_1 fh1 ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg13 fullShare x9 ∗ owns (c : Thread nD τ) arg14 fullShare x10 ∗ owns (c : Thread nD τ) arg15 fullShare x11 ∗ owns (c : Thread nD τ) arg16 fullShare x12 ∗ owns (c : Thread nD τ) arg17 fullShare x13 ∗ owns (c : Thread nD τ) arg18 fullShare x14 ∗ owns (c : Thread nD τ) arg19 fullShare x15 ∗ (∃ f, arg20.view.loc (c : Thread nD τ) ↦[arg20.view.set]{fullShare} arg20.view.writes (Elt F) f L16) ∗ owns (c : Thread nD τ) arg21 fullShare xi17 ∗ owns (c : Thread nD τ) arg22 fullShare xi18 ∗ owns (c : Thread nD τ) arg23 fullShare xi19 ∗ owns (c : Thread nD τ) arg24 fullShare xi20 ∗ (∃ f, arg25.view.loc (c : Thread nD τ) ↦[arg25.view.set]{fullShare} arg25.view.writes (Elt F) f L21) ∗ (∃ f, arg26.view.loc (c : Thread nD τ) ↦[arg26.view.set]{fullShare} arg26.view.writes (Elt F) f L22) ∗ (∃ f, arg27.view.loc (c : Thread nD τ) ↦[arg27.view.set]{fullShare} arg27.view.writes (Elt F) f L23) ∗ (∃ f, arg28.view.loc (c : Thread nD τ) ↦[arg28.view.set]{fullShare} arg28.view.writes (Elt F) f L24) ∗ (∃ f, arg29.view.loc (c : Thread nD τ) ↦[arg29.view.set]{fullShare} arg29.view.writes (Elt F) f LS0) ∗ (∃ f, arg30.view.loc (c : Thread nD τ) ↦[arg30.view.set]{fullShare} arg30.view.writes (Elt F) f LS1) ∗ (∃ f, arg31.view.loc (c : Thread nD τ) ↦[arg31.view.set]{fullShare} arg31.view.writes (Elt F) f LS2) ∗ (∃ f, arg32.view.loc (c : Thread nD τ) ↦[arg32.view.set]{fullShare} arg32.view.writes (Elt F) f LS3) ∗ (∃ f, arg34.view.loc (c : Thread nD τ) ↦[arg34.view.set]{fullShare} arg34.view.writes (Elt F) f LS4) ∗ (∃ f, arg35.view.loc (c : Thread nD τ) ↦[arg35.view.set]{fullShare} arg35.view.writes (Elt F) f LS5) ∗ (∃ f, arg36.view.loc (c : Thread nD τ) ↦[arg36.view.set]{fullShare} arg36.view.writes (Elt F) f LS6) ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_mix_prompt i arg2 harg2 arg3 harg3 arg4 harg4 arg5 harg5 (Memref.whole main_arg4) (Memref.isWhole_whole _) arg7 harg7 arg8 harg8 arg9 harg9 arg10 harg10 arg11 harg11 (Memref.whole main_arg10) (Memref.isWhole_whole _) arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 cc0_scratch4 arg34 harg34 arg35 harg35 arg36 harg36) K } := by
  refine ⟨?_, [], [], [], [], ?_, ?_, ?_, ?_, ?_, ?_, ?_, ?_, ?_, ?_, ?_, fun xi17 xi18 xi19 xi20 W K => ?run⟩
  case run =>
    simp only [cc0_mix_prompt_eq_skeleton]; unfold cc0_mix_prompt_skel
    simp only [k0_part65_eq_skeleton, k0_part11_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%f17, %hf17, H17⟩, ⟨%f18, %hf18, H18⟩, ⟨%f19, %hf19, H19⟩, ⟨%f20, %hf20, H20⟩, ⟨%d21, %f21, -, H21⟩, ⟨%d22, %f22, -, H22⟩, ⟨%d23, %f23, -, H23⟩, ⟨%d24, %f24, -, H24⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hq0, Hq1, Hq2, Hq3, Hh0, Hh1, HW, Hk⟩
    obtain rfl := harg2.eq_unread hf0; obtain rfl := harg3.eq_unread hf1; obtain rfl := harg4.eq_unread hf2; obtain rfl := harg5.eq_unread hf3; obtain rfl := harg7.eq_unread hf4; obtain rfl := harg8.eq_unread hf5; obtain rfl := harg9.eq_unread hf6; obtain rfl := harg10.eq_unread hf7; obtain rfl := harg11.eq_unread hf8; obtain rfl := harg13.eq_unread hf9; obtain rfl := harg14.eq_unread hf10; obtain rfl := harg15.eq_unread hf11; obtain rfl := harg16.eq_unread hf12; obtain rfl := harg17.eq_unread hf13; obtain rfl := harg18.eq_unread hf14; obtain rfl := harg19.eq_unread hf15; obtain rfl := harg21.eq_unread hf17; obtain rfl := harg22.eq_unread hf18; obtain rfl := harg23.eq_unread hf19; obtain rfl := harg24.eq_unread hf20
    sl_exec (disch := first | sl_exact hc0 | sl_exact hc1 | sl_exact hc2)
    sl_step
    iapply Hk
    isplitl [H0]; · iexists _; isplitr; (· ipureintro; exact harg2.read_unread _); iexact H0
    isplitl [H1]; · iexists _; isplitr; (· ipureintro; exact harg3.read_unread _); iexact H1
    isplitl [H2]; · iexists _; isplitr; (· ipureintro; exact harg4.read_unread _); iexact H2
    isplitl [H3]; · iexists _; isplitr; (· ipureintro; exact harg5.read_unread _); iexact H3
    isplitl [H4]; · iexists _; isplitr; (· ipureintro; exact harg7.read_unread _); iexact H4
    isplitl [H5]; · iexists _; isplitr; (· ipureintro; exact harg8.read_unread _); iexact H5
    isplitl [H6]; · iexists _; isplitr; (· ipureintro; exact harg9.read_unread _); iexact H6
    isplitl [H7]; · iexists _; isplitr; (· ipureintro; exact harg10.read_unread _); iexact H7
    isplitl [H8]; · iexists _; isplitr; (· ipureintro; exact harg11.read_unread _); iexact H8
    isplitl [H9]; · iexists _; isplitr; (· ipureintro; exact harg13.read_unread _); iexact H9
    isplitl [H10]; · iexists _; isplitr; (· ipureintro; exact harg14.read_unread _); iexact H10
    isplitl [H11]; · iexists _; isplitr; (· ipureintro; exact harg15.read_unread _); iexact H11
    isplitl [H12]; · iexists _; isplitr; (· ipureintro; exact harg16.read_unread _); iexact H12
    isplitl [H13]; · iexists _; isplitr; (· ipureintro; exact harg17.read_unread _); iexact H13
    isplitl [H14]; · iexists _; isplitr; (· ipureintro; exact harg18.read_unread _); iexact H14
    isplitl [H15]; · iexists _; isplitr; (· ipureintro; exact harg19.read_unread _); iexact H15
    isplitl [H16]; · iexists _; iexact H16
    isplitl [H17]; · iexists _; isplitr; (· ipureintro; exact harg21.read_unread _); iexact H17
    isplitl [H18]; · iexists _; isplitr; (· ipureintro; exact harg22.read_unread _); iexact H18
    isplitl [H19]; · iexists _; isplitr; (· ipureintro; exact harg23.read_unread _); iexact H19
    isplitl [H20]; · iexists _; isplitr; (· ipureintro; exact harg24.read_unread _); iexact H20
    isplitl [H21]; · iexists _; iexact H21
    isplitl [H22]; · iexists _; iexact H22
    isplitl [H23]; · iexists _; iexact H23
    isplitl [H24]; · iexists _; iexact H24
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [Hq0]; · iexact Hq0
    isplitl [Hq1]; · iexact Hq1
    isplitl [Hq2]; · iexact Hq2
    isplitl [Hq3]; · iexact Hq3
    isplitl [Hh0]; · iexact Hh0
    isplitl [Hh1]; · iexact Hh1
    iexists _; iexact HW

end Cert.MixIdeal.Hand

end
-- ==== Proof.Mix.RunB.lean ====
/- The prompt-mixing kernel run at an odd point: the last half of a sequence. -/
module

public import proofs.«01_k».proof.Proof.Mix.Runs

@[expose] public section

set_option maxRecDepth 16384

noncomputable section

namespace Cert.MixIdeal.Hand

open Cert.MixIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

variable (c : Dev nD) (i : grid0.Coords)
  (arg2 : Memref sig .tc .vmem S1x1024x1024 .f32) (harg2 : arg2.IsWhole) (arg3 : Memref sig .tc .vmem S8x6144 .f32) (harg3 : arg3.IsWhole)
  (arg4 : Memref sig .tc .vmem S1x1024 .f32) (harg4 : arg4.IsWhole) (arg5 : Memref sig .tc .vmem S1x1024 .f32) (harg5 : arg5.IsWhole)
  (arg7 : Memref sig .tc .smem S1x4 .f32) (harg7 : arg7.IsWhole) (arg8 : Memref sig .tc .smem S1x4 .f32) (harg8 : arg8.IsWhole)
  (arg9 : Memref sig .tc .vmem S1x128 .f32) (harg9 : arg9.IsWhole) (arg10 : Memref sig .tc .vmem S4x128x128 .f32) (harg10 : arg10.IsWhole)
  (arg11 : Memref sig .tc .vmem S1x512 .f32) (harg11 : arg11.IsWhole) (arg13 : Memref sig .tc .vmem S1x64x4096 .f32) (harg13 : arg13.IsWhole)
  (arg14 : Memref sig .tc .vmem S1x256x1024 .f32) (harg14 : arg14.IsWhole) (arg15 : Memref sig .tc .vmem S8x2568 .f32) (harg15 : arg15.IsWhole)
  (arg16 : Memref sig .tc .vmem S8x4 .f32) (harg16 : arg16.IsWhole) (arg17 : Memref sig .tc .vmem S1x4 .f32) (harg17 : arg17.IsWhole)
  (arg18 : Memref sig .tc .vmem S1x4 .f32) (harg18 : arg18.IsWhole) (arg19 : Memref sig .tc .vmem S4096x128 .f32) (harg19 : arg19.IsWhole)
  (arg20 : Memref sig .tc .vmem S1024x1024 .f32) (harg20 : arg20.IsWhole) (arg21 : Memref sig .tc .vmem S1x4x128x128 .f32) (harg21 : arg21.IsWhole)
  (arg22 : Memref sig .tc .vmem S1x4x128 .f32) (harg22 : arg22.IsWhole) (arg23 : Memref sig .tc .vmem S1x4x1x1 .f32) (harg23 : arg23.IsWhole)
  (arg24 : Memref sig .tc .vmem S1x15x512 .f32) (harg24 : arg24.IsWhole) (arg25 : Memref sig .tc .vmem S64x4096 .bf16) (harg25 : arg25.IsWhole)
  (arg26 : Memref sig .tc .vmem S256x1024 .bf16) (harg26 : arg26.IsWhole) (arg27 : Memref sig .tc .vmem S4096x128 .f32) (harg27 : arg27.IsWhole)
  (arg28 : Memref sig .tc .vmem S8x512 .f32) (harg28 : arg28.IsWhole) (arg29 : Memref sig .tc .vmem S1024x2048 .bf16) (harg29 : arg29.IsWhole)
  (arg30 : Memref sig .tc .vmem S512x1024 .bf16) (harg30 : arg30.IsWhole) (arg31 : Memref sig .tc .vmem S16x1024 .bf16) (harg31 : arg31.IsWhole)
  (arg32 : Memref sig .tc .vmem S1024x1024 .bf16) (harg32 : arg32.IsWhole) (arg34 : Memref sig .tc .vmem S4x128x256 .f32) (harg34 : arg34.IsWhole)
  (arg35 : Memref sig .tc .vmem S4x1x1 .f32) (harg35 : arg35.IsWhole) (arg36 : Memref sig .tc .vmem S16x512 .f32) (harg36 : arg36.IsWhole)

set_option maxHeartbeats 40000000 in
/-- What the body stores into each buffer at an odd point: the last half of a sequence, with the proof that it does so and nothing else. -/
noncomputable def kernelRun0_B (hc0 : ¬cond0_0 i) (hc1 : ¬cond0_1 i) (hc2 : cond0_2 i)
    (x0 : Vec F S1x1024x1024 .f32) (x1 : Vec F S8x6144 .f32) (x2 : Vec F S1x1024 .f32) (x3 : Vec F S1x1024 .f32) (x4 : Vec F S1x4 .f32) (x5 : Vec F S1x4 .f32) (x6 : Vec F S1x128 .f32) (x7 : Vec F S4x128x128 .f32) (x8 : Vec F S1x512 .f32) (x9 : Vec F S1x64x4096 .f32) (x10 : Vec F S1x256x1024 .f32) (x11 : Vec F S8x2568 .f32) (x12 : Vec F S8x4 .f32) (x13 : Vec F S1x4 .f32) (x14 : Vec F S1x4 .f32) (x15 : Vec F S4096x128 .f32) (xs0 : Vec F S1024x2048 .bf16) (xs1 : Vec F S512x1024 .bf16) (xs2 : Vec F S16x1024 .bf16) (xs3 : Vec F S1024x1024 .bf16) (xs4 : Vec F S4x128x256 .f32) (xs5 : Vec F S4x1x1 .f32) (xs6 : Vec F S16x512 .f32) (fh0 : HbBuf0 (F := F) c hbM0_0) (fh1 : HbBuf0 (F := F) c hbM0_1) :
    Σ' (L16 : List (View.Piece (Elt F) S1024x1024 .f32)), Σ' (L17 : List (View.Piece (Elt F) S1x4x128x128 .f32)), Σ' (L18 : List (View.Piece (Elt F) S1x4x128 .f32)), Σ' (L19 : List (View.Piece (Elt F) S1x4x1x1 .f32)), Σ' (L20 : List (View.Piece (Elt F) S1x15x512 .f32)), Σ' (L21 : List (View.Piece (Elt F) S64x4096 .bf16)), Σ' (L22 : List (View.Piece (Elt F) S256x1024 .bf16)), Σ' (L23 : List (View.Piece (Elt F) S4096x128 .f32)), Σ' (L24 : List (View.Piece (Elt F) S8x512 .f32)), Σ' (LS0 : List (View.Piece (Elt F) S1024x2048 .bf16)), Σ' (LS1 : List (View.Piece (Elt F) S512x1024 .bf16)), Σ' (LS2 : List (View.Piece (Elt F) S16x1024 .bf16)), Σ' (LS3 : List (View.Piece (Elt F) S1024x1024 .bf16)), Σ' (LS4 : List (View.Piece (Elt F) S4x128x256 .f32)), Σ' (LS5 : List (View.Piece (Elt F) S4x1x1 .f32)), { LS6 : List (View.Piece (Elt F) S16x512 .f32) //
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg13 fullShare x9 ∗ owns (c : Thread nD τ) arg14 fullShare x10 ∗ owns (c : Thread nD τ) arg15 fullShare x11 ∗ owns (c : Thread nD τ) arg16 fullShare x12 ∗ owns (c : Thread nD τ) arg17 fullShare x13 ∗ owns (c : Thread nD τ) arg18 fullShare x14 ∗ owns (c : Thread nD τ) arg19 fullShare x15 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ owns (c : Thread nD τ) arg29 fullShare xs0 ∗ owns (c : Thread nD τ) arg30 fullShare xs1 ∗ owns (c : Thread nD τ) arg31 fullShare xs2 ∗ owns (c : Thread nD τ) arg32 fullShare xs3 ∗ owns (c : Thread nD τ) arg34 fullShare xs4 ∗ owns (c : Thread nD τ) arg35 fullShare xs5 ∗ owns (c : Thread nD τ) arg36 fullShare xs6 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ hbPt0 c hbM0_0 fh0 ∗ hbPt0 c hbM0_1 fh1 ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg13 fullShare x9 ∗ owns (c : Thread nD τ) arg14 fullShare x10 ∗ owns (c : Thread nD τ) arg15 fullShare x11 ∗ owns (c : Thread nD τ) arg16 fullShare x12 ∗ owns (c : Thread nD τ) arg17 fullShare x13 ∗ owns (c : Thread nD τ) arg18 fullShare x14 ∗ owns (c : Thread nD τ) arg19 fullShare x15 ∗ (∃ f, arg20.view.loc (c : Thread nD τ) ↦[arg20.view.set]{fullShare} arg20.view.writes (Elt F) f L16) ∗ (∃ f, arg21.view.loc (c : Thread nD τ) ↦[arg21.view.set]{fullShare} arg21.view.writes (Elt F) f L17) ∗ (∃ f, arg22.view.loc (c : Thread nD τ) ↦[arg22.view.set]{fullShare} arg22.view.writes (Elt F) f L18) ∗ (∃ f, arg23.view.loc (c : Thread nD τ) ↦[arg23.view.set]{fullShare} arg23.view.writes (Elt F) f L19) ∗ (∃ f, arg24.view.loc (c : Thread nD τ) ↦[arg24.view.set]{fullShare} arg24.view.writes (Elt F) f L20) ∗ (∃ f, arg25.view.loc (c : Thread nD τ) ↦[arg25.view.set]{fullShare} arg25.view.writes (Elt F) f L21) ∗ (∃ f, arg26.view.loc (c : Thread nD τ) ↦[arg26.view.set]{fullShare} arg26.view.writes (Elt F) f L22) ∗ (∃ f, arg27.view.loc (c : Thread nD τ) ↦[arg27.view.set]{fullShare} arg27.view.writes (Elt F) f L23) ∗ (∃ f, arg28.view.loc (c : Thread nD τ) ↦[arg28.view.set]{fullShare} arg28.view.writes (Elt F) f L24) ∗ owns (c : Thread nD τ) arg29 fullShare xs0 ∗ owns (c : Thread nD τ) arg30 fullShare xs1 ∗ owns (c : Thread nD τ) arg31 fullShare xs2 ∗ owns (c : Thread nD τ) arg32 fullShare xs3 ∗ (∃ f, arg34.view.loc (c : Thread nD τ) ↦[arg34.view.set]{fullShare} arg34.view.writes (Elt F) f LS4) ∗ (∃ f, arg35.view.loc (c : Thread nD τ) ↦[arg35.view.set]{fullShare} arg35.view.writes (Elt F) f LS5) ∗ (∃ f, arg36.view.loc (c : Thread nD τ) ↦[arg36.view.set]{fullShare} arg36.view.writes (Elt F) f LS6) ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_mix_prompt i arg2 harg2 arg3 harg3 arg4 harg4 arg5 harg5 (Memref.whole main_arg4) (Memref.isWhole_whole _) arg7 harg7 arg8 harg8 arg9 harg9 arg10 harg10 arg11 harg11 (Memref.whole main_arg10) (Memref.isWhole_whole _) arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 cc0_scratch4 arg34 harg34 arg35 harg35 arg36 harg36) K } := by
  refine ⟨?_, ?_, ?_, ?_, ?_, ?_, ?_, ?_, ?_, [], [], [], [], ?_, ?_, ?_, fun W K => ?run⟩
  case run =>
    simp only [cc0_mix_prompt_eq_skeleton]; unfold cc0_mix_prompt_skel
    simp only [k0_part65_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, Hq0, Hq1, Hq2, Hq3, Hh0, Hh1, HW, Hk⟩
    obtain rfl := harg2.eq_unread hf0; obtain rfl := harg3.eq_unread hf1; obtain rfl := harg4.eq_unread hf2; obtain rfl := harg5.eq_unread hf3; obtain rfl := harg7.eq_unread hf4; obtain rfl := harg8.eq_unread hf5; obtain rfl := harg9.eq_unread hf6; obtain rfl := harg10.eq_unread hf7; obtain rfl := harg11.eq_unread hf8; obtain rfl := harg13.eq_unread hf9; obtain rfl := harg14.eq_unread hf10; obtain rfl := harg15.eq_unread hf11; obtain rfl := harg16.eq_unread hf12; obtain rfl := harg17.eq_unread hf13; obtain rfl := harg18.eq_unread hf14; obtain rfl := harg19.eq_unread hf15; obtain rfl := harg29.eq_unread hfs0; obtain rfl := harg30.eq_unread hfs1; obtain rfl := harg31.eq_unread hfs2; obtain rfl := harg32.eq_unread hfs3; obtain rfl := harg34.eq_unread hfs4; obtain rfl := harg35.eq_unread hfs5; obtain rfl := harg36.eq_unread hfs6
    sl_exec (disch := first | sl_exact hc0 | sl_exact hc1 | sl_exact hc2)
    sl_step
    iapply Hk
    isplitl [H0]; · iexists _; isplitr; (· ipureintro; exact harg2.read_unread _); iexact H0
    isplitl [H1]; · iexists _; isplitr; (· ipureintro; exact harg3.read_unread _); iexact H1
    isplitl [H2]; · iexists _; isplitr; (· ipureintro; exact harg4.read_unread _); iexact H2
    isplitl [H3]; · iexists _; isplitr; (· ipureintro; exact harg5.read_unread _); iexact H3
    isplitl [H4]; · iexists _; isplitr; (· ipureintro; exact harg7.read_unread _); iexact H4
    isplitl [H5]; · iexists _; isplitr; (· ipureintro; exact harg8.read_unread _); iexact H5
    isplitl [H6]; · iexists _; isplitr; (· ipureintro; exact harg9.read_unread _); iexact H6
    isplitl [H7]; · iexists _; isplitr; (· ipureintro; exact harg10.read_unread _); iexact H7
    isplitl [H8]; · iexists _; isplitr; (· ipureintro; exact harg11.read_unread _); iexact H8
    isplitl [H9]; · iexists _; isplitr; (· ipureintro; exact harg13.read_unread _); iexact H9
    isplitl [H10]; · iexists _; isplitr; (· ipureintro; exact harg14.read_unread _); iexact H10
    isplitl [H11]; · iexists _; isplitr; (· ipureintro; exact harg15.read_unread _); iexact H11
    isplitl [H12]; · iexists _; isplitr; (· ipureintro; exact harg16.read_unread _); iexact H12
    isplitl [H13]; · iexists _; isplitr; (· ipureintro; exact harg17.read_unread _); iexact H13
    isplitl [H14]; · iexists _; isplitr; (· ipureintro; exact harg18.read_unread _); iexact H14
    isplitl [H15]; · iexists _; isplitr; (· ipureintro; exact harg19.read_unread _); iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [HS0]
    · iexists _; isplitr; · ipureintro; exact harg29.read_unread _
      iexact HS0
    isplitl [HS1]
    · iexists _; isplitr; · ipureintro; exact harg30.read_unread _
      iexact HS1
    isplitl [HS2]
    · iexists _; isplitr; · ipureintro; exact harg31.read_unread _
      iexact HS2
    isplitl [HS3]
    · iexists _; isplitr; · ipureintro; exact harg32.read_unread _
      iexact HS3
    isplitl [HS4]; · iexists _; iexact HS4
    isplitl [HS5]; · iexists _; iexact HS5
    isplitl [HS6]; · iexists _; iexact HS6
    isplitl [Hq0]; · iexact Hq0
    isplitl [Hq1]; · iexact Hq1
    isplitl [Hq2]; · iexact Hq2
    isplitl [Hq3]; · iexact Hq3
    isplitl [Hh0]; · iexact Hh0
    isplitl [Hh1]; · iexact Hh1
    iexists _; iexact HW

end Cert.MixIdeal.Hand

end
-- ==== Proof.Mix.RunC.lean ====
/- The prompt-mixing kernel run at a later even point: the first half of a sequence. -/
module

public import proofs.«01_k».proof.Proof.Mix.Runs

@[expose] public section

set_option maxRecDepth 16384

noncomputable section

namespace Cert.MixIdeal.Hand

open Cert.MixIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

variable (c : Dev nD) (i : grid0.Coords)
  (arg2 : Memref sig .tc .vmem S1x1024x1024 .f32) (harg2 : arg2.IsWhole) (arg3 : Memref sig .tc .vmem S8x6144 .f32) (harg3 : arg3.IsWhole)
  (arg4 : Memref sig .tc .vmem S1x1024 .f32) (harg4 : arg4.IsWhole) (arg5 : Memref sig .tc .vmem S1x1024 .f32) (harg5 : arg5.IsWhole)
  (arg7 : Memref sig .tc .smem S1x4 .f32) (harg7 : arg7.IsWhole) (arg8 : Memref sig .tc .smem S1x4 .f32) (harg8 : arg8.IsWhole)
  (arg9 : Memref sig .tc .vmem S1x128 .f32) (harg9 : arg9.IsWhole) (arg10 : Memref sig .tc .vmem S4x128x128 .f32) (harg10 : arg10.IsWhole)
  (arg11 : Memref sig .tc .vmem S1x512 .f32) (harg11 : arg11.IsWhole) (arg13 : Memref sig .tc .vmem S1x64x4096 .f32) (harg13 : arg13.IsWhole)
  (arg14 : Memref sig .tc .vmem S1x256x1024 .f32) (harg14 : arg14.IsWhole) (arg15 : Memref sig .tc .vmem S8x2568 .f32) (harg15 : arg15.IsWhole)
  (arg16 : Memref sig .tc .vmem S8x4 .f32) (harg16 : arg16.IsWhole) (arg17 : Memref sig .tc .vmem S1x4 .f32) (harg17 : arg17.IsWhole)
  (arg18 : Memref sig .tc .vmem S1x4 .f32) (harg18 : arg18.IsWhole) (arg19 : Memref sig .tc .vmem S4096x128 .f32) (harg19 : arg19.IsWhole)
  (arg20 : Memref sig .tc .vmem S1024x1024 .f32) (harg20 : arg20.IsWhole) (arg21 : Memref sig .tc .vmem S1x4x128x128 .f32) (harg21 : arg21.IsWhole)
  (arg22 : Memref sig .tc .vmem S1x4x128 .f32) (harg22 : arg22.IsWhole) (arg23 : Memref sig .tc .vmem S1x4x1x1 .f32) (harg23 : arg23.IsWhole)
  (arg24 : Memref sig .tc .vmem S1x15x512 .f32) (harg24 : arg24.IsWhole) (arg25 : Memref sig .tc .vmem S64x4096 .bf16) (harg25 : arg25.IsWhole)
  (arg26 : Memref sig .tc .vmem S256x1024 .bf16) (harg26 : arg26.IsWhole) (arg27 : Memref sig .tc .vmem S4096x128 .f32) (harg27 : arg27.IsWhole)
  (arg28 : Memref sig .tc .vmem S8x512 .f32) (harg28 : arg28.IsWhole) (arg29 : Memref sig .tc .vmem S1024x2048 .bf16) (harg29 : arg29.IsWhole)
  (arg30 : Memref sig .tc .vmem S512x1024 .bf16) (harg30 : arg30.IsWhole) (arg31 : Memref sig .tc .vmem S16x1024 .bf16) (harg31 : arg31.IsWhole)
  (arg32 : Memref sig .tc .vmem S1024x1024 .bf16) (harg32 : arg32.IsWhole) (arg34 : Memref sig .tc .vmem S4x128x256 .f32) (harg34 : arg34.IsWhole)
  (arg35 : Memref sig .tc .vmem S4x1x1 .f32) (harg35 : arg35.IsWhole) (arg36 : Memref sig .tc .vmem S16x512 .f32) (harg36 : arg36.IsWhole)

set_option maxHeartbeats 40000000 in
/-- What the body stores into each buffer at a later even point: the first half of a sequence, with the proof that it does so and nothing else. -/
noncomputable def kernelRun0_C (hc0 : ¬cond0_0 i) (hc1 : cond0_1 i) (hc2 : ¬cond0_2 i)
    (x0 : Vec F S1x1024x1024 .f32) (x1 : Vec F S8x6144 .f32) (x2 : Vec F S1x1024 .f32) (x3 : Vec F S1x1024 .f32) (x4 : Vec F S1x4 .f32) (x5 : Vec F S1x4 .f32) (x6 : Vec F S1x128 .f32) (x7 : Vec F S4x128x128 .f32) (x8 : Vec F S1x512 .f32) (x9 : Vec F S1x64x4096 .f32) (x10 : Vec F S1x256x1024 .f32) (x11 : Vec F S8x2568 .f32) (x12 : Vec F S8x4 .f32) (x13 : Vec F S1x4 .f32) (x14 : Vec F S1x4 .f32) (x15 : Vec F S4096x128 .f32) (xs0 : Vec F S1024x2048 .bf16) (xs1 : Vec F S512x1024 .bf16) (xs2 : Vec F S16x1024 .bf16) (xs3 : Vec F S1024x1024 .bf16) (fh0 : HbBuf0 (F := F) c hbM0_0) (fh1 : HbBuf0 (F := F) c hbM0_1) :
    Σ' (L16 : List (View.Piece (Elt F) S1024x1024 .f32)), Σ' (L17 : List (View.Piece (Elt F) S1x4x128x128 .f32)), Σ' (L18 : List (View.Piece (Elt F) S1x4x128 .f32)), Σ' (L19 : List (View.Piece (Elt F) S1x4x1x1 .f32)), Σ' (L20 : List (View.Piece (Elt F) S1x15x512 .f32)), Σ' (L21 : List (View.Piece (Elt F) S64x4096 .bf16)), Σ' (L22 : List (View.Piece (Elt F) S256x1024 .bf16)), Σ' (L23 : List (View.Piece (Elt F) S4096x128 .f32)), Σ' (L24 : List (View.Piece (Elt F) S8x512 .f32)), Σ' (LS0 : List (View.Piece (Elt F) S1024x2048 .bf16)), Σ' (LS1 : List (View.Piece (Elt F) S512x1024 .bf16)), Σ' (LS2 : List (View.Piece (Elt F) S16x1024 .bf16)), Σ' (LS3 : List (View.Piece (Elt F) S1024x1024 .bf16)), Σ' (LS4 : List (View.Piece (Elt F) S4x128x256 .f32)), Σ' (LS5 : List (View.Piece (Elt F) S4x1x1 .f32)), { LS6 : List (View.Piece (Elt F) S16x512 .f32) //
      ∀ (xi17 : Vec F S1x4x128x128 .f32) (xi18 : Vec F S1x4x128 .f32) (xi19 : Vec F S1x4x1x1 .f32) (xi20 : Vec F S1x15x512 .f32) (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg13 fullShare x9 ∗ owns (c : Thread nD τ) arg14 fullShare x10 ∗ owns (c : Thread nD τ) arg15 fullShare x11 ∗ owns (c : Thread nD τ) arg16 fullShare x12 ∗ owns (c : Thread nD τ) arg17 fullShare x13 ∗ owns (c : Thread nD τ) arg18 fullShare x14 ∗ owns (c : Thread nD τ) arg19 fullShare x15 ∗ (∃ d, owns (c : Thread nD τ) arg20 fullShare d) ∗ owns (c : Thread nD τ) arg21 fullShare xi17 ∗ owns (c : Thread nD τ) arg22 fullShare xi18 ∗ owns (c : Thread nD τ) arg23 fullShare xi19 ∗ owns (c : Thread nD τ) arg24 fullShare xi20 ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ owns (c : Thread nD τ) arg29 fullShare xs0 ∗ owns (c : Thread nD τ) arg30 fullShare xs1 ∗ owns (c : Thread nD τ) arg31 fullShare xs2 ∗ owns (c : Thread nD τ) arg32 fullShare xs3 ∗ (∃ d, owns (c : Thread nD τ) arg34 fullShare d) ∗ (∃ d, owns (c : Thread nD τ) arg35 fullShare d) ∗ (∃ d, owns (c : Thread nD τ) arg36 fullShare d) ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ hbPt0 c hbM0_0 fh0 ∗ hbPt0 c hbM0_1 fh1 ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg13 fullShare x9 ∗ owns (c : Thread nD τ) arg14 fullShare x10 ∗ owns (c : Thread nD τ) arg15 fullShare x11 ∗ owns (c : Thread nD τ) arg16 fullShare x12 ∗ owns (c : Thread nD τ) arg17 fullShare x13 ∗ owns (c : Thread nD τ) arg18 fullShare x14 ∗ owns (c : Thread nD τ) arg19 fullShare x15 ∗ (∃ f, arg20.view.loc (c : Thread nD τ) ↦[arg20.view.set]{fullShare} arg20.view.writes (Elt F) f L16) ∗ owns (c : Thread nD τ) arg21 fullShare xi17 ∗ owns (c : Thread nD τ) arg22 fullShare xi18 ∗ owns (c : Thread nD τ) arg23 fullShare xi19 ∗ owns (c : Thread nD τ) arg24 fullShare xi20 ∗ (∃ f, arg25.view.loc (c : Thread nD τ) ↦[arg25.view.set]{fullShare} arg25.view.writes (Elt F) f L21) ∗ (∃ f, arg26.view.loc (c : Thread nD τ) ↦[arg26.view.set]{fullShare} arg26.view.writes (Elt F) f L22) ∗ (∃ f, arg27.view.loc (c : Thread nD τ) ↦[arg27.view.set]{fullShare} arg27.view.writes (Elt F) f L23) ∗ (∃ f, arg28.view.loc (c : Thread nD τ) ↦[arg28.view.set]{fullShare} arg28.view.writes (Elt F) f L24) ∗ owns (c : Thread nD τ) arg29 fullShare xs0 ∗ owns (c : Thread nD τ) arg30 fullShare xs1 ∗ owns (c : Thread nD τ) arg31 fullShare xs2 ∗ owns (c : Thread nD τ) arg32 fullShare xs3 ∗ (∃ f, arg34.view.loc (c : Thread nD τ) ↦[arg34.view.set]{fullShare} arg34.view.writes (Elt F) f LS4) ∗ (∃ f, arg35.view.loc (c : Thread nD τ) ↦[arg35.view.set]{fullShare} arg35.view.writes (Elt F) f LS5) ∗ (∃ f, arg36.view.loc (c : Thread nD τ) ↦[arg36.view.set]{fullShare} arg36.view.writes (Elt F) f LS6) ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_mix_prompt i arg2 harg2 arg3 harg3 arg4 harg4 arg5 harg5 (Memref.whole main_arg4) (Memref.isWhole_whole _) arg7 harg7 arg8 harg8 arg9 harg9 arg10 harg10 arg11 harg11 (Memref.whole main_arg10) (Memref.isWhole_whole _) arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 cc0_scratch4 arg34 harg34 arg35 harg35 arg36 harg36) K } := by
  refine ⟨?_, [], [], [], [], ?_, ?_, ?_, ?_, [], [], [], [], ?_, ?_, ?_, fun xi17 xi18 xi19 xi20 W K => ?run⟩
  case run =>
    simp only [cc0_mix_prompt_eq_skeleton]; unfold cc0_mix_prompt_skel
    simp only [k0_part65_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%f17, %hf17, H17⟩, ⟨%f18, %hf18, H18⟩, ⟨%f19, %hf19, H19⟩, ⟨%f20, %hf20, H20⟩, ⟨%d21, %f21, -, H21⟩, ⟨%d22, %f22, -, H22⟩, ⟨%d23, %f23, -, H23⟩, ⟨%d24, %f24, -, H24⟩, ⟨%fs0, %hfs0, HS0⟩, ⟨%fs1, %hfs1, HS1⟩, ⟨%fs2, %hfs2, HS2⟩, ⟨%fs3, %hfs3, HS3⟩, ⟨%ds4, %fs4, -, HS4⟩, ⟨%ds5, %fs5, -, HS5⟩, ⟨%ds6, %fs6, -, HS6⟩, Hq0, Hq1, Hq2, Hq3, Hh0, Hh1, HW, Hk⟩
    obtain rfl := harg2.eq_unread hf0; obtain rfl := harg3.eq_unread hf1; obtain rfl := harg4.eq_unread hf2; obtain rfl := harg5.eq_unread hf3; obtain rfl := harg7.eq_unread hf4; obtain rfl := harg8.eq_unread hf5; obtain rfl := harg9.eq_unread hf6; obtain rfl := harg10.eq_unread hf7; obtain rfl := harg11.eq_unread hf8; obtain rfl := harg13.eq_unread hf9; obtain rfl := harg14.eq_unread hf10; obtain rfl := harg15.eq_unread hf11; obtain rfl := harg16.eq_unread hf12; obtain rfl := harg17.eq_unread hf13; obtain rfl := harg18.eq_unread hf14; obtain rfl := harg19.eq_unread hf15; obtain rfl := harg21.eq_unread hf17; obtain rfl := harg22.eq_unread hf18; obtain rfl := harg23.eq_unread hf19; obtain rfl := harg24.eq_unread hf20; obtain rfl := harg29.eq_unread hfs0; obtain rfl := harg30.eq_unread hfs1; obtain rfl := harg31.eq_unread hfs2; obtain rfl := harg32.eq_unread hfs3
    sl_exec (disch := first | sl_exact hc0 | sl_exact hc1 | sl_exact hc2)
    sl_step
    iapply Hk
    isplitl [H0]; · iexists _; isplitr; (· ipureintro; exact harg2.read_unread _); iexact H0
    isplitl [H1]; · iexists _; isplitr; (· ipureintro; exact harg3.read_unread _); iexact H1
    isplitl [H2]; · iexists _; isplitr; (· ipureintro; exact harg4.read_unread _); iexact H2
    isplitl [H3]; · iexists _; isplitr; (· ipureintro; exact harg5.read_unread _); iexact H3
    isplitl [H4]; · iexists _; isplitr; (· ipureintro; exact harg7.read_unread _); iexact H4
    isplitl [H5]; · iexists _; isplitr; (· ipureintro; exact harg8.read_unread _); iexact H5
    isplitl [H6]; · iexists _; isplitr; (· ipureintro; exact harg9.read_unread _); iexact H6
    isplitl [H7]; · iexists _; isplitr; (· ipureintro; exact harg10.read_unread _); iexact H7
    isplitl [H8]; · iexists _; isplitr; (· ipureintro; exact harg11.read_unread _); iexact H8
    isplitl [H9]; · iexists _; isplitr; (· ipureintro; exact harg13.read_unread _); iexact H9
    isplitl [H10]; · iexists _; isplitr; (· ipureintro; exact harg14.read_unread _); iexact H10
    isplitl [H11]; · iexists _; isplitr; (· ipureintro; exact harg15.read_unread _); iexact H11
    isplitl [H12]; · iexists _; isplitr; (· ipureintro; exact harg16.read_unread _); iexact H12
    isplitl [H13]; · iexists _; isplitr; (· ipureintro; exact harg17.read_unread _); iexact H13
    isplitl [H14]; · iexists _; isplitr; (· ipureintro; exact harg18.read_unread _); iexact H14
    isplitl [H15]; · iexists _; isplitr; (· ipureintro; exact harg19.read_unread _); iexact H15
    isplitl [H16]; · iexists _; iexact H16
    isplitl [H17]; · iexists _; isplitr; (· ipureintro; exact harg21.read_unread _); iexact H17
    isplitl [H18]; · iexists _; isplitr; (· ipureintro; exact harg22.read_unread _); iexact H18
    isplitl [H19]; · iexists _; isplitr; (· ipureintro; exact harg23.read_unread _); iexact H19
    isplitl [H20]; · iexists _; isplitr; (· ipureintro; exact harg24.read_unread _); iexact H20
    isplitl [H21]; · iexists _; iexact H21
    isplitl [H22]; · iexists _; iexact H22
    isplitl [H23]; · iexists _; iexact H23
    isplitl [H24]; · iexists _; iexact H24
    isplitl [HS0]
    · iexists _; isplitr; · ipureintro; exact harg29.read_unread _
      iexact HS0
    isplitl [HS1]
    · iexists _; isplitr; · ipureintro; exact harg30.read_unread _
      iexact HS1
    isplitl [HS2]
    · iexists _; isplitr; · ipureintro; exact harg31.read_unread _
      iexact HS2
    isplitl [HS3]
    · iexists _; isplitr; · ipureintro; exact harg32.read_unread _
      iexact HS3
    isplitl [HS4]; · iexists _; iexact HS4
    isplitl [HS5]; · iexists _; iexact HS5
    isplitl [HS6]; · iexists _; iexact HS6
    isplitl [Hq0]; · iexact Hq0
    isplitl [Hq1]; · iexact Hq1
    isplitl [Hq2]; · iexact Hq2
    isplitl [Hq3]; · iexact Hq3
    isplitl [Hh0]; · iexact Hh0
    isplitl [Hh1]; · iexact Hh1
    iexists _; iexact HW

end Cert.MixIdeal.Hand

end
-- ==== Proof.Mix.Outs.lean ====
/- What each run of the prompt-mixing kernel leaves in its buffers; its stores cover every block. -/
module

public import proofs.«01_k».proof.Proof.Mix.RunA
public import proofs.«01_k».proof.Proof.Mix.RunB
public import proofs.«01_k».proof.Proof.Mix.RunC

@[expose] public section

set_option maxRecDepth 16384

noncomputable section

namespace Cert.MixIdeal.Hand

open Cert.MixIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What the buffers hold after a point: the nine output blocks, then the seven scratch buffers. -/
abbrev Outs (F : FTy → Type) [FloatOps F] : Type :=
  Vec F S1024x1024 .f32 × Vec F S1x4x128x128 .f32 × Vec F S1x4x128 .f32 × Vec F S1x4x1x1 .f32 × Vec F S1x15x512 .f32 × Vec F S64x4096 .bf16 × Vec F S256x1024 .bf16 × Vec F S4096x128 .f32 × Vec F S8x512 .f32
    × Vec F S1024x2048 .bf16 × Vec F S512x1024 .bf16 × Vec F S16x1024 .bf16 × Vec F S1024x1024 .bf16 × Vec F S4x128x256 .f32 × Vec F S4x1x1 .f32 × Vec F S16x512 .f32

theorem tlt (t : Fin cfg0.N) : t.val < 16 := lt_of_lt_of_eq t.isLt N_0

theorem isA0 (t : Fin cfg0.N) (h : t.val = 0) : cond0_0 (grid0.coords t) := by
  have := tlt t; exact (hcond0_0 t).mpr (by omega)
theorem isA1 (t : Fin cfg0.N) (h : t.val = 0) : cond0_1 (grid0.coords t) := by
  have := tlt t; exact (hcond0_1 t).mpr (by omega)
theorem isA2 (t : Fin cfg0.N) (h : t.val = 0) : ¬cond0_2 (grid0.coords t) := by
  have := tlt t; exact fun hc => absurd ((hcond0_2 t).mp hc) (by omega)
theorem isB0 (t : Fin cfg0.N) (h : t.val % 2 = 1) : ¬cond0_0 (grid0.coords t) := by
  have := tlt t; exact fun hc => absurd ((hcond0_0 t).mp hc) (by omega)
theorem isB1 (t : Fin cfg0.N) (h : t.val % 2 = 1) : ¬cond0_1 (grid0.coords t) := by
  have := tlt t; exact fun hc => absurd ((hcond0_1 t).mp hc) (by omega)
theorem isB2 (t : Fin cfg0.N) (h : t.val % 2 = 1) : cond0_2 (grid0.coords t) := by
  have := tlt t; exact (hcond0_2 t).mpr (by omega)
theorem isC0 (t : Fin cfg0.N) (h : t.val % 2 = 0) (hz : t.val ≠ 0) : ¬cond0_0 (grid0.coords t) := by
  have := tlt t; exact fun hc => absurd ((hcond0_0 t).mp hc) (by omega)
theorem isC1 (t : Fin cfg0.N) (h : t.val % 2 = 0) (hz : t.val ≠ 0) : cond0_1 (grid0.coords t) := by
  have := tlt t; exact (hcond0_1 t).mpr (by omega)
theorem isC2 (t : Fin cfg0.N) (h : t.val % 2 = 0) (hz : t.val ≠ 0) : ¬cond0_2 (grid0.coords t) := by
  have := tlt t; exact fun hc => absurd ((hcond0_2 t).mp hc) (by omega)

/-- The run at the first point, over the blocks of point `t`. -/
@[reducible] def RA (c : Dev nD) (t : Fin cfg0.N) (h : t.val = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t)
    scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _)
    (isA0 t h) (isA1 t h) (isA2 t h)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
     (V m c main_arg4) (V m c main_arg10)

/-- What the buffers hold after it. -/
def outA (c : Dev nD) (t : Fin cfg0.N) (h : t.val = 0) : Outs F :=
  (VO0_16.read (Elt F) (VO0_16.writes (Elt F) VO0_16.junk (RA m c t h).1),
   VO0_17.read (Elt F) (VO0_17.writes (Elt F) VO0_17.junk (RA m c t h).2.1),
   VO0_18.read (Elt F) (VO0_18.writes (Elt F) VO0_18.junk (RA m c t h).2.2.1),
   VO0_19.read (Elt F) (VO0_19.writes (Elt F) VO0_19.junk (RA m c t h).2.2.2.1),
   VO0_20.read (Elt F) (VO0_20.writes (Elt F) VO0_20.junk (RA m c t h).2.2.2.2.1),
   VO0_21.read (Elt F) (VO0_21.writes (Elt F) VO0_21.junk (RA m c t h).2.2.2.2.2.1),
   VO0_22.read (Elt F) (VO0_22.writes (Elt F) VO0_22.junk (RA m c t h).2.2.2.2.2.2.1),
   VO0_23.read (Elt F) (VO0_23.writes (Elt F) VO0_23.junk (RA m c t h).2.2.2.2.2.2.2.1),
   VO0_24.read (Elt F) (VO0_24.writes (Elt F) VO0_24.junk (RA m c t h).2.2.2.2.2.2.2.2.1),
   VS0_0.read (Elt F) (VS0_0.writes (Elt F) VS0_0.junk (RA m c t h).2.2.2.2.2.2.2.2.2.1),
   VS0_1.read (Elt F) (VS0_1.writes (Elt F) VS0_1.junk (RA m c t h).2.2.2.2.2.2.2.2.2.2.1),
   VS0_2.read (Elt F) (VS0_2.writes (Elt F) VS0_2.junk (RA m c t h).2.2.2.2.2.2.2.2.2.2.2.1),
   VS0_3.read (Elt F) (VS0_3.writes (Elt F) VS0_3.junk (RA m c t h).2.2.2.2.2.2.2.2.2.2.2.2.1),
   VS0_4.read (Elt F) (VS0_4.writes (Elt F) VS0_4.junk (RA m c t h).2.2.2.2.2.2.2.2.2.2.2.2.2.1),
   VS0_5.read (Elt F) (VS0_5.writes (Elt F) VS0_5.junk (RA m c t h).2.2.2.2.2.2.2.2.2.2.2.2.2.2.1),
   VS0_6.read (Elt F) (VS0_6.writes (Elt F) VS0_6.junk (RA m c t h).2.2.2.2.2.2.2.2.2.2.2.2.2.2.2.1))

theorem coverA_16 (c : Dev nD) (t : Fin cfg0.N) (h : t.val = 0) (y : S1024x1024.Idx) : ∃ pc ∈ (RA m c t h).1, y ∈ pc.1.set :=
  View.cover_of_tiledL (RA m c t h).1 ![256, 1024] (by sl_kernel_rfl) y
theorem coverA_21 (c : Dev nD) (t : Fin cfg0.N) (h : t.val = 0) (y : S64x4096.Idx) : ∃ pc ∈ (RA m c t h).2.2.2.2.2.1, y ∈ pc.1.set :=
  View.cover_of_tiledL (RA m c t h).2.2.2.2.2.1 ![64, 4096] (by sl_kernel_rfl) y
theorem coverA_22 (c : Dev nD) (t : Fin cfg0.N) (h : t.val = 0) (y : S256x1024.Idx) : ∃ pc ∈ (RA m c t h).2.2.2.2.2.2.1, y ∈ pc.1.set :=
  View.cover_of_tiledL (RA m c t h).2.2.2.2.2.2.1 ![256, 1024] (by sl_kernel_rfl) y
theorem coverA_23 (c : Dev nD) (t : Fin cfg0.N) (h : t.val = 0) (y : S4096x128.Idx) : ∃ pc ∈ (RA m c t h).2.2.2.2.2.2.2.1, y ∈ pc.1.set :=
  View.cover_of_tiledL (RA m c t h).2.2.2.2.2.2.2.1 ![128, 128] (by sl_kernel_rfl) y
theorem coverA_24 (c : Dev nD) (t : Fin cfg0.N) (h : t.val = 0) (y : S8x512.Idx) : ∃ pc ∈ (RA m c t h).2.2.2.2.2.2.2.2.1, y ∈ pc.1.set :=
  View.cover_of_tiledL (RA m c t h).2.2.2.2.2.2.2.2.1 ![8, 128] (by sl_kernel_rfl) y
theorem scoverA_0 (c : Dev nD) (t : Fin cfg0.N) (h : t.val = 0) (y : S1024x2048.Idx) : ∃ pc ∈ (RA m c t h).2.2.2.2.2.2.2.2.2.1, y ∈ pc.1.set :=
  View.cover_of_tiledL (RA m c t h).2.2.2.2.2.2.2.2.2.1 ![1024, 256] (by sl_kernel_rfl) y
theorem scoverA_1 (c : Dev nD) (t : Fin cfg0.N) (h : t.val = 0) (y : S512x1024.Idx) : ∃ pc ∈ (RA m c t h).2.2.2.2.2.2.2.2.2.2.1, y ∈ pc.1.set :=
  View.cover_of_tiledL (RA m c t h).2.2.2.2.2.2.2.2.2.2.1 ![256, 1024] (by sl_kernel_rfl) y
theorem scoverA_2 (c : Dev nD) (t : Fin cfg0.N) (h : t.val = 0) (y : S16x1024.Idx) : ∃ pc ∈ (RA m c t h).2.2.2.2.2.2.2.2.2.2.2.1, y ∈ pc.1.set :=
  View.cover_of_tiledL (RA m c t h).2.2.2.2.2.2.2.2.2.2.2.1 ![16, 1024] (by sl_kernel_rfl) y
theorem scoverA_3 (c : Dev nD) (t : Fin cfg0.N) (h : t.val = 0) (y : S1024x1024.Idx) : ∃ pc ∈ (RA m c t h).2.2.2.2.2.2.2.2.2.2.2.2.1, y ∈ pc.1.set :=
  View.cover_of_tiledBy (RA m c t h).2.2.2.2.2.2.2.2.2.2.2.2.1 ![128, 1024] (by sl_kernel_rfl) y
theorem scoverA_4 (c : Dev nD) (t : Fin cfg0.N) (h : t.val = 0) (y : S4x128x256.Idx) : ∃ pc ∈ (RA m c t h).2.2.2.2.2.2.2.2.2.2.2.2.2.1, y ∈ pc.1.set :=
  View.cover_of_wholeMem (RA m c t h).2.2.2.2.2.2.2.2.2.2.2.2.2.1 (by sl_whole_mem) y
theorem scoverA_5 (c : Dev nD) (t : Fin cfg0.N) (h : t.val = 0) (y : S4x1x1.Idx) : ∃ pc ∈ (RA m c t h).2.2.2.2.2.2.2.2.2.2.2.2.2.2.1, y ∈ pc.1.set :=
  View.cover_of_wholeMem (RA m c t h).2.2.2.2.2.2.2.2.2.2.2.2.2.2.1 (by sl_whole_mem) y
theorem scoverA_6 (c : Dev nD) (t : Fin cfg0.N) (h : t.val = 0) (y : S16x512.Idx) : ∃ pc ∈ (RA m c t h).2.2.2.2.2.2.2.2.2.2.2.2.2.2.2.1, y ∈ pc.1.set :=
  View.cover_of_tiledL (RA m c t h).2.2.2.2.2.2.2.2.2.2.2.2.2.2.2.1 ![16, 512] (by sl_kernel_rfl) y

/-- The run at an odd point, over the blocks of point `t`. -/
@[reducible] def RB (c : Dev nD) (t : Fin cfg0.N) (h : t.val % 2 = 1) (p : Outs F) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t)
    scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _)
    (isB0 t h) (isB1 t h) (isB2 t h)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    (p.2.2.2.2.2.2.2.2.2.1) (p.2.2.2.2.2.2.2.2.2.2.1) (p.2.2.2.2.2.2.2.2.2.2.2.1) (p.2.2.2.2.2.2.2.2.2.2.2.2.1) (p.2.2.2.2.2.2.2.2.2.2.2.2.2.1) (p.2.2.2.2.2.2.2.2.2.2.2.2.2.2.1) (p.2.2.2.2.2.2.2.2.2.2.2.2.2.2.2) (V m c main_arg4) (V m c main_arg10)

/-- What the buffers hold after it. -/
def outB (c : Dev nD) (t : Fin cfg0.N) (h : t.val % 2 = 1) (p : Outs F) : Outs F :=
  (VO0_16.read (Elt F) (VO0_16.writes (Elt F) VO0_16.junk (RB m c t h p).1),
   VO0_17.read (Elt F) (VO0_17.writes (Elt F) VO0_17.junk (RB m c t h p).2.1),
   VO0_18.read (Elt F) (VO0_18.writes (Elt F) VO0_18.junk (RB m c t h p).2.2.1),
   VO0_19.read (Elt F) (VO0_19.writes (Elt F) VO0_19.junk (RB m c t h p).2.2.2.1),
   VO0_20.read (Elt F) (VO0_20.writes (Elt F) VO0_20.junk (RB m c t h p).2.2.2.2.1),
   VO0_21.read (Elt F) (VO0_21.writes (Elt F) VO0_21.junk (RB m c t h p).2.2.2.2.2.1),
   VO0_22.read (Elt F) (VO0_22.writes (Elt F) VO0_22.junk (RB m c t h p).2.2.2.2.2.2.1),
   VO0_23.read (Elt F) (VO0_23.writes (Elt F) VO0_23.junk (RB m c t h p).2.2.2.2.2.2.2.1),
   VO0_24.read (Elt F) (VO0_24.writes (Elt F) VO0_24.junk (RB m c t h p).2.2.2.2.2.2.2.2.1),
   p.2.2.2.2.2.2.2.2.2.1,
   p.2.2.2.2.2.2.2.2.2.2.1,
   p.2.2.2.2.2.2.2.2.2.2.2.1,
   p.2.2.2.2.2.2.2.2.2.2.2.2.1,
   VS0_4.read (Elt F) (VS0_4.writes (Elt F) VS0_4.junk (RB m c t h p).2.2.2.2.2.2.2.2.2.2.2.2.2.1),
   VS0_5.read (Elt F) (VS0_5.writes (Elt F) VS0_5.junk (RB m c t h p).2.2.2.2.2.2.2.2.2.2.2.2.2.2.1),
   VS0_6.read (Elt F) (VS0_6.writes (Elt F) VS0_6.junk (RB m c t h p).2.2.2.2.2.2.2.2.2.2.2.2.2.2.2.1))

theorem coverB_16 (c : Dev nD) (t : Fin cfg0.N) (h : t.val % 2 = 1) (p : Outs F) (y : S1024x1024.Idx) : ∃ pc ∈ (RB m c t h p).1, y ∈ pc.1.set :=
  View.cover_of_tiledL (RB m c t h p).1 ![256, 1024] (by sl_kernel_rfl) y
theorem coverB_17 (c : Dev nD) (t : Fin cfg0.N) (h : t.val % 2 = 1) (p : Outs F) (y : S1x4x128x128.Idx) : ∃ pc ∈ (RB m c t h p).2.1, y ∈ pc.1.set :=
  View.cover_of_tiledL (RB m c t h p).2.1 ![1, 1, 128, 128] (by sl_kernel_rfl) y
theorem coverB_18 (c : Dev nD) (t : Fin cfg0.N) (h : t.val % 2 = 1) (p : Outs F) (y : S1x4x128.Idx) : ∃ pc ∈ (RB m c t h p).2.2.1, y ∈ pc.1.set :=
  View.cover_of_tiledL (RB m c t h p).2.2.1 ![1, 1, 128] (by sl_kernel_rfl) y
theorem coverB_19 (c : Dev nD) (t : Fin cfg0.N) (h : t.val % 2 = 1) (p : Outs F) (y : S1x4x1x1.Idx) : ∃ pc ∈ (RB m c t h p).2.2.2.1, y ∈ pc.1.set :=
  View.cover_of_tiledL (RB m c t h p).2.2.2.1 ![1, 1, 1, 1] (by sl_kernel_rfl) y
theorem coverB_20 (c : Dev nD) (t : Fin cfg0.N) (h : t.val % 2 = 1) (p : Outs F) (y : S1x15x512.Idx) : ∃ pc ∈ (RB m c t h p).2.2.2.2.1, y ∈ pc.1.set :=
  View.cover_of_tiledL (RB m c t h p).2.2.2.2.1 ![1, 15, 512] (by sl_kernel_rfl) y
theorem coverB_21 (c : Dev nD) (t : Fin cfg0.N) (h : t.val % 2 = 1) (p : Outs F) (y : S64x4096.Idx) : ∃ pc ∈ (RB m c t h p).2.2.2.2.2.1, y ∈ pc.1.set :=
  View.cover_of_tiledL (RB m c t h p).2.2.2.2.2.1 ![64, 4096] (by sl_kernel_rfl) y
theorem coverB_22 (c : Dev nD) (t : Fin cfg0.N) (h : t.val % 2 = 1) (p : Outs F) (y : S256x1024.Idx) : ∃ pc ∈ (RB m c t h p).2.2.2.2.2.2.1, y ∈ pc.1.set :=
  View.cover_of_tiledL (RB m c t h p).2.2.2.2.2.2.1 ![256, 1024] (by sl_kernel_rfl) y
theorem coverB_23 (c : Dev nD) (t : Fin cfg0.N) (h : t.val % 2 = 1) (p : Outs F) (y : S4096x128.Idx) : ∃ pc ∈ (RB m c t h p).2.2.2.2.2.2.2.1, y ∈ pc.1.set :=
  View.cover_of_tiledL (RB m c t h p).2.2.2.2.2.2.2.1 ![128, 128] (by sl_kernel_rfl) y
theorem coverB_24 (c : Dev nD) (t : Fin cfg0.N) (h : t.val % 2 = 1) (p : Outs F) (y : S8x512.Idx) : ∃ pc ∈ (RB m c t h p).2.2.2.2.2.2.2.2.1, y ∈ pc.1.set :=
  View.cover_of_tiledL (RB m c t h p).2.2.2.2.2.2.2.2.1 ![8, 128] (by sl_kernel_rfl) y
theorem scoverB_4 (c : Dev nD) (t : Fin cfg0.N) (h : t.val % 2 = 1) (p : Outs F) (y : S4x128x256.Idx) : ∃ pc ∈ (RB m c t h p).2.2.2.2.2.2.2.2.2.2.2.2.2.1, y ∈ pc.1.set :=
  View.cover_of_tiledL (RB m c t h p).2.2.2.2.2.2.2.2.2.2.2.2.2.1 ![1, 128, 256] (by sl_kernel_rfl) y
theorem scoverB_5 (c : Dev nD) (t : Fin cfg0.N) (h : t.val % 2 = 1) (p : Outs F) (y : S4x1x1.Idx) : ∃ pc ∈ (RB m c t h p).2.2.2.2.2.2.2.2.2.2.2.2.2.2.1, y ∈ pc.1.set :=
  View.cover_of_tiledL (RB m c t h p).2.2.2.2.2.2.2.2.2.2.2.2.2.2.1 ![1, 1, 1] (by sl_kernel_rfl) y
theorem scoverB_6 (c : Dev nD) (t : Fin cfg0.N) (h : t.val % 2 = 1) (p : Outs F) (y : S16x512.Idx) : ∃ pc ∈ (RB m c t h p).2.2.2.2.2.2.2.2.2.2.2.2.2.2.2.1, y ∈ pc.1.set :=
  View.cover_of_tiledL (RB m c t h p).2.2.2.2.2.2.2.2.2.2.2.2.2.2.2.1 ![16, 512] (by sl_kernel_rfl) y

/-- The run at a later even point, over the blocks of point `t`. -/
@[reducible] def RC (c : Dev nD) (t : Fin cfg0.N) (h : t.val % 2 = 0) (hz : t.val ≠ 0) (p : Outs F) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t)
    scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _)
    (isC0 t h hz) (isC1 t h hz) (isC2 t h hz)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    (p.2.2.2.2.2.2.2.2.2.1) (p.2.2.2.2.2.2.2.2.2.2.1) (p.2.2.2.2.2.2.2.2.2.2.2.1) (p.2.2.2.2.2.2.2.2.2.2.2.2.1) (V m c main_arg4) (V m c main_arg10)

/-- What the buffers hold after it. -/
def outC (c : Dev nD) (t : Fin cfg0.N) (h : t.val % 2 = 0) (hz : t.val ≠ 0) (p : Outs F) : Outs F :=
  (VO0_16.read (Elt F) (VO0_16.writes (Elt F) VO0_16.junk (RC m c t h hz p).1),
   VO0_17.read (Elt F) (VO0_17.writes (Elt F) VO0_17.junk (RC m c t h hz p).2.1),
   VO0_18.read (Elt F) (VO0_18.writes (Elt F) VO0_18.junk (RC m c t h hz p).2.2.1),
   VO0_19.read (Elt F) (VO0_19.writes (Elt F) VO0_19.junk (RC m c t h hz p).2.2.2.1),
   VO0_20.read (Elt F) (VO0_20.writes (Elt F) VO0_20.junk (RC m c t h hz p).2.2.2.2.1),
   VO0_21.read (Elt F) (VO0_21.writes (Elt F) VO0_21.junk (RC m c t h hz p).2.2.2.2.2.1),
   VO0_22.read (Elt F) (VO0_22.writes (Elt F) VO0_22.junk (RC m c t h hz p).2.2.2.2.2.2.1),
   VO0_23.read (Elt F) (VO0_23.writes (Elt F) VO0_23.junk (RC m c t h hz p).2.2.2.2.2.2.2.1),
   VO0_24.read (Elt F) (VO0_24.writes (Elt F) VO0_24.junk (RC m c t h hz p).2.2.2.2.2.2.2.2.1),
   p.2.2.2.2.2.2.2.2.2.1,
   p.2.2.2.2.2.2.2.2.2.2.1,
   p.2.2.2.2.2.2.2.2.2.2.2.1,
   p.2.2.2.2.2.2.2.2.2.2.2.2.1,
   VS0_4.read (Elt F) (VS0_4.writes (Elt F) VS0_4.junk (RC m c t h hz p).2.2.2.2.2.2.2.2.2.2.2.2.2.1),
   VS0_5.read (Elt F) (VS0_5.writes (Elt F) VS0_5.junk (RC m c t h hz p).2.2.2.2.2.2.2.2.2.2.2.2.2.2.1),
   VS0_6.read (Elt F) (VS0_6.writes (Elt F) VS0_6.junk (RC m c t h hz p).2.2.2.2.2.2.2.2.2.2.2.2.2.2.2.1))

theorem coverC_16 (c : Dev nD) (t : Fin cfg0.N) (h : t.val % 2 = 0) (hz : t.val ≠ 0) (p : Outs F) (y : S1024x1024.Idx) : ∃ pc ∈ (RC m c t h hz p).1, y ∈ pc.1.set :=
  View.cover_of_tiledL (RC m c t h hz p).1 ![256, 1024] (by sl_kernel_rfl) y
theorem coverC_21 (c : Dev nD) (t : Fin cfg0.N) (h : t.val % 2 = 0) (hz : t.val ≠ 0) (p : Outs F) (y : S64x4096.Idx) : ∃ pc ∈ (RC m c t h hz p).2.2.2.2.2.1, y ∈ pc.1.set :=
  View.cover_of_tiledL (RC m c t h hz p).2.2.2.2.2.1 ![64, 4096] (by sl_kernel_rfl) y
theorem coverC_22 (c : Dev nD) (t : Fin cfg0.N) (h : t.val % 2 = 0) (hz : t.val ≠ 0) (p : Outs F) (y : S256x1024.Idx) : ∃ pc ∈ (RC m c t h hz p).2.2.2.2.2.2.1, y ∈ pc.1.set :=
  View.cover_of_tiledL (RC m c t h hz p).2.2.2.2.2.2.1 ![256, 1024] (by sl_kernel_rfl) y
theorem coverC_23 (c : Dev nD) (t : Fin cfg0.N) (h : t.val % 2 = 0) (hz : t.val ≠ 0) (p : Outs F) (y : S4096x128.Idx) : ∃ pc ∈ (RC m c t h hz p).2.2.2.2.2.2.2.1, y ∈ pc.1.set :=
  View.cover_of_tiledL (RC m c t h hz p).2.2.2.2.2.2.2.1 ![128, 128] (by sl_kernel_rfl) y
theorem coverC_24 (c : Dev nD) (t : Fin cfg0.N) (h : t.val % 2 = 0) (hz : t.val ≠ 0) (p : Outs F) (y : S8x512.Idx) : ∃ pc ∈ (RC m c t h hz p).2.2.2.2.2.2.2.2.1, y ∈ pc.1.set :=
  View.cover_of_tiledL (RC m c t h hz p).2.2.2.2.2.2.2.2.1 ![8, 128] (by sl_kernel_rfl) y
theorem scoverC_4 (c : Dev nD) (t : Fin cfg0.N) (h : t.val % 2 = 0) (hz : t.val ≠ 0) (p : Outs F) (y : S4x128x256.Idx) : ∃ pc ∈ (RC m c t h hz p).2.2.2.2.2.2.2.2.2.2.2.2.2.1, y ∈ pc.1.set :=
  View.cover_of_wholeMem (RC m c t h hz p).2.2.2.2.2.2.2.2.2.2.2.2.2.1 (by sl_whole_mem) y
theorem scoverC_5 (c : Dev nD) (t : Fin cfg0.N) (h : t.val % 2 = 0) (hz : t.val ≠ 0) (p : Outs F) (y : S4x1x1.Idx) : ∃ pc ∈ (RC m c t h hz p).2.2.2.2.2.2.2.2.2.2.2.2.2.2.1, y ∈ pc.1.set :=
  View.cover_of_wholeMem (RC m c t h hz p).2.2.2.2.2.2.2.2.2.2.2.2.2.2.1 (by sl_whole_mem) y
theorem scoverC_6 (c : Dev nD) (t : Fin cfg0.N) (h : t.val % 2 = 0) (hz : t.val ≠ 0) (p : Outs F) (y : S16x512.Idx) : ∃ pc ∈ (RC m c t h hz p).2.2.2.2.2.2.2.2.2.2.2.2.2.2.2.1, y ∈ pc.1.set :=
  View.cover_of_tiledL (RC m c t h hz p).2.2.2.2.2.2.2.2.2.2.2.2.2.2.2.1 ![16, 512] (by sl_kernel_rfl) y

end Cert.MixIdeal.Hand

end
-- ==== Proof.Mix.Data.lean ====
/- What the buffers of the prompt-mixing kernel hold point by point, and the proof data of its pipeline. -/
module

public import proofs.«01_k».proof.Proof.Mix.Outs

@[expose] public section

set_option maxRecDepth 16384

noncomputable section

namespace Cert.MixIdeal.Hand

open Cert.MixIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What the buffers hold after point `n`. -/
def outsAt0 (c : Dev nD) : (n : ℕ) → n < cfg0.N → Outs F
  | 0, hn => outA m c ⟨0, hn⟩ rfl
  | n + 1, hn =>
    if h : (n + 1) % 2 = 1 then outB m c ⟨n + 1, hn⟩ h (outsAt0 c n (Nat.lt_of_succ_lt hn))
    else outC m c ⟨n + 1, hn⟩ (by dsimp only; omega) (Nat.succ_ne_zero n) (outsAt0 c n (Nat.lt_of_succ_lt hn))

/-- What they held before a point that is not the first. -/
abbrev prev (c : Dev nD) (t : Fin cfg0.N) : Outs F := outsAt0 m c (t.val - 1) (Nat.lt_of_le_of_lt (Nat.sub_le _ _) t.isLt)

theorem outsAt0_A (c : Dev nD) (t : Fin cfg0.N) (h : t.val = 0) : outsAt0 m c t.val t.isLt = outA m c t h := by
  obtain ⟨n, hn⟩ := t
  cases n with
  | zero => rfl
  | succ n => exact absurd h (Nat.succ_ne_zero n)

theorem outsAt0_B (c : Dev nD) (t : Fin cfg0.N) (h : t.val % 2 = 1) : outsAt0 m c t.val t.isLt = outB m c t h (prev m c t) := by
  obtain ⟨n, hn⟩ := t
  cases n with
  | zero => exact absurd h Nat.zero_ne_one
  | succ n => exact dif_pos h

theorem outsAt0_C (c : Dev nD) (t : Fin cfg0.N) (h : t.val % 2 = 0) (hz : t.val ≠ 0) :
    outsAt0 m c t.val t.isLt = outC m c t h hz (prev m c t) := by
  obtain ⟨n, hn⟩ := t
  cases n with
  | zero => exact absurd rfl hz
  | succ n => exact dif_neg (by dsimp only at h ⊢; omega)

/-- What is held between points besides the windows, the scratch at `o`. -/
def PhiAt (c : Dev nD) (o : Outs F) : sProp 𝕄 :=
  iprop(iprop(owns (c : Thread nD τ) scM0_0 fullShare o.2.2.2.2.2.2.2.2.2.1 ∗ owns (c : Thread nD τ) scM0_1 fullShare o.2.2.2.2.2.2.2.2.2.2.1 ∗ owns (c : Thread nD τ) scM0_2 fullShare o.2.2.2.2.2.2.2.2.2.2.2.1 ∗ owns (c : Thread nD τ) scM0_3 fullShare o.2.2.2.2.2.2.2.2.2.2.2.2.1 ∗ owns (c : Thread nD τ) scM0_4 fullShare o.2.2.2.2.2.2.2.2.2.2.2.2.2.1 ∗ owns (c : Thread nD τ) scM0_5 fullShare o.2.2.2.2.2.2.2.2.2.2.2.2.2.2.1 ∗ owns (c : Thread nD τ) scM0_6 fullShare o.2.2.2.2.2.2.2.2.2.2.2.2.2.2.2)
    ∗ (∃ r, prngReg c r) ∗ iprop(semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0)
    ∗ iprop(hbPt0 c hbM0_0 (V m c main_arg4) ∗ hbPt0 c hbM0_1 (V m c main_arg10)))

/-- What is held before position `n`: at first every scratch buffer at anything, then at what the point before left. -/
def PhiS (c : Dev nD) : (n : ℕ) → n ≤ cfg0.N → sProp 𝕄
  | 0, _ => Pipeline.ΦD osem0 spec0 H0 (V m) c
  | n + 1, hn => PhiAt m c (outsAt0 m c n hn)

theorem PhiS_zero (c : Dev nD) (n : ℕ) (h : n ≤ cfg0.N) (hz : n = 0) : PhiS m c n h = Pipeline.ΦD osem0 spec0 H0 (V m) c := by
  subst hz; rfl

theorem PhiS_pos (c : Dev nD) (n : ℕ) (h : n ≤ cfg0.N) (hz : n ≠ 0) : PhiS m c n h = PhiAt m c (outsAt0 m c (n - 1) (by omega)) := by
  cases n with
  | zero => exact absurd rfl hz
  | succ n => rfl

/-- The proof data of the pipeline. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => (outsAt0 m c t.val t.isLt).1
    | ⟨17, _⟩ => (outsAt0 m c t.val t.isLt).2.1
    | ⟨18, _⟩ => (outsAt0 m c t.val t.isLt).2.2.1
    | ⟨19, _⟩ => (outsAt0 m c t.val t.isLt).2.2.2.1
    | ⟨20, _⟩ => (outsAt0 m c t.val t.isLt).2.2.2.2.1
    | ⟨21, _⟩ => (outsAt0 m c t.val t.isLt).2.2.2.2.2.1
    | ⟨22, _⟩ => (outsAt0 m c t.val t.isLt).2.2.2.2.2.2.1
    | ⟨23, _⟩ => (outsAt0 m c t.val t.isLt).2.2.2.2.2.2.2.1
    | ⟨24, _⟩ => (outsAt0 m c t.val t.isLt).2.2.2.2.2.2.2.2.1
    | ⟨_ + 25, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = (outsAt0 m c t.val t.isLt).1 := by dsimp only [dats]
theorem after0_17 (c : Dev nD) (t : Fin cfg0.N) : (dats m 0 c).after 17 t = (outsAt0 m c t.val t.isLt).2.1 := by dsimp only [dats]
theorem after0_18 (c : Dev nD) (t : Fin cfg0.N) : (dats m 0 c).after 18 t = (outsAt0 m c t.val t.isLt).2.2.1 := by dsimp only [dats]
theorem after0_19 (c : Dev nD) (t : Fin cfg0.N) : (dats m 0 c).after 19 t = (outsAt0 m c t.val t.isLt).2.2.2.1 := by dsimp only [dats]
theorem after0_20 (c : Dev nD) (t : Fin cfg0.N) : (dats m 0 c).after 20 t = (outsAt0 m c t.val t.isLt).2.2.2.2.1 := by dsimp only [dats]
theorem after0_21 (c : Dev nD) (t : Fin cfg0.N) : (dats m 0 c).after 21 t = (outsAt0 m c t.val t.isLt).2.2.2.2.2.1 := by dsimp only [dats]
theorem after0_22 (c : Dev nD) (t : Fin cfg0.N) : (dats m 0 c).after 22 t = (outsAt0 m c t.val t.isLt).2.2.2.2.2.2.1 := by dsimp only [dats]
theorem after0_23 (c : Dev nD) (t : Fin cfg0.N) : (dats m 0 c).after 23 t = (outsAt0 m c t.val t.isLt).2.2.2.2.2.2.2.1 := by dsimp only [dats]
theorem after0_24 (c : Dev nD) (t : Fin cfg0.N) : (dats m 0 c).after 24 t = (outsAt0 m c t.val t.isLt).2.2.2.2.2.2.2.2.1 := by dsimp only [dats]

theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl)
    (fun t => by rw [after0_6]; unfold Dat.blockOf iblk; rw [A_eq]; try rfl) t d).trans (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl)
    (fun t => by rw [after0_7]; unfold Dat.blockOf iblk; rw [A_eq]; try rfl) t d).trans (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl)
    (fun t => by rw [after0_8]; unfold Dat.blockOf iblk; rw [A_eq]; try rfl) t d).trans (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl)
    (fun t => by rw [after0_9]; unfold Dat.blockOf iblk; rw [A_eq]; try rfl) t d).trans (by unfold Dat.fetched Dat.blockOf iblk; rw [A_eq]; try rfl)
theorem before0_10 (c : Dev nD) (t : Fin cfg0.N) (d) : (dats m 0 c).before 10 t d = iblk m c 10 t :=
  ((dats m 0 c).before_in_eq_fetched 10 rfl (fun _ => rfl) (fun _ _ _ => rfl)
    (fun t => by rw [after0_10]; unfold Dat.blockOf iblk; rw [A_eq]; try rfl) t d).trans (by unfold Dat.fetched Dat.blockOf iblk; rw [A_eq]; try rfl)
theorem before0_11 (c : Dev nD) (t : Fin cfg0.N) (d) : (dats m 0 c).before 11 t d = iblk m c 11 t :=
  ((dats m 0 c).before_in_eq_fetched 11 rfl (fun _ => rfl) (fun _ _ _ => rfl)
    (fun t => by rw [after0_11]; unfold Dat.blockOf iblk; rw [A_eq]; try rfl) t d).trans (by unfold Dat.fetched Dat.blockOf iblk; rw [A_eq]; try rfl)
theorem before0_12 (c : Dev nD) (t : Fin cfg0.N) (d) : (dats m 0 c).before 12 t d = iblk m c 12 t :=
  ((dats m 0 c).before_in_eq_fetched 12 rfl (fun _ => rfl) (fun _ _ _ => rfl)
    (fun t => by rw [after0_12]; unfold Dat.blockOf iblk; rw [A_eq]; try rfl) t d).trans (by unfold Dat.fetched Dat.blockOf iblk; rw [A_eq]; try rfl)
theorem before0_13 (c : Dev nD) (t : Fin cfg0.N) (d) : (dats m 0 c).before 13 t d = iblk m c 13 t :=
  ((dats m 0 c).before_in_eq_fetched 13 rfl (fun _ => rfl) (fun _ _ _ => rfl)
    (fun t => by rw [after0_13]; unfold Dat.blockOf iblk; rw [A_eq]; try rfl) t d).trans (by unfold Dat.fetched Dat.blockOf iblk; rw [A_eq]; try rfl)
theorem before0_14 (c : Dev nD) (t : Fin cfg0.N) (d) : (dats m 0 c).before 14 t d = iblk m c 14 t :=
  ((dats m 0 c).before_in_eq_fetched 14 rfl (fun _ => rfl) (fun _ _ _ => rfl)
    (fun t => by rw [after0_14]; unfold Dat.blockOf iblk; rw [A_eq]; try rfl) t d).trans (by unfold Dat.fetched Dat.blockOf iblk; rw [A_eq]; try rfl)
theorem before0_15 (c : Dev nD) (t : Fin cfg0.N) (d) : (dats m 0 c).before 15 t d = iblk m c 15 t :=
  ((dats m 0 c).before_in_eq_fetched 15 rfl (fun _ => rfl) (fun _ _ _ => rfl)
    (fun t => by rw [after0_15]; unfold Dat.blockOf iblk; rw [A_eq]; try rfl) t d).trans (by unfold Dat.fetched Dat.blockOf iblk; rw [A_eq]; try rfl)

theorem leaves0_0 (c : Dev nD) (t : Fin cfg0.N) : (dats m 0 c).leavesExact 0 t = owns (c : Thread nD τ) (ms0_0 t) fullShare ((dats m 0 c).after 0 t) := by
  unfold Dat.leavesExact; rw [liveAt0_0 t]
theorem leaves0_1 (c : Dev nD) (t : Fin cfg0.N) : (dats m 0 c).leavesExact 1 t = owns (c : Thread nD τ) (ms0_1 t) fullShare ((dats m 0 c).after 1 t) := by
  unfold Dat.leavesExact; rw [liveAt0_1 t]
theorem leaves0_2 (c : Dev nD) (t : Fin cfg0.N) : (dats m 0 c).leavesExact 2 t = owns (c : Thread nD τ) (ms0_2 t) fullShare ((dats m 0 c).after 2 t) := by
  unfold Dat.leavesExact; rw [liveAt0_2 t]
theorem leaves0_3 (c : Dev nD) (t : Fin cfg0.N) : (dats m 0 c).leavesExact 3 t = owns (c : Thread nD τ) (ms0_3 t) fullShare ((dats m 0 c).after 3 t) := by
  unfold Dat.leavesExact; rw [liveAt0_3 t]
theorem leaves0_4 (c : Dev nD) (t : Fin cfg0.N) : (dats m 0 c).leavesExact 4 t = owns (c : Thread nD τ) (ms0_4 t) fullShare ((dats m 0 c).after 4 t) := by
  unfold Dat.leavesExact; rw [liveAt0_4 t]
theorem leaves0_5 (c : Dev nD) (t : Fin cfg0.N) : (dats m 0 c).leavesExact 5 t = owns (c : Thread nD τ) (ms0_5 t) fullShare ((dats m 0 c).after 5 t) := by
  unfold Dat.leavesExact; rw [liveAt0_5 t]
theorem leaves0_6 (c : Dev nD) (t : Fin cfg0.N) : (dats m 0 c).leavesExact 6 t = owns (c : Thread nD τ) (ms0_6 t) fullShare ((dats m 0 c).after 6 t) := by
  unfold Dat.leavesExact; rw [liveAt0_6 t]
theorem leaves0_7 (c : Dev nD) (t : Fin cfg0.N) : (dats m 0 c).leavesExact 7 t = owns (c : Thread nD τ) (ms0_7 t) fullShare ((dats m 0 c).after 7 t) := by
  unfold Dat.leavesExact; rw [liveAt0_7 t]
theorem leaves0_8 (c : Dev nD) (t : Fin cfg0.N) : (dats m 0 c).leavesExact 8 t = owns (c : Thread nD τ) (ms0_8 t) fullShare ((dats m 0 c).after 8 t) := by
  unfold Dat.leavesExact; rw [liveAt0_8 t]
theorem leaves0_9 (c : Dev nD) (t : Fin cfg0.N) : (dats m 0 c).leavesExact 9 t = owns (c : Thread nD τ) (ms0_9 t) fullShare ((dats m 0 c).after 9 t) := by
  unfold Dat.leavesExact; rw [liveAt0_9 t]
theorem leaves0_10 (c : Dev nD) (t : Fin cfg0.N) : (dats m 0 c).leavesExact 10 t = owns (c : Thread nD τ) (ms0_10 t) fullShare ((dats m 0 c).after 10 t) := by
  unfold Dat.leavesExact; rw [liveAt0_10 t]
theorem leaves0_11 (c : Dev nD) (t : Fin cfg0.N) : (dats m 0 c).leavesExact 11 t = owns (c : Thread nD τ) (ms0_11 t) fullShare ((dats m 0 c).after 11 t) := by
  unfold Dat.leavesExact; rw [liveAt0_11 t]
theorem leaves0_12 (c : Dev nD) (t : Fin cfg0.N) : (dats m 0 c).leavesExact 12 t = owns (c : Thread nD τ) (ms0_12 t) fullShare ((dats m 0 c).after 12 t) := by
  unfold Dat.leavesExact; rw [liveAt0_12 t]
theorem leaves0_13 (c : Dev nD) (t : Fin cfg0.N) : (dats m 0 c).leavesExact 13 t = owns (c : Thread nD τ) (ms0_13 t) fullShare ((dats m 0 c).after 13 t) := by
  unfold Dat.leavesExact; rw [liveAt0_13 t]
theorem leaves0_14 (c : Dev nD) (t : Fin cfg0.N) : (dats m 0 c).leavesExact 14 t = owns (c : Thread nD τ) (ms0_14 t) fullShare ((dats m 0 c).after 14 t) := by
  unfold Dat.leavesExact; rw [liveAt0_14 t]
theorem leaves0_15 (c : Dev nD) (t : Fin cfg0.N) : (dats m 0 c).leavesExact 15 t = owns (c : Thread nD τ) (ms0_15 t) fullShare ((dats m 0 c).after 15 t) := by
  unfold Dat.leavesExact; rw [liveAt0_15 t]
theorem leaves0_16 (c : Dev nD) (t : Fin cfg0.N) : (dats m 0 c).leavesExact 16 t = owns (c : Thread nD τ) (ms0_16 t) fullShare ((dats m 0 c).after 16 t) := by
  unfold Dat.leavesExact; rw [liveAt0_16 t]
theorem leaves0_21 (c : Dev nD) (t : Fin cfg0.N) : (dats m 0 c).leavesExact 21 t = owns (c : Thread nD τ) (ms0_21 t) fullShare ((dats m 0 c).after 21 t) := by
  unfold Dat.leavesExact; rw [liveAt0_21 t]
theorem leaves0_22 (c : Dev nD) (t : Fin cfg0.N) : (dats m 0 c).leavesExact 22 t = owns (c : Thread nD τ) (ms0_22 t) fullShare ((dats m 0 c).after 22 t) := by
  unfold Dat.leavesExact; rw [liveAt0_22 t]
theorem leaves0_23 (c : Dev nD) (t : Fin cfg0.N) : (dats m 0 c).leavesExact 23 t = owns (c : Thread nD τ) (ms0_23 t) fullShare ((dats m 0 c).after 23 t) := by
  unfold Dat.leavesExact; rw [liveAt0_23 t]
theorem leaves0_24 (c : Dev nD) (t : Fin cfg0.N) : (dats m 0 c).leavesExact 24 t = owns (c : Thread nD τ) (ms0_24 t) fullShare ((dats m 0 c).after 24 t) := by
  unfold Dat.leavesExact; rw [liveAt0_24 t]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t
    ∗ (dats m 0 c).leavesExact 24 t)

end Cert.MixIdeal.Hand

end
-- ==== Proof.Mix.SoundA.lean ====
/- The body of the prompt-mixing kernel at the first point: it leaves what the proof data say. -/
module

public import proofs.«01_k».proof.Proof.Mix.Data

@[expose] public section

set_option maxRecDepth 16384

noncomputable section

namespace Cert.MixIdeal.Hand

open Cert.MixIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 38400000 in
/-- The body at the first point. -/
theorem sound_A (c : Dev nD) (t : Fin cfg0.N) (h : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = PhiAt m c (outsAt0 m c t.val t.isLt) from rfl]
  unfold Dat.owesAt Pipeline.owesWithin
  rw [show (dats m 0 c).owed t.castSucc = 0 from rfl, show (dats m 0 c).owed t.succ = 0 from rfl]
  rw [show (dats m 0 c).Φ t.castSucc = PhiS m c t.val (Nat.le_of_lt t.isLt) from rfl]
  rw [leaves0_0, after0_0, leaves0_1, after0_1, leaves0_2, after0_2, leaves0_3, after0_3, leaves0_4, after0_4, leaves0_5, after0_5, leaves0_6, after0_6, leaves0_7, after0_7, leaves0_8, after0_8, leaves0_9, after0_9, leaves0_10, after0_10, leaves0_11, after0_11, leaves0_12, after0_12, leaves0_13, after0_13, leaves0_14, after0_14, leaves0_15, after0_15, leaves0_16, after0_16, leaves0_21, after0_21, leaves0_22, after0_22, leaves0_23, after0_23, leaves0_24, after0_24]
  rw [Dat.leavesExact_idle (dats m 0 c) 17 t (idleAt0_17_A t (isA0 t h) (isA1 t h) (isA2 t h)) (noFlush0_17_A t (isA0 t h) (isA1 t h) (isA2 t h))]
  rw [Dat.leavesExact_idle (dats m 0 c) 18 t (idleAt0_18_A t (isA0 t h) (isA1 t h) (isA2 t h)) (noFlush0_18_A t (isA0 t h) (isA1 t h) (isA2 t h))]
  rw [Dat.leavesExact_idle (dats m 0 c) 19 t (idleAt0_19_A t (isA0 t h) (isA1 t h) (isA2 t h)) (noFlush0_19_A t (isA0 t h) (isA1 t h) (isA2 t h))]
  rw [Dat.leavesExact_idle (dats m 0 c) 20 t (idleAt0_20_A t (isA0 t h) (isA1 t h) (isA2 t h)) (noFlush0_20_A t (isA0 t h) (isA1 t h) (isA2 t h))]
  rw [PhiS_zero m c _ _ h, PhiD0_eq, outsAt0_A m c t h]
  unfold PhiAt outA; dsimp only
  iintro ⟨⟨⟨HS0, HS1, HS2, HS3, HS4, HS5, HS6⟩, Hg, ⟨Hq0, Hq1, Hq2, Hq3⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  iapply ((RA m c t h).2.2.2.2.2.2.2.2.2.2.2.2.2.2.2.2 _ _ _ _ W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexact H17
  isplitl [H18]; · iexact H18
  isplitl [H19]; · iexact H19
  isplitl [H20]; · iexact H20
  isplitl [H21]; · iexists _; iexact H21
  isplitl [H22]; · iexists _; iexact H22
  isplitl [H23]; · iexists _; iexact H23
  isplitl [H24]; · iexists _; iexact H24
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [Hq0]; · iexact Hq0
  isplitl [Hq1]; · iexact Hq1
  isplitl [Hq2]; · iexact Hq2
  isplitl [Hq3]; · iexact Hq3
  isplitl [Hh0]; · iexact Hh0
  isplitl [Hh1]; · iexact Hh1
  isplitl [HW]; · iexact HW
  iintro ⟨H0, H1, H2, H3, H4, H5, H6, H7, H8, H9, H10, H11, H12, H13, H14, H15, ⟨%e16, H16⟩, H17, H18, H19, H20, ⟨%e21, H21⟩, ⟨%e22, H22⟩, ⟨%e23, H23⟩, ⟨%e24, H24⟩, ⟨%es0, HS0⟩, ⟨%es1, HS1⟩, ⟨%es2, HS2⟩, ⟨%es3, HS3⟩, ⟨%es4, HS4⟩, ⟨%es5, HS5⟩, ⟨%es6, HS6⟩, Hq0, Hq1, Hq2, Hq3, Hh0, Hh1, ⟨%W', HW'⟩⟩
  isplitl [HS0 HS1 HS2 HS3 HS4 HS5 HS6 Hg Hq0 Hq1 Hq2 Hq3 Hh0 Hh1]
  · isplitl [HS0 HS1 HS2 HS3 HS4 HS5 HS6]
    · isplitl [HS0]
      · unfold owns; iexists _; isplitr; swap; · iexact HS0
        ipureintro; exact View.read_writes_of_cover _ _ _ _ _ (scoverA_0 m c t h)
      isplitl [HS1]
      · unfold owns; iexists _; isplitr; swap; · iexact HS1
        ipureintro; exact View.read_writes_of_cover _ _ _ _ _ (scoverA_1 m c t h)
      isplitl [HS2]
      · unfold owns; iexists _; isplitr; swap; · iexact HS2
        ipureintro; exact View.read_writes_of_cover _ _ _ _ _ (scoverA_2 m c t h)
      isplitl [HS3]
      · unfold owns; iexists _; isplitr; swap; · iexact HS3
        ipureintro; exact View.read_writes_of_cover _ _ _ _ _ (scoverA_3 m c t h)
      isplitl [HS4]
      · unfold owns; iexists _; isplitr; swap; · iexact HS4
        ipureintro; exact View.read_writes_of_cover _ _ _ _ _ (scoverA_4 m c t h)
      isplitl [HS5]
      · unfold owns; iexists _; isplitr; swap; · iexact HS5
        ipureintro; exact View.read_writes_of_cover _ _ _ _ _ (scoverA_5 m c t h)
      unfold owns; iexists _; isplitr; swap; · iexact HS6
      ipureintro; exact View.read_writes_of_cover _ _ _ _ _ (scoverA_6 m c t h)
    isplitl [Hg]; · iexact Hg
    isplitl [Hq0 Hq1 Hq2 Hq3]
    · isplitl [Hq0]; · iexact Hq0
      isplitl [Hq1]; · iexact Hq1
      isplitl [Hq2]; · iexact Hq2
      iexact Hq3
    isplitl [Hh0]; · iexact Hh0
    iexact Hh1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · unfold owns; iexists _; isplitr; swap; · iexact H16
    ipureintro; exact View.read_writes_of_cover _ _ _ _ _ (coverA_16 m c t h)
  isplitl [H17]; · iexists _; iexact H17
  isplitl [H18]; · iexists _; iexact H18
  isplitl [H19]; · iexists _; iexact H19
  isplitl [H20]; · iexists _; iexact H20
  isplitl [H21]
  · unfold owns; iexists _; isplitr; swap; · iexact H21
    ipureintro; exact View.read_writes_of_cover _ _ _ _ _ (coverA_21 m c t h)
  isplitl [H22]
  · unfold owns; iexists _; isplitr; swap; · iexact H22
    ipureintro; exact View.read_writes_of_cover _ _ _ _ _ (coverA_22 m c t h)
  isplitl [H23]
  · unfold owns; iexists _; isplitr; swap; · iexact H23
    ipureintro; exact View.read_writes_of_cover _ _ _ _ _ (coverA_23 m c t h)
  unfold owns; iexists _; isplitr; swap; · iexact H24
  ipureintro; exact View.read_writes_of_cover _ _ _ _ _ (coverA_24 m c t h)

end Cert.MixIdeal.Hand

end
-- ==== Proof.Mix.SoundB.lean ====
/- The body of the prompt-mixing kernel at an odd point: it leaves what the proof data say. -/
module

public import proofs.«01_k».proof.Proof.Mix.Data

@[expose] public section

set_option maxRecDepth 16384

noncomputable section

namespace Cert.MixIdeal.Hand

open Cert.MixIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 38400000 in
/-- The body at an odd point. -/
theorem sound_B (c : Dev nD) (t : Fin cfg0.N) (h : t.val % 2 = 1) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = PhiAt m c (outsAt0 m c t.val t.isLt) from rfl]
  unfold Dat.owesAt Pipeline.owesWithin
  rw [show (dats m 0 c).owed t.castSucc = 0 from rfl, show (dats m 0 c).owed t.succ = 0 from rfl]
  rw [show (dats m 0 c).Φ t.castSucc = PhiS m c t.val (Nat.le_of_lt t.isLt) from rfl]
  rw [leaves0_0, after0_0, leaves0_1, after0_1, leaves0_2, after0_2, leaves0_3, after0_3, leaves0_4, after0_4, leaves0_5, after0_5, leaves0_6, after0_6, leaves0_7, after0_7, leaves0_8, after0_8, leaves0_9, after0_9, leaves0_10, after0_10, leaves0_11, after0_11, leaves0_12, after0_12, leaves0_13, after0_13, leaves0_14, after0_14, leaves0_15, after0_15, leaves0_16, after0_16, leaves0_21, after0_21, leaves0_22, after0_22, leaves0_23, after0_23, leaves0_24, after0_24]
  rw [show (dats m 0 c).leavesExact 17 t = owns (c : Thread nD τ) (ms0_17 t) fullShare ((dats m 0 c).after 17 t) from by
    unfold Dat.leavesExact; rw [liveAt0_17_B t (isB0 t h) (isB1 t h) (isB2 t h)], after0_17]
  rw [show (dats m 0 c).leavesExact 18 t = owns (c : Thread nD τ) (ms0_18 t) fullShare ((dats m 0 c).after 18 t) from by
    unfold Dat.leavesExact; rw [liveAt0_18_B t (isB0 t h) (isB1 t h) (isB2 t h)], after0_18]
  rw [show (dats m 0 c).leavesExact 19 t = owns (c : Thread nD τ) (ms0_19 t) fullShare ((dats m 0 c).after 19 t) from by
    unfold Dat.leavesExact; rw [liveAt0_19_B t (isB0 t h) (isB1 t h) (isB2 t h)], after0_19]
  rw [show (dats m 0 c).leavesExact 20 t = owns (c : Thread nD τ) (ms0_20 t) fullShare ((dats m 0 c).after 20 t) from by
    unfold Dat.leavesExact; rw [liveAt0_20_B t (isB0 t h) (isB1 t h) (isB2 t h)], after0_20]
  rw [PhiS_pos m c _ _ (by omega), outsAt0_B m c t h]
  unfold PhiAt outB; dsimp only
  iintro ⟨⟨⟨HS0, HS1, HS2, HS3, HS4, HS5, HS6⟩, Hg, ⟨Hq0, Hq1, Hq2, Hq3⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  iapply ((RB m c t h (prev m c t)).2.2.2.2.2.2.2.2.2.2.2.2.2.2.2.2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [Hq0]; · iexact Hq0
  isplitl [Hq1]; · iexact Hq1
  isplitl [Hq2]; · iexact Hq2
  isplitl [Hq3]; · iexact Hq3
  isplitl [Hh0]; · iexact Hh0
  isplitl [Hh1]; · iexact Hh1
  isplitl [HW]; · iexact HW
  iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, HS0, HS1, HS2, HS3, ⟨%es4, HS4⟩, ⟨%es5, HS5⟩, ⟨%es6, HS6⟩, Hq0, Hq1, Hq2, Hq3, Hh0, Hh1, ⟨%W', HW'⟩⟩
  isplitl [HS0 HS1 HS2 HS3 HS4 HS5 HS6 Hg Hq0 Hq1 Hq2 Hq3 Hh0 Hh1]
  · isplitl [HS0 HS1 HS2 HS3 HS4 HS5 HS6]
    · isplitl [HS0]; · iexact HS0
      isplitl [HS1]; · iexact HS1
      isplitl [HS2]; · iexact HS2
      isplitl [HS3]; · iexact HS3
      isplitl [HS4]
      · unfold owns; iexists _; isplitr; swap; · iexact HS4
        ipureintro; exact View.read_writes_of_cover _ _ _ _ _ (scoverB_4 m c t h (prev m c t))
      isplitl [HS5]
      · unfold owns; iexists _; isplitr; swap; · iexact HS5
        ipureintro; exact View.read_writes_of_cover _ _ _ _ _ (scoverB_5 m c t h (prev m c t))
      unfold owns; iexists _; isplitr; swap; · iexact HS6
      ipureintro; exact View.read_writes_of_cover _ _ _ _ _ (scoverB_6 m c t h (prev m c t))
    isplitl [Hg]; · iexact Hg
    isplitl [Hq0 Hq1 Hq2 Hq3]
    · isplitl [Hq0]; · iexact Hq0
      isplitl [Hq1]; · iexact Hq1
      isplitl [Hq2]; · iexact Hq2
      iexact Hq3
    isplitl [Hh0]; · iexact Hh0
    iexact Hh1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · unfold owns; iexists _; isplitr; swap; · iexact H16
    ipureintro; exact View.read_writes_of_cover _ _ _ _ _ (coverB_16 m c t h (prev m c t))
  isplitl [H17]
  · unfold owns; iexists _; isplitr; swap; · iexact H17
    ipureintro; exact View.read_writes_of_cover _ _ _ _ _ (coverB_17 m c t h (prev m c t))
  isplitl [H18]
  · unfold owns; iexists _; isplitr; swap; · iexact H18
    ipureintro; exact View.read_writes_of_cover _ _ _ _ _ (coverB_18 m c t h (prev m c t))
  isplitl [H19]
  · unfold owns; iexists _; isplitr; swap; · iexact H19
    ipureintro; exact View.read_writes_of_cover _ _ _ _ _ (coverB_19 m c t h (prev m c t))
  isplitl [H20]
  · unfold owns; iexists _; isplitr; swap; · iexact H20
    ipureintro; exact View.read_writes_of_cover _ _ _ _ _ (coverB_20 m c t h (prev m c t))
  isplitl [H21]
  · unfold owns; iexists _; isplitr; swap; · iexact H21
    ipureintro; exact View.read_writes_of_cover _ _ _ _ _ (coverB_21 m c t h (prev m c t))
  isplitl [H22]
  · unfold owns; iexists _; isplitr; swap; · iexact H22
    ipureintro; exact View.read_writes_of_cover _ _ _ _ _ (coverB_22 m c t h (prev m c t))
  isplitl [H23]
  · unfold owns; iexists _; isplitr; swap; · iexact H23
    ipureintro; exact View.read_writes_of_cover _ _ _ _ _ (coverB_23 m c t h (prev m c t))
  unfold owns; iexists _; isplitr; swap; · iexact H24
  ipureintro; exact View.read_writes_of_cover _ _ _ _ _ (coverB_24 m c t h (prev m c t))

end Cert.MixIdeal.Hand

end
-- ==== Proof.Mix.SoundC.lean ====
/- The body of the prompt-mixing kernel at a later even point: it leaves what the proof data say. -/
module

public import proofs.«01_k».proof.Proof.Mix.Data

@[expose] public section

set_option maxRecDepth 16384

noncomputable section

namespace Cert.MixIdeal.Hand

open Cert.MixIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 38400000 in
/-- The body at a later even point. -/
theorem sound_C (c : Dev nD) (t : Fin cfg0.N) (h : t.val % 2 = 0) (hz : t.val ≠ 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = PhiAt m c (outsAt0 m c t.val t.isLt) from rfl]
  unfold Dat.owesAt Pipeline.owesWithin
  rw [show (dats m 0 c).owed t.castSucc = 0 from rfl, show (dats m 0 c).owed t.succ = 0 from rfl]
  rw [show (dats m 0 c).Φ t.castSucc = PhiS m c t.val (Nat.le_of_lt t.isLt) from rfl]
  rw [leaves0_0, after0_0, leaves0_1, after0_1, leaves0_2, after0_2, leaves0_3, after0_3, leaves0_4, after0_4, leaves0_5, after0_5, leaves0_6, after0_6, leaves0_7, after0_7, leaves0_8, after0_8, leaves0_9, after0_9, leaves0_10, after0_10, leaves0_11, after0_11, leaves0_12, after0_12, leaves0_13, after0_13, leaves0_14, after0_14, leaves0_15, after0_15, leaves0_16, after0_16, leaves0_21, after0_21, leaves0_22, after0_22, leaves0_23, after0_23, leaves0_24, after0_24]
  rw [Dat.leavesExact_idle (dats m 0 c) 17 t (idleAt0_17_C t (isC0 t h hz) (isC1 t h hz) (isC2 t h hz)) (noFlush0_17_C t (isC0 t h hz) (isC1 t h hz) (isC2 t h hz))]
  rw [Dat.leavesExact_idle (dats m 0 c) 18 t (idleAt0_18_C t (isC0 t h hz) (isC1 t h hz) (isC2 t h hz)) (noFlush0_18_C t (isC0 t h hz) (isC1 t h hz) (isC2 t h hz))]
  rw [Dat.leavesExact_idle (dats m 0 c) 19 t (idleAt0_19_C t (isC0 t h hz) (isC1 t h hz) (isC2 t h hz)) (noFlush0_19_C t (isC0 t h hz) (isC1 t h hz) (isC2 t h hz))]
  rw [Dat.leavesExact_idle (dats m 0 c) 20 t (idleAt0_20_C t (isC0 t h hz) (isC1 t h hz) (isC2 t h hz)) (noFlush0_20_C t (isC0 t h hz) (isC1 t h hz) (isC2 t h hz))]
  rw [PhiS_pos m c _ _ hz, outsAt0_C m c t h hz]
  unfold PhiAt outC; dsimp only
  iintro ⟨⟨⟨HS0, HS1, HS2, HS3, HS4, HS5, HS6⟩, Hg, ⟨Hq0, Hq1, Hq2, Hq3⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  iapply ((RC m c t h hz (prev m c t)).2.2.2.2.2.2.2.2.2.2.2.2.2.2.2.2 _ _ _ _ W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexact H17
  isplitl [H18]; · iexact H18
  isplitl [H19]; · iexact H19
  isplitl [H20]; · iexact H20
  isplitl [H21]; · iexists _; iexact H21
  isplitl [H22]; · iexists _; iexact H22
  isplitl [H23]; · iexists _; iexact H23
  isplitl [H24]; · iexists _; iexact H24
  isplitl [HS0]; · iexact HS0
  isplitl [HS1]; · iexact HS1
  isplitl [HS2]; · iexact HS2
  isplitl [HS3]; · iexact HS3
  isplitl [HS4]; · iexists _; iexact HS4
  isplitl [HS5]; · iexists _; iexact HS5
  isplitl [HS6]; · iexists _; iexact HS6
  isplitl [Hq0]; · iexact Hq0
  isplitl [Hq1]; · iexact Hq1
  isplitl [Hq2]; · iexact Hq2
  isplitl [Hq3]; · iexact Hq3
  isplitl [Hh0]; · iexact Hh0
  isplitl [Hh1]; · iexact Hh1
  isplitl [HW]; · iexact HW
  iintro ⟨H0, H1, H2, H3, H4, H5, H6, H7, H8, H9, H10, H11, H12, H13, H14, H15, ⟨%e16, H16⟩, H17, H18, H19, H20, ⟨%e21, H21⟩, ⟨%e22, H22⟩, ⟨%e23, H23⟩, ⟨%e24, H24⟩, HS0, HS1, HS2, HS3, ⟨%es4, HS4⟩, ⟨%es5, HS5⟩, ⟨%es6, HS6⟩, Hq0, Hq1, Hq2, Hq3, Hh0, Hh1, ⟨%W', HW'⟩⟩
  isplitl [HS0 HS1 HS2 HS3 HS4 HS5 HS6 Hg Hq0 Hq1 Hq2 Hq3 Hh0 Hh1]
  · isplitl [HS0 HS1 HS2 HS3 HS4 HS5 HS6]
    · isplitl [HS0]; · iexact HS0
      isplitl [HS1]; · iexact HS1
      isplitl [HS2]; · iexact HS2
      isplitl [HS3]; · iexact HS3
      isplitl [HS4]
      · unfold owns; iexists _; isplitr; swap; · iexact HS4
        ipureintro; exact View.read_writes_of_cover _ _ _ _ _ (scoverC_4 m c t h hz (prev m c t))
      isplitl [HS5]
      · unfold owns; iexists _; isplitr; swap; · iexact HS5
        ipureintro; exact View.read_writes_of_cover _ _ _ _ _ (scoverC_5 m c t h hz (prev m c t))
      unfold owns; iexists _; isplitr; swap; · iexact HS6
      ipureintro; exact View.read_writes_of_cover _ _ _ _ _ (scoverC_6 m c t h hz (prev m c t))
    isplitl [Hg]; · iexact Hg
    isplitl [Hq0 Hq1 Hq2 Hq3]
    · isplitl [Hq0]; · iexact Hq0
      isplitl [Hq1]; · iexact Hq1
      isplitl [Hq2]; · iexact Hq2
      iexact Hq3
    isplitl [Hh0]; · iexact Hh0
    iexact Hh1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · unfold owns; iexists _; isplitr; swap; · iexact H16
    ipureintro; exact View.read_writes_of_cover _ _ _ _ _ (coverC_16 m c t h hz (prev m c t))
  isplitl [H17]; · iexists _; iexact H17
  isplitl [H18]; · iexists _; iexact H18
  isplitl [H19]; · iexists _; iexact H19
  isplitl [H20]; · iexists _; iexact H20
  isplitl [H21]
  · unfold owns; iexists _; isplitr; swap; · iexact H21
    ipureintro; exact View.read_writes_of_cover _ _ _ _ _ (coverC_21 m c t h hz (prev m c t))
  isplitl [H22]
  · unfold owns; iexists _; isplitr; swap; · iexact H22
    ipureintro; exact View.read_writes_of_cover _ _ _ _ _ (coverC_22 m c t h hz (prev m c t))
  isplitl [H23]
  · unfold owns; iexists _; isplitr; swap; · iexact H23
    ipureintro; exact View.read_writes_of_cover _ _ _ _ _ (coverC_23 m c t h hz (prev m c t))
  unfold owns; iexists _; isplitr; swap; · iexact H24
  ipureintro; exact View.read_writes_of_cover _ _ _ _ _ (coverC_24 m c t h hz (prev m c t))

end Cert.MixIdeal.Hand

end
-- ==== Proof.Mix.Frame.lean ====
/- The prompt-mixing kernel ends, leaving its arguments as they were and its counters at zero. -/
module

public import proofs.«01_k».proof.Proof.Mix.SoundA
public import proofs.«01_k».proof.Proof.Mix.SoundB
public import proofs.«01_k».proof.Proof.Mix.SoundC
public import Idealize.ShloMosaic.Lib.Claim

@[expose] public section

set_option maxRecDepth 16384

noncomputable section

namespace Cert.MixIdeal.Hand

open Cert.MixIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The body at any point. -/
theorem sound_body (c : Dev nD) (t : Fin cfg0.N) :
    bodyPre m c t ⊢ wp frame (wpE (defs₀ (F := F)) Variants.none c none) Set.univ (bodyAt0 t) (fun _ => bodyPost m c t) := by
  rcases Nat.mod_two_eq_zero_or_one t.val with h | h
  · by_cases hz : t.val = 0
    · exact sound_A m c t hz
    · exact sound_C m c t h hz
  · exact sound_B m c t h

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- After the last point the scratch buffers' contents are forgotten. -/
theorem hout (c : Dev nD) : (dats m 0 c).Φ (Fin.last cfg0.N) ⊢ Pipeline.ΦD osem0 spec0 H0 (V m) c := by
  have hN : cfg0.N = 16 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), PhiD0_eq]
  unfold PhiAt
  iintro ⟨⟨HS0, HS1, HS2, HS3, HS4, HS5, HS6⟩, Hg, ⟨Hq0, Hq1, Hq2, Hq3⟩, ⟨Hh0, Hh1⟩⟩
  isplitl [HS0 HS1 HS2 HS3 HS4 HS5 HS6]
  · isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    iexists _; iexact HS6
  isplitl [Hg]; · iexact Hg
  isplitl [Hq0 Hq1 Hq2 Hq3]
  · isplitl [Hq0]; · iexact Hq0
    isplitl [Hq1]; · iexact Hq1
    isplitl [Hq2]; · iexact Hq2
    iexact Hq3
  isplitl [Hh0]; · iexact Hh0
  iexact Hh1

set_option backward.isDefEq.respectTransparency.types false in
/-- The launch: every run ends, with the arrays as the proof data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_dma_shared (Q' := _) cfgs (dats m) (0 : Fin 1) launch₀0 osem0 defs₀ Variants.none ownSemFacts0 H0 H0_sub m ρ main
    (hbody := fun c => (body_obligation m c).loose) (hq := fun _ _ _ => rfl)
    (howed := fun _ _ => rfl) (V := V m) (hmain := hmain m Variants.none) (hA := A_eq m)
    (hin := hin m) (hout := hout m)

set_option maxHeartbeats 16000000 in
/-- A run's end keeps the arguments. -/
theorem kept : ∀ r, (Pipeline.FramePost cfgs (dats m) 0 (V m)) r → ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  fun r h c => ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).1 13).trans (((dats m 0 c).arrAt_in 13 rfl _).trans ((A_eq m c 13).trans (V_main_arg5 m c))),
      ((h c).1 14).trans (((dats m 0 c).arrAt_in 14 rfl _).trans ((A_eq m c 14).trans (V_main_arg6 m c))),
      ((h c).1 6).trans (((dats m 0 c).arrAt_in 6 rfl _).trans ((A_eq m c 6).trans (V_main_arg7 m c))),
      ((h c).1 7).trans (((dats m 0 c).arrAt_in 7 rfl _).trans ((A_eq m c 7).trans (V_main_arg8 m c))),
      ((h c).1 8).trans (((dats m 0 c).arrAt_in 8 rfl _).trans ((A_eq m c 8).trans (V_main_arg9 m c))),
      ((h c).2 main_arg10 (Pipeline.mem_restRefs_of main_arg10 (by decide) (by decide))).trans (V_main_arg10 m c),
      ((h c).1 9).trans (((dats m 0 c).arrAt_in 9 rfl _).trans ((A_eq m c 9).trans (V_main_arg11 m c))),
      ((h c).1 10).trans (((dats m 0 c).arrAt_in 10 rfl _).trans ((A_eq m c 10).trans (V_main_arg12 m c))),
      ((h c).1 11).trans (((dats m 0 c).arrAt_in 11 rfl _).trans ((A_eq m c 11).trans (V_main_arg13 m c))),
      ((h c).1 12).trans (((dats m 0 c).arrAt_in 12 rfl _).trans ((A_eq m c 12).trans (V_main_arg14 m c))),
      ((h c).1 15).trans (((dats m 0 c).arrAt_in 15 rfl _).trans ((A_eq m c 15).trans (V_main_arg15 m c)))⟩

/-- The arguments end as they began, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  (θ_run defs _ _).mono (fun _ h => ⟨fun c => kept m _ h.1 c, h.2⟩) (run_main_quiescent m ρ)

end Cert.MixIdeal.Hand

end
-- ==== Proof.Mix.Spec.lean ====
/- One step of the matrix memory for a row of samples: its gates, the new memory and what the query reads. -/
module
public import proofs.«01_k».proof.Proof.Smix.Spec

@[expose] public section

set_option maxRecDepth 16384

noncomputable section

namespace Cert.MixSpec

open Idealize.ShloMosaic Cert.SmixSpec

/-- The new stabiliser, of the two gates and the stabiliser carried in. -/
def mG (i f m0 : EReal) : EReal := max (lf f + m0) i
/-- The weight of the new row. -/
def wG (i f m0 : EReal) : EReal := Ideal.exp (i - mG i f m0)
/-- The weight of the memory carried in. -/
def aG (i f m0 : EReal) : EReal := Ideal.exp (lf f + m0 - mG i f m0)

variable {B : ℕ} (Z : FVec Ideal (⟨2, ![B, 2568]⟩ : Shape) .f32) (M0 : FVec Ideal (⟨2, ![B, 4]⟩ : Shape) .f32) (BI BF : FVec Ideal (⟨2, ![1, 4]⟩ : Shape) .f32)

/-- The input gate. -/
def iR (b : Fin B) (h : Fin 4) : EReal := Z (ix2 b ⟨2048 + h.val, by omega⟩) + BI (ix2 0 h)
/-- The forget gate before its nonlinearity. -/
def fR (b : Fin B) (h : Fin 4) : EReal := Z (ix2 b ⟨2052 + h.val, by omega⟩) + BF (ix2 0 h)
/-- A sample's weight of the new row. -/
def wR (b : Fin B) (h : Fin 4) : EReal := wG (iR Z BI b h) (fR Z BF b h) (M0 (ix2 b h))
/-- A sample's weight of the memory carried in. -/
def aR (b : Fin B) (h : Fin 4) : EReal := aG (iR Z BI b h) (fR Z BF b h) (M0 (ix2 b h))
/-- An entry of the new memory, of the old entry `x`. -/
def cR (b : Fin B) (h : Fin 4) (d e : Fin 128) (x : EReal) : EReal :=
  aR Z M0 BI BF b h * x + Z (ix2 b ⟨(512 + h.val * 128) + d.val, by omega⟩) * Ideal.ofBits .f32 0x3DB504F3#32 * wR Z M0 BI BF b h * Z (ix2 b ⟨(1024 + h.val * 128) + e.val, by omega⟩)
/-- What the query reads of the old memory `C`. -/
def qR (C : Fin 128 → EReal) (b : Fin B) (h : Fin 4) : EReal := ∑ d : Fin 128, Z (ix2 b ⟨h.val * 128 + d.val, by omega⟩) * C d

end Cert.MixSpec
end
-- ==== Proof.Mix.Pay.lean ====
/- The sample gates of the prompt-mixing kernel, element by element. -/
module
public import proofs.«01_k».proof.Proof.Mix.Spec
public import proofs.«01_k».proof.Proof.Gen.MixIdeal.Skeleton
public import Idealize.ShloMosaic.Lib.Pointwise

@[expose] public section

set_option maxRecDepth 16384

noncomputable section

namespace Cert.MixIdeal.Hand

open Cert.MixIdeal Cert.MixIdeal.Gen Cert.SmixSpec Cert.MixSpec Idealize.ShloMosaic

variable (Z : Vec Ideal S8x2568 .f32) (M0 : Vec Ideal S8x4 .f32) (BI BF : Vec Ideal S1x4 .f32)

theorem col (h : Fin 4) (p : 2048 + (4 + h.val) < 2568) : (⟨2048 + (4 + h.val), p⟩ : Fin 2568) = ⟨2052 + h.val, by omega⟩ := Fin.ext (by show 2048 + (4 + h.val) = 2052 + h.val; omega)

theorem payW (b : Fin 8) (h : Fin 4) : k0_pay70 (F := Ideal) (k0_pay65 Z) BI BF M0 (ix2 b h) = wR Z M0 BI BF b h := by
  pointwise [k0_pay65, k0_pay66, k0_pay67, k0_pay68, k0_pay69, k0_pay70]
  simp only [ne_eq, not_true_eq_false, if_false, col]
  rfl

theorem payA (b : Fin 8) (h : Fin 4) : k0_pay71 (F := Ideal) (k0_pay65 Z) BI BF M0 (ix2 b h) = aR Z M0 BI BF b h := by
  pointwise [k0_pay65, k0_pay66, k0_pay67, k0_pay68, k0_pay69, k0_pay71]
  simp only [ne_eq, not_true_eq_false, if_false, col]
  rfl

end Cert.MixIdeal.Hand
end
-- ==== Proof.Mix.Val.lean ====
/- What the prompt-mixing kernel leaves of its sample part and its cast weights, element by element. -/
module
public import proofs.«01_k».proof.Proof.Mix.Data
public import proofs.«01_k».proof.Proof.Mix.Pay
public import Idealize.ShloMosaic.Lib.Pipeline.ValueKit
public import Idealize.ShloMosaic.Lib.Pipeline.ReadBack

@[expose] public section

set_option maxRecDepth 16384

noncomputable section

namespace Cert.MixIdeal.Hand

open Cert.MixIdeal Cert.MixIdeal.Gen Cert.SmixSpec Cert.MixSpec Idealize.ShloMosaic Idealize.ShloMosaic.TcCoe Idealize.SL.Sem

variable (m : (ℓ : Loc nD τ sig) → Buf (Elt Ideal) ℓ) (c : Dev nD)

theorem parity (t : Fin cfg0.N) : t.val = 0 ∨ t.val % 2 = 1 ∨ (t.val % 2 = 0 ∧ t.val ≠ 0) := by omega

theorem lt8 (r : Fin 4096) : r.val / 512 < 8 := by omega
theorem lt4 (r : Fin 4096) : r.val / 128 % 4 < 4 := by omega
theorem ltK (r : Fin 4096) : (512 + r.val / 128 % 4 * 128) + r.val % 128 < 2568 := by omega
theorem ltV (r : Fin 4096) (s : Fin 128) : (1024 + r.val / 128 % 4 * 128) + s.val < 2568 := by omega

/-- A block of the new memory, of the blocks it is made from. -/
def cBlk (Z : FVec Ideal S8x2568 .f32) (M0 : FVec Ideal S8x4 .f32) (BI BF : FVec Ideal S1x4 .f32) (C0 : FVec Ideal S4096x128 .f32) : FVec Ideal S4096x128 .f32 := fun i =>
  cR Z M0 BI BF ⟨(i 0).val / 512, lt8 (i 0)⟩ ⟨(i 0).val / 128 % 4, lt4 (i 0)⟩ ⟨(i 0).val % 128, Nat.mod_lt _ (by decide)⟩ (i 1) (C0 i)

theorem cBlk_eq (Z : FVec Ideal S8x2568 .f32) (M0 : FVec Ideal S8x4 .f32) (BI BF : FVec Ideal S1x4 .f32) (C0 : FVec Ideal S4096x128 .f32)
    (i0 r : Fin 4096) (i1 s : Fin 128) (b : Fin 8) (h : Fin 4) (p q : Fin 2568) (e0 : r.val = i0.val) (e1 : s.val = i1.val) (hb : b.val = i0.val / 512)
    (hh : h.val = i0.val / 128 % 4) (hp : p.val = (512 + i0.val / 128 % 4 * 128) + i0.val % 128) (hq : q.val = (1024 + i0.val / 128 % 4 * 128) + i1.val) :
    @Eq EReal (aR Z M0 BI BF b h * C0 (ix2 r s) + Z (ix2 b p) * Ideal.ofBits FTy.f32 1035273459#32 * wR Z M0 BI BF b h * Z (ix2 b q)) (cBlk Z M0 BI BF C0 (ix2 i0 i1)) := by
  obtain rfl : r = i0 := Fin.ext e0
  obtain rfl : s = i1 := Fin.ext e1
  obtain rfl : b = ⟨r.val / 512, lt8 r⟩ := Fin.ext hb
  obtain rfl : h = ⟨r.val / 128 % 4, lt4 r⟩ := Fin.ext hh
  obtain rfl : p = ⟨_, ltK r⟩ := Fin.ext hp
  obtain rfl : q = ⟨_, ltV r s⟩ := Fin.ext hq
  rfl

/-- A block of what the queries read. -/
def qBlk (Z : FVec Ideal S8x2568 .f32) (C0 : FVec Ideal S4096x128 .f32) : FVec Ideal S8x512 .f32 := fun i =>
  qR Z (fun d => C0 (ix2 ⟨(i 0).val * 512 + (i 1).val / 128 * 128 + d.val, by have h0 : (i 0).val < 8 := (i 0).isLt; have h1 : (i 1).val < 512 := (i 1).isLt; omega⟩ ⟨(i 1).val % 128, Nat.mod_lt _ (by decide)⟩)) (i 0) ⟨(i 1).val / 128, by have h1 : (i 1).val < 512 := (i 1).isLt; omega⟩

theorem qBlk_eq (Z : FVec Ideal S8x2568 .f32) (C0 : FVec Ideal S4096x128 .f32) (i0 b : Fin 8) (i1 : Fin 512) (p : Fin 128 → Fin 2568) (r : Fin 128 → Fin 4096) (s : Fin 128)
    (hb : b.val = i0.val) (hp : ∀ d, (p d).val = i1.val / 128 * 128 + d.val) (hr : ∀ d, (r d).val = i0.val * 512 + i1.val / 128 * 128 + d.val) (hs : s.val = i1.val % 128) :
    @Eq EReal (∑ d : Fin 128, (Z (ix2 b (p d)) : EReal) * C0 (ix2 (r d) s)) (qBlk Z C0 (ix2 i0 i1)) := by
  obtain rfl : b = i0 := Fin.ext hb
  unfold qBlk qR
  refine Finset.sum_congr rfl fun d _ => congrArg₂ (fun a b : EReal => a * b) ?_ ?_
  · exact congrArg Z (congrArg (ix2 b) (Fin.ext (hp d)))
  · exact congrArg C0 (congrArg₂ ix2 (Fin.ext (hr d)) (Fin.ext hs))

set_option maxHeartbeats 40000000 in
theorem out23 (t : Fin cfg0.N) : (outsAt0 m c t.val t.isLt).2.2.2.2.2.2.2.1 = cBlk (iblk m c 11 t) (iblk m c 12 t) (iblk m c 13 t) (iblk m c 14 t) (iblk m c 15 t) := by
  funext i
  idx_vars i
  rcases parity t with h | h | ⟨h, hz⟩
  all_goals first
    | rw [outsAt0_A m c t h]; unfold outA RA
    | rw [outsAt0_B m c t h]; unfold outB RB
    | rw [outsAt0_C m c t h hz]; unfold outC RC
  all_goals frame_out
  all_goals canon_tiles x hx
  all_goals
    idx_vars x
    pointwise [k0_pay82,k0_pay83,k0_pay84,k0_pay85,k0_pay86,k0_pay87,k0_pay88,k0_pay89,k0_pay90,k0_pay91,k0_pay92,k0_pay93,k0_pay94,k0_pay95,k0_pay96,k0_pay97,k0_pay98,k0_pay99,k0_pay100,k0_pay114,k0_pay115,k0_pay116,k0_pay117,k0_pay118,k0_pay119,k0_pay120,k0_pay121,k0_pay122,k0_pay123,k0_pay124,k0_pay125,k0_pay126,k0_pay127,k0_pay128,k0_pay129,k0_pay130,k0_pay131,k0_pay132,k0_pay133,k0_pay134,k0_pay148,k0_pay149,k0_pay150,k0_pay151,k0_pay152,k0_pay153,k0_pay154,k0_pay155,k0_pay156,k0_pay157,k0_pay158,k0_pay159,k0_pay160,k0_pay161,k0_pay162,k0_pay163,k0_pay164,k0_pay165,k0_pay166,k0_pay167,k0_pay168,k0_pay169,k0_pay178,k0_pay179,k0_pay180,k0_pay181,k0_pay182,k0_pay183,k0_pay184,k0_pay185,k0_pay186,k0_pay187,k0_pay188,k0_pay189,k0_pay190,k0_pay191,k0_pay192,k0_pay193,k0_pay194,k0_pay195,k0_pay196,k0_pay197,k0_pay198,k0_pay199]
    rw [payA, payW]
    refine cBlk_eq _ _ _ _ _ _ _ _ _ _ _ _ _ ?_ ?_ ?_ ?_ ?_ ?_ <;> first | omega | (simp; omega)

set_option maxHeartbeats 40000000 in
theorem out24 (t : Fin cfg0.N) : (outsAt0 m c t.val t.isLt).2.2.2.2.2.2.2.2.1 = qBlk (iblk m c 11 t) (iblk m c 15 t) := by
  funext i
  idx_vars i
  rcases parity t with h | h | ⟨h, hz⟩
  all_goals first
    | rw [outsAt0_A m c t h]; unfold outA RA
    | rw [outsAt0_B m c t h]; unfold outB RB
    | rw [outsAt0_C m c t h hz]; unfold outC RC
  all_goals frame_out
  all_goals canon_tiles x hx
  all_goals
    idx_vars x
    pointwise [k0_pay82,k0_pay83,k0_pay84,k0_pay85,k0_pay86,k0_pay87,k0_pay88,k0_pay89,k0_pay90,k0_pay91,k0_pay92,k0_pay93,k0_pay94,k0_pay95,k0_pay96,k0_pay97,k0_pay98,k0_pay99,k0_pay100,k0_pay114,k0_pay115,k0_pay116,k0_pay117,k0_pay118,k0_pay119,k0_pay120,k0_pay121,k0_pay122,k0_pay123,k0_pay124,k0_pay125,k0_pay126,k0_pay127,k0_pay128,k0_pay129,k0_pay130,k0_pay131,k0_pay132,k0_pay133,k0_pay134,k0_pay148,k0_pay149,k0_pay150,k0_pay151,k0_pay152,k0_pay153,k0_pay154,k0_pay155,k0_pay156,k0_pay157,k0_pay158,k0_pay159,k0_pay160,k0_pay161,k0_pay162,k0_pay163,k0_pay164,k0_pay165,k0_pay166,k0_pay167,k0_pay168,k0_pay169,k0_pay178,k0_pay179,k0_pay180,k0_pay181,k0_pay182,k0_pay183,k0_pay184,k0_pay185,k0_pay186,k0_pay187,k0_pay188,k0_pay189,k0_pay190,k0_pay191,k0_pay192,k0_pay193,k0_pay194,k0_pay195,k0_pay196,k0_pay197,k0_pay198,k0_pay199]
    split_ifs
    all_goals refine qBlk_eq _ _ _ _ _ _ _ _ ?_ (fun d => ?_) (fun d => ?_) ?_ <;> first | omega | (simp; omega)

theorem out21 (t : Fin cfg0.N) : (outsAt0 m c t.val t.isLt).2.2.2.2.2.1 = fun i => (iblk m c 9 t : FVec Ideal S1x64x4096 .f32) (ix3 0 (i 0) (i 1)) := by
  funext i
  idx_vars i
  rcases parity t with h | h | ⟨h, hz⟩
  all_goals first
    | rw [outsAt0_A m c t h]; unfold outA RA
    | rw [outsAt0_B m c t h]; unfold outB RB
    | rw [outsAt0_C m c t h hz]; unfold outC RC
  all_goals frame_out
  all_goals pointwise [k0_pay46]
  all_goals rfl

theorem out22 (t : Fin cfg0.N) : (outsAt0 m c t.val t.isLt).2.2.2.2.2.2.1 = fun i => (iblk m c 10 t : FVec Ideal S1x256x1024 .f32) (ix3 0 (i 0) (i 1)) := by
  funext i
  idx_vars i
  rcases parity t with h | h | ⟨h, hz⟩
  all_goals first
    | rw [outsAt0_A m c t h]; unfold outA RA
    | rw [outsAt0_B m c t h]; unfold outB RB
    | rw [outsAt0_C m c t h hz]; unfold outC RC
  all_goals frame_out
  all_goals pointwise [k0_pay47]
  all_goals rfl

end Cert.MixIdeal.Hand
end
-- ==== Proof.Mix.Fin.lean ====
/- The arrays the prompt-mixing kernel ends with: its cast weights and its sample part. -/
module
public import proofs.«01_k».proof.Proof.Mix.Val

@[expose] public section

set_option maxRecDepth 16384

noncomputable section

namespace Cert.MixIdeal.Hand

open Cert.MixIdeal Cert.MixIdeal.Gen Cert.SmixSpec Cert.MixSpec Idealize.ShloMosaic Idealize.ShloMosaic.TcCoe Idealize.SL.Sem

variable (m : (ℓ : Loc nD τ sig) → Buf (Elt Ideal) ℓ) (c : Dev nD)

theorem idx : ∀ t : Fin cfg0.N, win0_9.index t = ![0, t.val, 0] ∧ win0_10.index t = ![0, t.val, 0] ∧ win0_11.index t = ![t.val, 0] ∧ win0_12.index t = ![t.val, 0]
    ∧ win0_13.index t = ![0, 0] ∧ win0_14.index t = ![0, 0] ∧ win0_15.index t = ![t.val, 0] ∧ win0_20.index t = ![t.val / 2, 0, 0] ∧ win0_21.index t = ![t.val, 0] ∧ win0_22.index t = ![t.val, 0]
    ∧ win0_23.index t = ![t.val, 0] ∧ win0_24.index t = ![t.val, 0] := by decide +kernel

theorem blk9 (t : Fin cfg0.N) (i : Fin 64) (j : Fin 4096) (p) : @Eq EReal ((iblk m c 9 t : FVec Ideal S1x64x4096 .f32) (ix3 0 i j)) ((m ((c.tc : Thread nD τ).loc main_arg11) : FVec Ideal S1x1024x4096 .f32) (ix3 0 ⟨t.val * 64 + i.val, p⟩ j)) := by
  blk_ext [iblk, V, idx t]

theorem blk10 (t : Fin cfg0.N) (i : Fin 256) (j : Fin 1024) (p) : @Eq EReal ((iblk m c 10 t : FVec Ideal S1x256x1024 .f32) (ix3 0 i j)) ((m ((c.tc : Thread nD τ).loc main_arg12) : FVec Ideal S1x4096x1024 .f32) (ix3 0 ⟨t.val * 256 + i.val, p⟩ j)) := by
  blk_ext [iblk, V, idx t]

theorem blk11 (t : Fin cfg0.N) (i : Fin 8) (j : Fin 2568) (p) : @Eq EReal ((iblk m c 11 t : FVec Ideal S8x2568 .f32) (ix2 i j)) ((m ((c.tc : Thread nD τ).loc main_arg13) : FVec Ideal S128x2568 .f32) (ix2 ⟨t.val * 8 + i.val, p⟩ j)) := by
  blk_ext [iblk, V, idx t]

theorem blk12 (t : Fin cfg0.N) (i : Fin 8) (j : Fin 4) (p) : @Eq EReal ((iblk m c 12 t : FVec Ideal S8x4 .f32) (ix2 i j)) ((m ((c.tc : Thread nD τ).loc main_arg14) : FVec Ideal S128x4 .f32) (ix2 ⟨t.val * 8 + i.val, p⟩ j)) := by
  blk_ext [iblk, V, idx t]

theorem blk13 (t : Fin cfg0.N) : iblk m c 13 t = m ((c.tc : Thread nD τ).loc main_arg5) := by
  funext i
  idx_vars i
  blk_ext [iblk, V, idx t]

theorem blk14 (t : Fin cfg0.N) : iblk m c 14 t = m ((c.tc : Thread nD τ).loc main_arg6) := by
  funext i
  idx_vars i
  blk_ext [iblk, V, idx t]

theorem blk15 (t : Fin cfg0.N) (i : Fin 4096) (j : Fin 128) (p) : @Eq EReal ((iblk m c 15 t : FVec Ideal S4096x128 .f32) (ix2 i j)) ((m ((c.tc : Thread nD τ).loc main_arg15) : FVec Ideal S65536x128 .f32) (ix2 ⟨t.val * 4096 + i.val, p⟩ j)) := by
  blk_ext [iblk, V, idx t]

/-- The first cast weight. -/
def WU : FVec Ideal S1024x4096 .bf16 := fun i => (m ((c.tc : Thread nD τ).loc main_arg11) : FVec Ideal S1x1024x4096 .f32) (ix3 0 (i 0) (i 1))
/-- The second cast weight. -/
def WD : FVec Ideal S4096x1024 .bf16 := fun i => (m ((c.tc : Thread nD τ).loc main_arg12) : FVec Ideal S1x4096x1024 .f32) (ix3 0 (i 0) (i 1))
/-- The new memories. -/
def C1 : FVec Ideal S65536x128 .f32 := fun i =>
  cR (m ((c.tc : Thread nD τ).loc main_arg13)) (m ((c.tc : Thread nD τ).loc main_arg14)) (m ((c.tc : Thread nD τ).loc main_arg5)) (m ((c.tc : Thread nD τ).loc main_arg6))
    (⟨(i 0).val / 512, by have h0 : (i 0).val < 65536 := (i 0).isLt; omega⟩ : Fin 128) ⟨(i 0).val / 128 % 4, Nat.mod_lt _ (by decide)⟩ ⟨(i 0).val % 128, Nat.mod_lt _ (by decide)⟩ (i 1) ((m ((c.tc : Thread nD τ).loc main_arg15) : FVec Ideal S65536x128 .f32) i)
/-- What the queries read. -/
def Q1 : FVec Ideal S128x512 .f32 := fun i =>
  qR (m ((c.tc : Thread nD τ).loc main_arg13)) (fun d => (m ((c.tc : Thread nD τ).loc main_arg15) : FVec Ideal S65536x128 .f32) (ix2 ⟨(i 0).val * 512 + (i 1).val / 128 * 128 + d.val, by have h0 : (i 0).val < 128 := (i 0).isLt; have h1 : (i 1).val < 512 := (i 1).isLt; omega⟩ ⟨(i 1).val % 128, Nat.mod_lt _ (by decide)⟩))
    (i 0 : Fin 128) ⟨(i 1).val / 128, by have h1 : (i 1).val < 512 := (i 1).isLt; omega⟩

theorem final21 : (dats m 0 c).arrAt 21 cfg0.N = WU m c := by
  refine (dats m 0 c).arrAt_eq_of_covers 21 _ (by decide +kernel) fun t hf y => ?_
  have ht := tlt t
  idx_vars y
  blk_simp [idx t]
  rw [after0_21, out21]
  have e : (win0_21.blk t).view.emb (ix2 y0 y1) = ix2 ⟨t.val * 64 + y0.val, by omega⟩ y1 := by
    blk_ext [idx t]
  rw [e]
  exact blk9 m c t _ _ _

theorem final22 : (dats m 0 c).arrAt 22 cfg0.N = WD m c := by
  refine (dats m 0 c).arrAt_eq_of_covers 22 _ (by decide +kernel) fun t hf y => ?_
  have ht := tlt t
  idx_vars y
  blk_simp [idx t]
  rw [after0_22, out22]
  have e : (win0_22.blk t).view.emb (ix2 y0 y1) = ix2 ⟨t.val * 256 + y0.val, by omega⟩ y1 := by
    blk_ext [idx t]
  rw [e]
  exact blk10 m c t _ _ _

/-- Rows of a block against rows of the array, in the gates. -/
theorem gates_blk (t : Fin cfg0.N) (b : Fin 8) (b' : Fin 128) (hb : b'.val = t.val * 8 + b.val) (h : Fin 4) :
    wR (iblk m c 11 t) (iblk m c 12 t) (iblk m c 13 t) (iblk m c 14 t) b h = wR (m ((c.tc : Thread nD τ).loc main_arg13)) (m ((c.tc : Thread nD τ).loc main_arg14)) (m ((c.tc : Thread nD τ).loc main_arg5)) (m ((c.tc : Thread nD τ).loc main_arg6)) b' h
    ∧ aR (iblk m c 11 t) (iblk m c 12 t) (iblk m c 13 t) (iblk m c 14 t) b h = aR (m ((c.tc : Thread nD τ).loc main_arg13)) (m ((c.tc : Thread nD τ).loc main_arg14)) (m ((c.tc : Thread nD τ).loc main_arg5)) (m ((c.tc : Thread nD τ).loc main_arg6)) b' h := by
  have p : t.val * 8 + b.val < 128 := hb ▸ b'.isLt
  obtain rfl : b' = ⟨_, p⟩ := Fin.ext hb
  have ei : iR (iblk m c 11 t) (iblk m c 13 t) b h = iR (m ((c.tc : Thread nD τ).loc main_arg13)) (m ((c.tc : Thread nD τ).loc main_arg5)) ⟨t.val * 8 + b.val, p⟩ h := by
    unfold iR; rw [blk13]; exact congrArg₂ (fun a b : EReal => a + b) (blk11 m c t _ _ p) rfl
  have ef : fR (iblk m c 11 t) (iblk m c 14 t) b h = fR (m ((c.tc : Thread nD τ).loc main_arg13)) (m ((c.tc : Thread nD τ).loc main_arg6)) ⟨t.val * 8 + b.val, p⟩ h := by
    unfold fR; rw [blk14]; exact congrArg₂ (fun a b : EReal => a + b) (blk11 m c t _ _ p) rfl
  have em := blk12 m c t b h p
  unfold wR aR
  rw [ei, ef]
  exact ⟨congrArg (wG _ _) em, congrArg (aG _ _) em⟩

theorem cR_blk (t : Fin cfg0.N) (b : Fin 8) (b' : Fin 128) (hb : b'.val = t.val * 8 + b.val) (h h' : Fin 4) (hh : h'.val = h.val) (d d' e : Fin 128) (hd : d'.val = d.val) (x x' : EReal) (hx : x = x') :
    cR (iblk m c 11 t) (iblk m c 12 t) (iblk m c 13 t) (iblk m c 14 t) b h d e x = cR (m ((c.tc : Thread nD τ).loc main_arg13)) (m ((c.tc : Thread nD τ).loc main_arg14)) (m ((c.tc : Thread nD τ).loc main_arg5)) (m ((c.tc : Thread nD τ).loc main_arg6)) b' h' d' e x' := by
  obtain rfl : h' = h := Fin.ext hh
  obtain rfl : d' = d := Fin.ext hd
  obtain rfl := hx
  obtain ⟨gw, ga⟩ := gates_blk m c t b b' hb h'
  have p : t.val * 8 + b.val < 128 := hb ▸ b'.isLt
  obtain rfl : b' = ⟨_, p⟩ := Fin.ext hb
  unfold cR
  rw [gw, ga]
  exact congrArg₂ (fun a b : EReal => a + b) rfl (congrArg₂ (fun a b : EReal => a * b)
    (congrArg (fun a : EReal => a * _) (congrArg (fun a : EReal => a * _) (blk11 m c t b _ p))) (blk11 m c t b _ p))

theorem final23 : (dats m 0 c).arrAt 23 cfg0.N = C1 m c := by
  refine (dats m 0 c).arrAt_eq_of_covers 23 _ (by decide +kernel) fun t hf y => ?_
  have ht := tlt t
  idx_vars y
  blk_simp [idx t]
  rw [after0_23, out23]
  have e : (win0_23.blk t).view.emb (ix2 y0 y1) = ix2 ⟨t.val * 4096 + y0.val, by omega⟩ y1 := by
    blk_ext [idx t]
  rw [e]
  refine cR_blk m c t _ _ (?_ : (t.val * 4096 + y0.val) / 512 = t.val * 8 + y0.val / 512) _ _ (?_ : (t.val * 4096 + y0.val) / 128 % 4 = y0.val / 128 % 4) _ _ _
    (?_ : (t.val * 4096 + y0.val) % 128 = y0.val % 128) _ _ (blk15 m c t _ _ _)
  all_goals omega

theorem q_blk (t : Fin cfg0.N) (y0 : Fin 8) (y1 : Fin 512) (p : t.val * 8 + y0.val < 128) : qBlk (iblk m c 11 t) (iblk m c 15 t) (ix2 y0 y1) = Q1 m c (ix2 ⟨t.val * 8 + y0.val, p⟩ y1) := by
  have ht := tlt t
  unfold qBlk Q1 qR
  refine @Finset.sum_congr (Fin 128) EReal _ _ _ _ _ rfl fun d _ => congrArg₂ (fun a b : EReal => a * b) (blk11 m c t y0 _ p) ?_
  have l : t.val * 4096 + (y0.val * 512 + y1.val / 128 * 128 + d.val) < 65536 := by omega
  refine (blk15 m c t _ _ l).trans (congrArg (fun r => (m ((c.tc : Thread nD τ).loc main_arg15) : FVec Ideal S65536x128 .f32) (ix2 r _)) (Fin.ext ?_))
  show t.val * 4096 + (y0.val * 512 + y1.val / 128 * 128 + d.val) = (t.val * 8 + y0.val) * 512 + y1.val / 128 * 128 + d.val
  omega

theorem final24 : (dats m 0 c).arrAt 24 cfg0.N = Q1 m c := by
  refine (dats m 0 c).arrAt_eq_of_covers 24 _ (by decide +kernel) fun t hf y => ?_
  have ht := tlt t
  idx_vars y
  blk_simp [idx t]
  rw [after0_24, out24]
  have e : (win0_24.blk t).view.emb (ix2 y0 y1) = ix2 ⟨t.val * 8 + y0.val, by omega⟩ y1 := by
    blk_ext [idx t]
  rw [e]
  exact q_blk m c t y0 y1 _

end Cert.MixIdeal.Hand
end
-- ==== Proof.Mix.PoolSpec.lean ====
/- A row of the prompt, normalised and modulated, and the rows the pooling keeps of it. -/
module
public import proofs.«01_k».proof.Proof.Smix.Spec

@[expose] public section

set_option maxRecDepth 16384

noncomputable section

namespace Cert.MixSpec

open Idealize.ShloMosaic

variable (X : FVec Ideal (⟨3, ![8, 2048, 1024]⟩ : Shape) .f32) (MD : FVec Ideal (⟨2, ![8, 6144]⟩ : Shape) .f32) (G : FVec Ideal (⟨2, ![1, 1024]⟩ : Shape) .f32) (W : FVec Ideal (⟨2, ![2568, 1024]⟩ : Shape) .f32)

/-- An entry of a row `x`, normalised, scaled and modulated. -/
def hE (x : Fin 1024 → EReal) (g sc sh : EReal) (j : Fin 1024) : EReal :=
  x j * Ideal.rsqrt (Ideal.div (∑ k, x k * x k) (Ideal.ofBits .f32 0x44800000#32) + Ideal.ofBits .f32 0x358637BD#32) * g * (1 + sc) + sh
/-- A row of the prompt, normalised and modulated. -/
def hR (b : Fin 8) (s : Fin 2048) (j : Fin 1024) : EReal :=
  hE (fun k => X (ix3 b s k)) (G (ix2 0 j)) (MD (ix2 b ⟨1024 + j.val, by omega⟩)) (MD (ix2 b ⟨j.val, by omega⟩)) j
/-- A pooling row: one of the last fifteen rows, projected. -/
def pR (b : Fin 8) (s : Fin 15) (k : Fin 512) : EReal :=
  ∑ j : Fin 1024, hR X MD G b ⟨2033 + s.val, by omega⟩ j * W (ix2 ⟨2056 + k.val, by omega⟩ j)

end Cert.MixSpec
end
-- ==== Proof.Mix.Pool.lean ====
/- The pooling rows the prompt-mixing kernel leaves. -/
module
public import proofs.«01_k».proof.Proof.Mix.Fin
public import proofs.«01_k».proof.Proof.Mix.PoolSpec
public import proofs.«01_k».proof.Proof.Mix.Pay
public import Idealize.ShloMosaic.Lib.Pipeline.ValueKit
public import Idealize.ShloMosaic.Lib.Pipeline.ReadBack

@[expose] public section

set_option maxRecDepth 16384

noncomputable section

namespace Cert.MixIdeal.Hand

open Cert.MixIdeal Cert.MixIdeal.Gen Cert.SmixSpec Cert.MixSpec Idealize.ShloMosaic Idealize.ShloMosaic.TcCoe Idealize.SL.Sem

variable (m : (ℓ : Loc nD τ sig) → Buf (Elt Ideal) ℓ) (c : Dev nD)

theorem ltW (x : Fin 2048) : (if x.val < 512 then x.val else if x.val < 1536 then x.val + 512 else x.val + 520) < 2568 := by split_ifs <;> omega

/-- The input weights as the scratch keeps them: turned, without the keys' and the gates' rows. -/
def WT : FVec Ideal S1024x2048 .bf16 := fun i => (m ((c.tc : Thread nD τ).loc main_arg4) : FVec Ideal S2568x1024 .f32) (ix2 ⟨if (i 1).val < 512 then (i 1).val else if (i 1).val < 1536 then (i 1).val + 512 else (i 1).val + 520, ltW (i 1)⟩ (i 0))

/-- A block of the input weights' rows, turned into columns of the scratch. -/
theorem rd4 (o : ℕ) (inb : ∀ a, (![o, 0] : Fin 2 → ℕ) a + (![256, 1024] : Fin 2 → ℕ) a ≤ S2568x1024.size a) (i : Fin 256) (j x0 : Fin 1024) (x1 : Fin 2048) (h0 : x0.val = j.val)
    (h1 : (if x1.val < 512 then x1.val else if x1.val < 1536 then x1.val + 512 else x1.val + 520) = o + i.val) :
    @Eq EReal (View.read (Elt Ideal) ((View.whole main_arg4).slice (Rect.unit ![o, 0] ![256, 1024] inb)) (V m c main_arg4) (ix2 i j)) (WT m c (ix2 x0 x1)) := by
  refine congrArg (m ((c.tc : Thread nD τ).loc main_arg4) : FVec Ideal S2568x1024 .f32) ?_
  funext a
  match a with
  | 0 => exact Fin.ext ((ValueKit.view_emb_slice_whole_unit_val _ _ _ _ _ _).trans h1.symm)
  | 1 => exact Fin.ext ((ValueKit.view_emb_slice_whole_unit_val _ _ _ _ _ _).trans ((Nat.zero_add _).trans h0.symm))

theorem scr0A (t : Fin cfg0.N) (h : t.val = 0) : (outsAt0 m c t.val t.isLt).2.2.2.2.2.2.2.2.2.1 = WT m c := by
  funext x
  rw [outsAt0_A m c t h]; unfold outA RA
  frame_out
  simp (disch := decide) only [↓View.readCov_skip, ↓View.readCov_cons_toLoadRect]
  idx_vars x
  canon_tiles x hx
  all_goals
    idx_vars x
    pointwise [k0_pay13, k0_pay14, k0_pay15, k0_pay19, k0_pay20, k0_pay21, k0_pay22, k0_pay23, k0_pay24, k0_pay25]
    refine rd4 m c _ _ _ _ _ _ hx0 ?_
    split_ifs <;> omega

theorem scr0B (t : Fin cfg0.N) (h : t.val % 2 = 1) : (outsAt0 m c t.val t.isLt).2.2.2.2.2.2.2.2.2.1 = (prev m c t).2.2.2.2.2.2.2.2.2.1 := by
  funext x
  rw [outsAt0_B m c t h]; unfold outB RB
  frame_out

theorem scr0C (t : Fin cfg0.N) (h : t.val % 2 = 0) (hz : t.val ≠ 0) : (outsAt0 m c t.val t.isLt).2.2.2.2.2.2.2.2.2.1 = (prev m c t).2.2.2.2.2.2.2.2.2.1 := by
  funext x
  rw [outsAt0_C m c t h hz]; unfold outC RC
  frame_out

/-- The scratch keeps them at every point. -/
theorem scr0 : ∀ (n : ℕ) (hn : n < cfg0.N), (outsAt0 m c n hn).2.2.2.2.2.2.2.2.2.1 = WT m c
  | 0, hn => scr0A m c ⟨0, hn⟩ rfl
  | n + 1, hn => by
    rcases parity ⟨n + 1, hn⟩ with h | h | ⟨h, hz⟩
    · exact absurd h (Nat.succ_ne_zero n)
    · exact (scr0B m c ⟨n + 1, hn⟩ h).trans (scr0 n (Nat.lt_of_succ_lt hn))
    · exact (scr0C m c ⟨n + 1, hn⟩ h hz).trans (scr0 n (Nat.lt_of_succ_lt hn))

theorem pay170 (sh sc g : FVec Ideal S1x1024 .f32) (X : FVec Ideal S1x256x1024 .f32) (r : Fin 256) (j : Fin 1024) : @Eq EReal (k0_pay170 sh sc g X (ix2 r j)) (hE (fun k => X (ix3 0 r k)) (g (ix2 0 j)) (sc (ix2 0 j)) (sh (ix2 0 j)) j) := by
  pointwise [k0_pay170]
  rfl

theorem pay176 (h : FVec Ideal S256x1024 .bf16) (W : FVec Ideal S1024x2048 .bf16) (r : Fin 256) (j : Fin 2048) : @Eq EReal (k0_pay176 h W (ix2 r j)) (∑ k : Fin 1024, h (ix2 r k) * W (ix2 k j)) := by
  pointwise [k0_pay176]

theorem pay12 (z : FVec Ideal S256x2048 .f32) (Y : FVec Ideal S272x512 .f32) (s : Fin 15) (k : Fin 512) : @Eq EReal (k0_pay12 (k0_pay467 z Y) (ix3 0 s k)) (z (ix2 ⟨241 + s.val, by omega⟩ ⟨1536 + k.val, by omega⟩)) := by
  pointwise [k0_pay12, k0_pay467, k0_pay466]
  rw [dif_neg (by omega)]
  exact congrArg (fun r => z (ix2 r _)) (Fin.ext (by show 257 + s.val - 16 = 241 + s.val; omega))

theorem idx' : ∀ t : Fin cfg0.N, win0_0.index t = ![t.val / 2, t.val % 2, 0] ∧ win0_1.index t = ![0, 0] ∧ win0_2.index t = ![0, 0] ∧ k0_off1 (grid0.coords t) = ![t.val / 2, 0] := by decide +kernel

theorem blk0 (t : Fin cfg0.N) (r : Fin 1024) (k : Fin 1024) (p) (q) :
    @Eq EReal ((iblk m c 0 t : FVec Ideal S1x1024x1024 .f32) (ix3 0 r k)) ((m ((c.tc : Thread nD τ).loc main_arg0) : FVec Ideal S8x2048x1024 .f32) (ix3 ⟨t.val / 2, p⟩ ⟨t.val % 2 * 1024 + r.val, q⟩ k)) := by
  blk_ext [iblk, V, idx' t]

theorem blk1 (t : Fin cfg0.N) : iblk m c 1 t = (m ((c.tc : Thread nD τ).loc main_arg1) : FVec Ideal S8x6144 .f32) := by
  funext i
  idx_vars i
  blk_ext [iblk, V, idx' t]

theorem rd2 (t : Fin cfg0.N) (j : Fin 1024) : @Eq EReal (iblk m c 2 t (ix2 0 j)) ((m ((c.tc : Thread nD τ).loc main_arg2) : FVec Ideal S1x1024 .f32) (ix2 0 j)) := by
  blk_ext [iblk, V, idx' t]

theorem rd0 (t : Fin cfg0.N) (h : t.val % 2 = 1) (s : Fin 15) (k : Fin 1024) (p) :
    @Eq EReal (View.ld (iblk m c 0 t) (Rect.unit ![0, 768, 0] ![1, 256, 1024] inb_S1x1024x1024_S1x256x1024_0_768_0) (ix3 0 ⟨241 + s.val, by omega⟩ k))
      ((m ((c.tc : Thread nD τ).loc main_arg0) : FVec Ideal S8x2048x1024 .f32) (ix3 ⟨t.val / 2, p⟩ ⟨2033 + s.val, by omega⟩ k)) := by
  pointwise []
  refine (blk0 m c t _ _ p (by show t.val % 2 * 1024 + (768 + (241 + s.val)) < 2048; omega)).trans (congrArg (fun r => (m ((c.tc : Thread nD τ).loc main_arg0) : FVec Ideal S8x2048x1024 .f32) (ix3 _ r k)) (Fin.ext ?_))
  show t.val % 2 * 1024 + (768 + (241 + s.val)) = 2033 + s.val
  omega

/-- The modulation row a point reads is its prompt's. -/
theorem rd1 (t : Fin cfg0.N) (j : Fin 6144) (inb) (p) :
    @Eq EReal (View.ld (m ((c.tc : Thread nD τ).loc main_arg1) : FVec Ideal S8x6144 .f32) (Rect.unit (k0_off1 (grid0.coords t)) ![1, 6144] inb) (ix2 0 j)) ((m ((c.tc : Thread nD τ).loc main_arg1) : FVec Ideal S8x6144 .f32) (ix2 ⟨t.val / 2, p⟩ j)) := by
  have e := (idx' t).2.2.2
  generalize k0_off1 (grid0.coords t) = o at e inb
  subst e
  refine congrArg (m ((c.tc : Thread nD τ).loc main_arg1) : FVec Ideal S8x6144 .f32) ?_
  funext a
  match a with
  | 0 => exact Fin.ext (ValueKit.rect_emb_unit_val _ _ _ _ _)
  | 1 => exact Fin.ext ((ValueKit.rect_emb_unit_val _ _ _ _ _).trans (Nat.zero_add _))

theorem row1 (Z : FVec Ideal S1x6144 .f32) (o : ℕ) (ho : o + 1024 ≤ 6144) (hs) (j : Fin 1024) : @Eq EReal ((extractStridedSlice S1x1024 ![0, o] Z hs : FVec Ideal S1x1024 .f32) (ix2 0 j)) (Z (ix2 0 ⟨o + j.val, by omega⟩)) := by
  pointwise []

theorem out20 (t : Fin cfg0.N) (h : t.val % 2 = 1) (s : Fin 15) (k : Fin 512) : @Eq EReal ((outsAt0 m c t.val t.isLt).2.2.2.2.1 (ix3 0 s k))
    (pR (m ((c.tc : Thread nD τ).loc main_arg0)) (m ((c.tc : Thread nD τ).loc main_arg1)) (m ((c.tc : Thread nD τ).loc main_arg2)) (m ((c.tc : Thread nD τ).loc main_arg4)) ⟨t.val / 2, by have := tlt t; omega⟩ s k) := by
  have hp : (prev m c t).2.2.2.2.2.2.2.2.2.1 = WT m c := by
    obtain ⟨n, hn⟩ := t
    cases n with
    | zero => exact absurd h Nat.zero_ne_one
    | succ n => exact scr0 m c n _
  rw [outsAt0_B m c t h]; unfold outB RB
  frame_out
  rw [read_unread_whole, hp, pay12, pay176]
  unfold pR
  refine @Finset.sum_congr (Fin 1024) EReal _ _ _ _ _ rfl fun j _ => ?_
  rw [pay170]
  unfold hR
  have p : t.val / 2 < 8 := by have := tlt t; omega
  have e0 : (fun k => View.ld (iblk m c 0 t) (Rect.unit ![0, 768, 0] ![1, 256, 1024] inb_S1x1024x1024_S1x256x1024_0_768_0) (ix3 0 ⟨241 + s.val, by omega⟩ k)) = fun k => (m ((c.tc : Thread nD τ).loc main_arg0) : FVec Ideal S8x2048x1024 .f32) (ix3 ⟨t.val / 2, p⟩ ⟨2033 + s.val, by omega⟩ k) :=
    funext fun k => rd0 m c t h s k p
  rw [e0, rd2, blk1, row1 _ 1024 (by decide), row1 _ 0 (by decide), rd1 m c t _ _ p, rd1 m c t _ _ p]
  simp only [Nat.zero_add]
  refine congrArg₂ (fun a b : EReal => a * b) rfl (congrArg (fun r => (m ((c.tc : Thread nD τ).loc main_arg4) : FVec Ideal S2568x1024 .f32) (ix2 r j)) (Fin.ext ?_))
  show (if 1536 + k.val < 512 then 1536 + k.val else if 1536 + k.val < 1536 then 1536 + k.val + 512 else 1536 + k.val + 520) = 2056 + k.val
  split_ifs <;> omega

/-- The pooling rows. -/
def P1 : FVec Ideal S8x15x512 .f32 := fun i =>
  pR (m ((c.tc : Thread nD τ).loc main_arg0)) (m ((c.tc : Thread nD τ).loc main_arg1)) (m ((c.tc : Thread nD τ).loc main_arg2)) (m ((c.tc : Thread nD τ).loc main_arg4)) (i 0) (i 1) (i 2)

theorem odd20 : ∀ t : Fin cfg0.N, (win0 20).flush t = true → t.val % 2 = 1 := by decide +kernel

theorem final20 : (dats m 0 c).arrAt 20 cfg0.N = P1 m c := by
  refine (dats m 0 c).arrAt_eq_of_covers 20 _ (by decide +kernel) fun t hf y => ?_
  have ht := tlt t
  have ho := odd20 t hf
  idx_vars y
  obtain rfl : y0 = 0 := Subsingleton.elim _ _
  blk_simp [idx t]
  rw [after0_20, out20 m c t ho]
  have e : (win0_20.blk t).view.emb (ix3 0 y1 y2) = ix3 ⟨t.val / 2, by omega⟩ y1 y2 := by
    blk_ext [idx t]
  rw [e]
  rfl

end Cert.MixIdeal.Hand
end
-- ==== Proof.Mix.Ref.lean ====
/- The value of the prompt-mixing reference's sample part, element by element. -/
module
public import proofs.«01_k».proof.Proof.Mix.Spec
public import proofs.«01_k».proof.Proof.Mix.PoolSpec
public import proofs.«01_k».proof.Proof.Lib.Win
public import proofs.«01_k».proof.Proof.Gen.MixReferenceIdeal.Run
public import Idealize.ShloMosaic.Lib.Tactic.CleanTypes
public import Idealize.ShloMosaic.Lib.Pointwise

@[expose] public section

set_option maxRecDepth 16384

noncomputable section

namespace Cert.MixRef

open Cert.MixReferenceIdeal Cert.MixReferenceIdeal.Gen Cert.MixReferenceIdeal.Value Cert.SmixSpec Cert.MixSpec Idealize.ShloMosaic Idealize.ShloMosaic.TcCoe Idealize.SL.Sem

variable (m : (ℓ : Loc nD τ sig) → Buf (Elt Ideal) ℓ) (c : Dev nD)

theorem scan1 (L : FVec Ideal S128x4x1 .f32) (b : Fin 128) (h : Fin 4) :
    @Eq EReal (Host.reduceWindowAdd ![1, 1, 1] ![1, 1, 1] ![0, 0, 0] ![0, 0, 0] L (broadcastInDim S_ ![] bcast_S_S_ (constant (F := Ideal) S_ .f32 0x00000000#32)) reduceWindows_S128x4x1_S128x4x1_w1s1p0_0_w1s1p0_0_w1s1p0_0 h_S_ (ix3 b h 0)) (L (ix3 b h 0)) := by
  rw [Cert.Win.cumsum2 (N := 1) _ rfl]
  · simp only [Fin.val_zero, Nat.zero_add, Finset.sum_range_one, Nat.lt_one_iff, dite_true]
    rfl
  · pointwise []

theorem scanA (L : FVec Ideal S128x4x1 .f32) :
    Host.reduceWindowAdd ![1, 1, 1] ![1, 1, 1] ![0, 0, 0] ![0, 0, 0] L (broadcastInDim S_ ![] bcast_S_S_ (constant (F := Ideal) S_ .f32 0x00000000#32)) reduceWindows_S128x4x1_S128x4x1_w1s1p0_0_w1s1p0_0_w1s1p0_0 h_S_ = L := by
  funext i
  idx_vars i
  obtain rfl : i2 = 0 := Subsingleton.elim _ _
  exact scan1 L _ _

theorem lfN (f : EReal) : (-if -f ≠ -f then -f else max (-f) 0 + Ideal.log1p (Ideal.exp (-FloatOps.absf (F := Ideal) (φ := .f32) (-f)))) = lf f := by
  unfold lf
  rw [if_neg (by simp), zero_sub, zero_sub, zero_sub]

theorem fold1 (f : Fin 1 → EReal) : Finset.fold max (Ideal.ofBits FTy.f32 4286578688#32) f Finset.univ = f 0 := by
  have e : Ideal.ofBits FTy.f32 4286578688#32 = ⊥ := by simp [Ideal.ofBits, Ideal.ieee]
  rw [e, Finset.univ_unique, Fin.default_eq_zero, Finset.fold_singleton, max_bot_right]

/-- The new memories, of finite forget gates. -/
theorem v95 (H : ∀ (b : Fin 128) (h : Fin 4), ∃ r : ℝ, fR (m ((c.tc : Thread nD τ).loc main_arg13)) (m ((c.tc : Thread nD τ).loc main_arg6)) b h = r) (i : Fin 65536) (j : Fin 128) : @Eq EReal (res_main_v95 m c (ix2 i j))
    (cR (m ((c.tc : Thread nD τ).loc main_arg13)) (m ((c.tc : Thread nD τ).loc main_arg14)) (m ((c.tc : Thread nD τ).loc main_arg5)) (m ((c.tc : Thread nD τ).loc main_arg6)) ⟨i.val / 512, by omega⟩ ⟨i.val / 128 % 4, Nat.mod_lt _ (by decide)⟩ ⟨i.val % 128, Nat.mod_lt _ (by decide)⟩ j ((m ((c.tc : Thread nD τ).loc main_arg15) : FVec Ideal S65536x128 .f32) (ix2 i j))) := by
  obtain ⟨r, hr⟩ := lf_fin _ (H ⟨i.val / 512, by omega⟩ ⟨i.val / 128 % 4, Nat.mod_lt _ (by decide)⟩)
  unfold cR wR aR wG aG mG
  unfold iR
  rw [hr]
  unfold fR at hr
  unfold res_main_v95
  clean_types
  rw [scanA]
  pointwise []
  simp only [lfN]
  simp only [fold1, hr]
  simp only [← EReal.coe_sub, sub_self, EReal.coe_zero, zero_add, Finset.univ_unique, Finset.sum_singleton, Nat.add_assoc]
  exact congrArg₂ (fun a b : EReal => a + b) rfl (congrArg (fun a : EReal => a * _) (mul_comm _ _))

/-- What the queries read. -/
theorem v97 (i : Fin 128) (j : Fin 512) : @Eq EReal ((shapeCast _ (transpose S128x1x4x128 [0, 2, 1, 3] (Host.dotGeneral (φ₁ := .f32) (φ₂ := .f32) dot_S128x4x1x128_S128x4x128x128_S128x4x1x128_3_2_2_3_01_01 none (transpose S128x4x1x128 [0, 2, 1, 3] (shapeCast _ (extractStridedSlice S128x1x512 ![0, 0, 0] (broadcastInDim S128x1x2568 ![0, 2] bcast_S128x2568_S128x1x2568_0_2 (m ((c.tc : Thread nD τ).loc main_arg13))) slices_S128x1x2568_S128x1x512_0_0_0) shapeCasts_S128x1x512_S128x1x4x128) transposes_S128x1x4x128_S128x4x1x128_0_2_1_3) (shapeCast _ (m ((c.tc : Thread nD τ).loc main_arg15)) shapeCasts_S65536x128_S128x4x128x128)) transposes_S128x4x1x128_S128x1x4x128_0_2_1_3) shapeCasts_S128x1x4x128_S128x512 : FVec Ideal S128x512 .f32) (ix2 i j))
    (qR (m ((c.tc : Thread nD τ).loc main_arg13)) (fun d => ((m ((c.tc : Thread nD τ).loc main_arg15)) : FVec Ideal S65536x128 .f32) (ix2 ⟨i.val * 512 + j.val / 128 * 128 + d.val, by omega⟩ ⟨j.val % 128, Nat.mod_lt _ (by decide)⟩)) i ⟨j.val / 128, by omega⟩) := by
  unfold qR
  clean_types
  pointwise []

theorem v92 (i : Fin 1024) (j : Fin 4096) : @Eq EReal ((truncf .bf16 (shapeCast _ (m ((c.tc : Thread nD τ).loc main_arg11)) shapeCasts_S1x1024x4096_S1024x4096) bitsLt_bf16_f32 : FVec Ideal S1024x4096 .bf16) (ix2 i j)) (((m ((c.tc : Thread nD τ).loc main_arg11)) : FVec Ideal S1x1024x4096 .f32) (ix3 0 i j)) := by
  clean_types
  pointwise []

theorem v94 (i : Fin 4096) (j : Fin 1024) : @Eq EReal ((truncf .bf16 (shapeCast _ (m ((c.tc : Thread nD τ).loc main_arg12)) shapeCasts_S1x4096x1024_S4096x1024) bitsLt_bf16_f32 : FVec Ideal S4096x1024 .bf16) (ix2 i j)) (((m ((c.tc : Thread nD τ).loc main_arg12)) : FVec Ideal S1x4096x1024 .f32) (ix3 0 i j)) := by
  clean_types
  pointwise []

/-- The pooling rows. -/
theorem v90 (b : Fin 8) (s : Fin 15) (k : Fin 512) : @Eq EReal ((extractStridedSlice S8x15x512 ![0, 2048, 0] (concatenate S8x2063x512 1 [⟨S8x15x512, (broadcastInDim S8x15x512 ![] bcast_S_S8x15x512 (constant S_ .f32 0x00000000#32))⟩, ⟨S8x2048x512, (extractStridedSlice S8x2048x512 ![0, 0, 2056] (Host.dotGeneral (φ₁ := .f32) (φ₂ := .f32) dot_S8x2048x1024_S1024x2568_S8x2048x2568_2_0_01_1_n_n none (addf (mulf (mulf (mulf (m ((c.tc : Thread nD τ).loc main_arg0)) (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf (m ((c.tc : Thread nD τ).loc main_arg0)) (m ((c.tc : Thread nD τ).loc main_arg0))) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ (m ((c.tc : Thread nD τ).loc main_arg2)) shapeCasts_S1x1024_S1024)))) (broadcastInDim S8x2048x1024 ![0, 1, 2] bcast_S8x1x1024_S8x2048x1024_0_1_2 (addf (broadcastInDim S8x1x1024 ![] bcast_S_S8x1x1024 (constant S_ .f32 0x3F800000#32)) (extractStridedSlice S8x1x1024 ![0, 0, 1024] (broadcastInDim S8x1x6144 ![0, 2] bcast_S8x6144_S8x1x6144_0_2 (m ((c.tc : Thread nD τ).loc main_arg1))) slices_S8x1x6144_S8x1x1024_0_0_1024)))) (broadcastInDim S8x2048x1024 ![0, 1, 2] bcast_S8x1x1024_S8x2048x1024_0_1_2 (extractStridedSlice S8x1x1024 ![0, 0, 0] (broadcastInDim S8x1x6144 ![0, 2] bcast_S8x6144_S8x1x6144_0_2 (m ((c.tc : Thread nD τ).loc main_arg1))) slices_S8x1x6144_S8x1x1024_0_0_0))) (transpose S1024x2568 [1, 0] (m ((c.tc : Thread nD τ).loc main_arg4)) transposes_S2568x1024_S1024x2568_1_0)) slices_S8x2048x2568_S8x2048x512_0_0_2056)⟩] concatenates_S8x15x512_S8x2048x512_S8x2063x512_d1) slices_S8x2063x512_S8x15x512_0_2048_0 : FVec Ideal S8x15x512 .f32) (ix3 b s k)) (pR (m ((c.tc : Thread nD τ).loc main_arg0)) (m ((c.tc : Thread nD τ).loc main_arg1)) (m ((c.tc : Thread nD τ).loc main_arg2)) (m ((c.tc : Thread nD τ).loc main_arg4)) b s k) := by
  clean_types
  pointwise []
  have hs := s.isLt
  rw [dif_neg (by omega)]
  unfold pR hR hE
  have e : (⟨2048 + s.val - 15, by omega⟩ : Fin 2048) = ⟨2033 + s.val, by omega⟩ := Fin.ext (by show 2048 + s.val - 15 = 2033 + s.val; omega)
  simp only [e]

end Cert.MixRef
end
-- ==== Proof.Mix.Pre.lean ====
/- What the prompt-mixing kernel's precondition says, index by index. -/
module
public import proofs.«01_k».proof.Pre_gates_finite
public import proofs.«01_k».proof.Proof.Mix.Spec
public import proofs.«01_k».proof.Proof.Smix.Pre
public import proofs.«01_k».proof.On_mix_claimed
public import Idealize.ShloMosaic.Lib.ReduceAll
public import Idealize.ShloMosaic.Lib.Tactic
public import Idealize.ShloMosaic.Lib.Pointwise

@[expose] public section

set_option maxRecDepth 16384

noncomputable section

namespace Cert.Pre_gates_finite

open Idealize.ShloMosaic Cert.SmixSpec Cert.MixSpec

instance facts : Facts where
  slices_S128x2568_S128x4_0_2052 := by decide
  bcast_S_S128x4 := by decide
  reducesTo_S128x4_S_d0_1 := by decide
  h_S_ := by decide
  bcast_S_S1x4 := by decide
  reducesTo_S1x4_S_d0_1 := by decide

/-- The forget gates are real numbers. -/
theorem of_fn (a0 : FVec Ideal S8x2048x1024 .f32) (a1 : FVec Ideal S8x6144 .f32) (a2 : FVec Ideal S1x1024 .f32) (a3 : FVec Ideal S1x1024 .f32) (a4 : FVec Ideal S2568x1024 .f32) (a5 : FVec Ideal S1x4 .f32) (a6 : FVec Ideal S1x4 .f32) (a7 : FVec Ideal S1x128 .f32) (a8 : FVec Ideal S4x128x128 .f32) (a9 : FVec Ideal S1x512 .f32) (a10 : FVec Ideal S1x1024x1024 .f32) (a11 : FVec Ideal S1x1024x4096 .f32) (a12 : FVec Ideal S1x4096x1024 .f32) (a13 : FVec Ideal S128x2568 .f32) (a14 : FVec Ideal S128x4 .f32) (a15 : FVec Ideal S65536x128 .f32)
    (h : fn (F := Ideal) a0 a1 a2 a3 a4 a5 a6 a7 a8 a9 a10 a11 a12 a13 a14 a15 = fun _ => 1#1) : ∀ (b : Fin 128) (g : Fin 4), ∃ r : ℝ, fR a13 a6 b g = r := by
  obtain ⟨h1, h2⟩ := Cert.Pre_sample_finite.both _ _ (congrFun h ix0)
  have : Subsingleton S_.Idx := ⟨fun x y => funext fun a => a.elim0⟩
  intro b g
  have z1 : ∃ r : ℝ, a13 (ix2 b ⟨2052 + g.val, by omega⟩) = (r : EReal) := by
    have q := Host.reduce_andi_all _ _ _ _ _ h1 (ix2 b g)
    refine Cert.Pre_sample_finite.real_of_abs _ (Eq.trans ?_ q)
    pointwise []
    rfl
  obtain ⟨r, hr⟩ := z1
  obtain ⟨r', hr'⟩ : ∃ r : ℝ, a6 (ix2 0 g) = (r : EReal) := Cert.Pre_sample_finite.real_of_abs _ (Host.reduce_andi_all _ _ _ _ _ h2 (ix2 0 g))
  refine ⟨r + r', ?_⟩
  unfold fR
  rw [hr, hr']
  rfl

end Cert.Pre_gates_finite

namespace Cert.On_mix_claimed

instance facts : Facts where
  bcast_S_S16384x1024 := by decide
  bcast_S_S8x4x128x128 := by decide
  bcast_S_S8x4x128 := by decide
  bcast_S_S8x4x1x1 := by decide
  bcast_S_S8x15x512 := by decide
  bcast_S_S1024x4096 := by decide
  bcast_S_S4096x1024 := by decide
  bcast_S_S65536x128 := by decide
  bcast_S_S128x512 := by decide

end Cert.On_mix_claimed
end
-- ==== Proof.Mix.Claim.lean ====
/- The prompt-mixing kernel and its reference leave the same arrays where the claim says. -/
module
public import proofs.«01_k».proof.Defs
public import proofs.«01_k».proof.Proof.Mix.Frame
public import proofs.«01_k».proof.Proof.Mix.Pool
public import proofs.«01_k».proof.Proof.Mix.Ref
public import proofs.«01_k».proof.Proof.Mix.Pre

@[expose] public section

set_option maxRecDepth 16384

noncomputable section

namespace Cert.MixClaim

open Idealize.ShloMosaic Idealize.ShloMosaic.TcCoe Idealize.SL.Sem Cert.SmixSpec Cert.MixSpec

/-- Nothing is claimed where the mask is not set. -/
theorem off {p : Prop} (h : (0#1 : BitVec 1) = 1#1) : p := absurd h (by decide)

theorem algebraic : Cert.algebraic_MixIdeal_MixReferenceIdeal_on_mix_claimed_pre_gates_finite := by
  intro m g m' g' hpre hag
  refine ⟨fun c => m _, fun c => m _, fun c => m _, fun c => m _, fun c => Cert.MixIdeal.Hand.P1 m c, fun c => Cert.MixIdeal.Hand.WU m c, fun c => Cert.MixIdeal.Hand.WD m c, fun c => Cert.MixIdeal.Hand.C1 m c, fun c => Cert.MixIdeal.Hand.Q1 m c, ?_, ?_⟩
  · exact (θ_run Cert.MixIdeal.defs _ _).mono (fun r h c => ⟨fun i hi => off hi, fun i hi => off hi, fun i hi => off hi, fun i hi => off hi,
      fun i _ => congrFun (((h.1 c).1 20).trans (Cert.MixIdeal.Hand.final20 m c)) i,
      fun i _ => congrFun (((h.1 c).1 21).trans (Cert.MixIdeal.Hand.final21 m c)) i,
      fun i _ => congrFun (((h.1 c).1 22).trans (Cert.MixIdeal.Hand.final22 m c)) i,
      fun i _ => congrFun (((h.1 c).1 23).trans (Cert.MixIdeal.Hand.final23 m c)) i,
      fun i _ => congrFun (((h.1 c).1 24).trans (Cert.MixIdeal.Hand.final24 m c)) i,
      Cert.MixIdeal.Hand.kept m r h.1 c⟩) (Cert.MixIdeal.Hand.run_main_quiescent m g)
  · refine (θ_run Cert.MixReferenceIdeal.defs _ _).mono (fun r h c => ?_) (Cert.MixReferenceIdeal.Value.run (F := Ideal) m' g')
    have h90 := (h c).2.2.2.2.1
    have h92 := (h c).2.2.2.2.2.1
    have h94 := (h c).2.2.2.2.2.2.1
    have h95 := (h c).2.2.2.2.2.2.2.1
    have h97 := (h c).2.2.2.2.2.2.2.2.1
    have a0 := (hag c).1
    have a1 := (hag c).2.1
    have a2 := (hag c).2.2.1
    have a4 := (hag c).2.2.2.2.1
    have a5 := (hag c).2.2.2.2.2.1
    have a6 := (hag c).2.2.2.2.2.2.1
    have a11 := (hag c).2.2.2.2.2.2.2.2.2.2.2.1
    have a12 := (hag c).2.2.2.2.2.2.2.2.2.2.2.2.1
    have a13 := (hag c).2.2.2.2.2.2.2.2.2.2.2.2.2.1
    have a14 := (hag c).2.2.2.2.2.2.2.2.2.2.2.2.2.2.1
    have a15 := (hag c).2.2.2.2.2.2.2.2.2.2.2.2.2.2.2
    have H : ∀ (b : Fin 128) (h : Fin 4), ∃ r : ℝ, fR (m' ((c.tc : Thread Cert.MixReferenceIdeal.nD Cert.MixReferenceIdeal.τ).loc Cert.MixReferenceIdeal.main_arg13)) (m' ((c.tc : Thread Cert.MixReferenceIdeal.nD Cert.MixReferenceIdeal.τ).loc Cert.MixReferenceIdeal.main_arg6)) b h = r := by
      rw [a13, a6]
      exact Cert.Pre_gates_finite.of_fn _ _ _ _ _ _ _ _ _ _ _ _ _ _ _ _ (hpre c)
    refine ⟨fun i hi => off hi, fun i hi => off hi, fun i hi => off hi, fun i hi => off hi, ?_, ?_, ?_, ?_, ?_, (h c).2.2.2.2.2.2.2.2.2⟩
    · intro i _
      refine (congrFun h90 i).trans ?_
      idx_vars i
      refine (Cert.MixRef.v90 m' c i0 i1 i2).trans ?_
      rw [a0, a1, a2, a4]
      rfl
    · intro i _
      refine (congrFun h92 i).trans ?_
      idx_vars i
      refine (Cert.MixRef.v92 m' c i0 i1).trans ?_
      rw [a11]
      rfl
    · intro i _
      refine (congrFun h94 i).trans ?_
      idx_vars i
      refine (Cert.MixRef.v94 m' c i0 i1).trans ?_
      rw [a12]
      rfl
    · intro i _
      refine (congrFun h95 i).trans ?_
      idx_vars i
      refine (Cert.MixRef.v95 m' c H i0 i1).trans ?_
      rw [a13, a14, a5, a6, a15]
      rfl
    · intro i _
      refine (congrFun h97 i).trans ?_
      idx_vars i
      refine (Cert.MixRef.v97 m' c i0 i1).trans ?_
      rw [a13, a15]
      rfl

end Cert.MixClaim
end
-- ==== Proof.lean ====
module

public import proofs.«01_k».proof.Defs
public import proofs.«01_k».proof.Proof.MlpBits.Frame
public import proofs.«01_k».proof.Proof.Mlp.Claim
public import proofs.«01_k».proof.Proof.Smix.Claim
public import proofs.«01_k».proof.Proof.MixBits.Frame
public import proofs.«01_k».proof.Proof.Mix.Claim
public import proofs.«01_k».proof.Proof.Gen.MixReferenceIdeal.Run
public import proofs.«01_k».proof.Proof.Gen.MlpReferenceIdeal.Run
public import proofs.«01_k».proof.Proof.Gen.Smix.Frame
public import proofs.«01_k».proof.Proof.Gen.SmixIdeal.Value
public import proofs.«01_k».proof.Proof.Gen.SmixReferenceIdeal.Run
public import Idealize.ShloMosaic.Adequacy
public import Idealize.ShloMosaic.Init

@[expose] public section

noncomputable section

namespace Cert.Proof

open Idealize.ShloMosaic Idealize.SL.Sem

theorem frame_mlp_ref : Cert.quiescent_MlpReferenceIdeal := fun m ρ _ =>
  (θ_run Cert.MlpReferenceIdeal.defs _ _).mono (fun r h => ⟨fun c => (h c).2.2, sem_eq_zero_of_no_sems (by decide) r.2⟩)
    (Cert.MlpReferenceIdeal.Value.run (F := Ideal) m ρ)

theorem frame_smix_ref : Cert.quiescent_SmixReferenceIdeal := fun m ρ _ =>
  (θ_run Cert.SmixReferenceIdeal.defs _ _).mono (fun r h => ⟨fun c => (h c).2.2.2.2, sem_eq_zero_of_no_sems (by decide) r.2⟩)
    (Cert.SmixReferenceIdeal.Value.run (F := Ideal) m ρ)

theorem frame_smix_ref_pre : Cert.quiescent_SmixReferenceIdeal_pre_sample_finite := fun m ρ _ =>
  (θ_run Cert.SmixReferenceIdeal.defs _ _).mono (fun r h => ⟨fun c => (h c).2.2.2.2, sem_eq_zero_of_no_sems (by decide) r.2⟩)
    (Cert.SmixReferenceIdeal.Value.run (F := Ideal) m ρ)

theorem frame_mix_ref : Cert.quiescent_MixReferenceIdeal := fun m ρ _ =>
  (θ_run Cert.MixReferenceIdeal.defs _ _).mono (fun r h => ⟨fun c => (h c).2.2.2.2.2.2.2.2.2, sem_eq_zero_of_no_sems (by decide) r.2⟩)
    (Cert.MixReferenceIdeal.Value.run (F := Ideal) m ρ)

theorem frame_mix_ref_pre : Cert.quiescent_MixReferenceIdeal_pre_gates_finite := fun m ρ _ =>
  (θ_run Cert.MixReferenceIdeal.defs _ _).mono (fun r h => ⟨fun c => (h c).2.2.2.2.2.2.2.2.2, sem_eq_zero_of_no_sems (by decide) r.2⟩)
    (Cert.MixReferenceIdeal.Value.run (F := Ideal) m ρ)

/-- The claims together. -/
theorem claim : Cert.Claim := ⟨Cert.Mlp.Gen.facts, Cert.MlpIdeal.Gen.facts, Cert.MlpReferenceIdeal.Gen.facts,
  Cert.Smix.Gen.facts, Cert.SmixIdeal.Gen.facts, Cert.SmixReferenceIdeal.Gen.facts,
  Cert.Mix.Gen.facts, Cert.MixIdeal.Gen.facts, Cert.MixReferenceIdeal.Gen.facts,
  Cert.Pre_sample_finite.facts, Cert.Pre_gates_finite.facts, Cert.On_mix_claimed.facts,
  fun m ρ _ => Cert.Mlp.Hand.frame m ρ, fun m ρ _ => Cert.MlpIdeal.Hand.frame m ρ, frame_mlp_ref,
  fun m ρ _ => Cert.Smix.Gen.frame m ρ, fun m ρ _ => Cert.SmixIdeal.Gen.frame m ρ, fun m ρ _ => Cert.SmixIdeal.Gen.frame m ρ,
  frame_smix_ref, frame_smix_ref_pre,
  fun m ρ _ => Cert.Mix.Hand.frame m ρ, fun m ρ _ => Cert.MixIdeal.Hand.frame m ρ, fun m ρ _ => Cert.MixIdeal.Hand.frame m ρ,
  frame_mix_ref, frame_mix_ref_pre,
  trivial, Cert.MlpClaim.algebraic, trivial, Cert.SmixClaim.algebraic, trivial, Cert.MixClaim.algebraic⟩

end Cert.Proof

end
